-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_d_model" .f32 0x39124925#32 ((1 / 7168 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v31)) (v5 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_v32) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_v30) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x18432 : Shape := ⟨3, ![2, 8192, 18432]⟩
abbrev S1 : Shape := ⟨1, ![1]⟩
abbrev S18432x7168 : Shape := ⟨2, ![18432, 7168]⟩
abbrev S2x8192x7168 : Shape := ⟨3, ![2, 8192, 7168]⟩
abbrev S7168 : Shape := ⟨1, ![7168]⟩
abbrev S7168x9216 : Shape := ⟨2, ![7168, 9216]⟩
abbrev S2x8192 : Shape := ⟨2, ![2, 8192]⟩
abbrev S16384x18432 : Shape := ⟨2, ![16384, 18432]⟩
abbrev S16384x7168 : Shape := ⟨2, ![16384, 7168]⟩
abbrev S16384x128 : Shape := ⟨2, ![16384, 128]⟩
abbrev S512x18432 : Shape := ⟨2, ![512, 18432]⟩
abbrev S18432x512 : Shape := ⟨2, ![18432, 512]⟩
abbrev S512x512 : Shape := ⟨2, ![512, 512]⟩
abbrev S512x128 : Shape := ⟨2, ![512, 128]⟩
abbrev S2 : Shape := ⟨1, ![2]⟩
abbrev S64 : Shape := ⟨1, ![64]⟩
abbrev S_ : Shape := ⟨0, ![]⟩
abbrev S128 : Shape := ⟨1, ![128]⟩
abbrev S1x128 : Shape := ⟨2, ![1, 128]⟩
abbrev S1x7168 : Shape := ⟨2, ![1, 7168]⟩
abbrev S32x4x128 : Shape := ⟨3, ![32, 4, 128]⟩
abbrev S16384x1024 : Shape := ⟨2, ![16384, 1024]⟩
abbrev S512x7168 : Shape := ⟨2, ![512, 7168]⟩
abbrev S1x4x128 : Shape := ⟨3, ![1, 4, 128]⟩
abbrev S7168x512 : Shape := ⟨2, ![7168, 512]⟩
abbrev S512 : Shape := ⟨1, ![512]⟩
abbrev S512x1 : Shape := ⟨2, ![512, 1]⟩
abbrev S128x128 : Shape := ⟨2, ![128, 128]⟩
abbrev S1x1x128 : Shape := ⟨3, ![1, 1, 128]⟩
abbrev S2x8192x56x128 : Shape := ⟨4, ![2, 8192, 56, 128]⟩
abbrev S2x8192x8x128 : Shape := ⟨4, ![2, 8192, 8, 128]⟩

abbrev nBuf : Space → Nat
  | .hbm => 55
  | .vmem => 33
  | .smem => 2
  | _ => 0

abbrev bufTy : (tb : Table) → Fin (tcTables nBuf tb) → BufTy
  | .hbm, ⟨0, _⟩ => ⟨S2x8192x18432, .fp8e4m3⟩
  | .hbm, ⟨1, _⟩ => ⟨S1, .f32⟩
  | .hbm, ⟨2, _⟩ => ⟨S18432x7168, .fp8e4m3⟩
  | .hbm, ⟨3, _⟩ => ⟨S1, .f32⟩
  | .hbm, ⟨4, _⟩ => ⟨S2x8192x7168, .bf16⟩
  | .hbm, ⟨5, _⟩ => ⟨S7168, .f32⟩
  | .hbm, ⟨6, _⟩ => ⟨S1, .f32⟩
  | .hbm, ⟨7, _⟩ => ⟨S7168x9216, .fp8e4m3⟩
  | .hbm, ⟨8, _⟩ => ⟨S1, .f32⟩
  | .hbm, ⟨9, _⟩ => ⟨S2x8192, .i32⟩
  | .hbm, ⟨10, _⟩ => ⟨S1, .f32⟩
  | .hbm, ⟨11, _⟩ => ⟨S16384x18432, .fp8e4m3⟩
  | .hbm, ⟨12, _⟩ => ⟨S16384x7168, .bf16⟩
  | .hbm, ⟨13, _⟩ => ⟨S16384x7168, .bf16⟩
  | .hbm, ⟨14, _⟩ => ⟨S16384x128, .f32⟩
  | .hbm, ⟨15, _⟩ => ⟨S1, .f32⟩
  | .hbm, ⟨16, _⟩ => ⟨S2, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S128, .f32⟩
  | .hbm, ⟨34, _⟩ => ⟨S1x128, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S128, .f32⟩
  | .hbm, ⟨41, _⟩ => ⟨S1x128, .f32⟩
  | .hbm, ⟨42, _⟩ => ⟨S1x7168, .f32⟩
  | .hbm, ⟨43, _⟩ => ⟨S32x4x128, .i32⟩
  | .hbm, ⟨44, _⟩ => ⟨S16384x7168, .bf16⟩
  | .hbm, ⟨45, _⟩ => ⟨S16384x1024, .bf16⟩
  | .hbm, ⟨46, _⟩ => ⟨S16384x1024, .bf16⟩
  | .hbm, ⟨47, _⟩ => ⟨S16384x7168, .fp8e4m3⟩
  | .hbm, ⟨48, _⟩ => ⟨S32x4x128, .f32⟩
  | .hbm, ⟨49, _⟩ => ⟨S2x8192x7168, .bf16⟩
  | .hbm, ⟨50, _⟩ => ⟨S2x8192x56x128, .bf16⟩
  | .hbm, ⟨51, _⟩ => ⟨S2x8192x8x128, .bf16⟩
  | .hbm, ⟨52, _⟩ => ⟨S2x8192x8x128, .bf16⟩
  | .hbm, ⟨53, _⟩ => ⟨S2x8192x7168, .fp8e4m3⟩
  | .hbm, ⟨54, _⟩ => ⟨S2x8192, .f32⟩
  | .local _ .vmem, ⟨0, _⟩ => ⟨S512x18432, .fp8e4m3⟩
  | .local _ .vmem, ⟨1, _⟩ => ⟨S512x18432, .fp8e4m3⟩
  | .local _ .vmem, ⟨2, _⟩ => ⟨S18432x512, .fp8e4m3⟩
  | .local _ .vmem, ⟨3, _⟩ => ⟨S18432x512, .fp8e4m3⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S512x7168, .bf16⟩
  | .local _ .vmem, ⟨11, _⟩ => ⟨S512x7168, .bf16⟩
  | .local _ .vmem, ⟨12, _⟩ => ⟨S512x128, .f32⟩
  | .local _ .vmem, ⟨13, _⟩ => ⟨S512x128, .f32⟩
  | .local _ .vmem, ⟨14, _⟩ => ⟨S1x7168, .f32⟩
  | .local _ .vmem, ⟨15, _⟩ => ⟨S1x4x128, .i32⟩
  | .local _ .vmem, ⟨16, _⟩ => ⟨S1x4x128, .i32⟩
  | .local _ .vmem, ⟨17, _⟩ => ⟨S1x128, .f32⟩
  | .local _ .vmem, ⟨18, _⟩ => ⟨S1x128, .f32⟩
  | .local _ .vmem, ⟨19, _⟩ => ⟨S7168x512, .fp8e4m3⟩
  | .local _ .vmem, ⟨20, _⟩ => ⟨S7168x512, .fp8e4m3⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x7168, .fp8e4m3⟩
  | .local _ .vmem, ⟨28, _⟩ => ⟨S512x7168, .fp8e4m3⟩
  | .local _ .vmem, ⟨29, _⟩ => ⟨S1x4x128, .f32⟩
  | .local _ .vmem, ⟨30, _⟩ => ⟨S1x4x128, .f32⟩
  | .local _ .vmem, ⟨31, _⟩ => ⟨S512x128, .f32⟩
  | .local _ .vmem, ⟨32, _⟩ => ⟨S512x128, .f32⟩
  | .local _ .smem, ⟨0, _⟩ => ⟨S1, .f32⟩
  | .local _ .smem, ⟨1, _⟩ => ⟨S2, .f32⟩
  | _, _ => ⟨S2x8192x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev main_v26_3 : Ref sig .tc := ⟨.hbm, 47, rfl⟩
abbrev main_v26_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc1_scratch0 : Ref sig .tc := ⟨.vmem, 31, rfl⟩
abbrev cc1_scratch1 : Ref sig .tc := ⟨.vmem, 32, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc1_sem11_0 : DmaSem sig := 29
abbrev cc1_sem11_1 : DmaSem sig := 30
abbrev cc1_sem12_0 : DmaSem sig := 31
abbrev cc1_sem12_1 : DmaSem sig := 32

abbrev nD : Nat := 1
abbrev τ : Topo := Topo.v7x

variable {F : FTy → Type} [FloatOps F]

abbrev grid0 : Pipeline.Grid := ⟨2, ![32, 14], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_8 : BitVec 32 := 0#32
  let v24 : BitVec 1 := Scalar.cmpi .ne v23 c0_i32_8
  v24

def k0_cond2 (i : grid0.Coords) : BitVec 1 :=
  let arg1 : BitVec 32 := BitVec.ofNat 32 (i 1).val
  let c0_i32_9 : BitVec 32 := 0#32
  let v25 : BitVec 1 := Scalar.cmpi .ne arg1 c0_i32_9
  let v26 : BitVec 32 := Scalar.extui v25
  let c0_i32_10 : BitVec 32 := 0#32
  let v27 : BitVec 1 := Scalar.cmpi .ne v26 c0_i32_10
  v27

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x18432 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S18432x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![32, 18], ![false, false]⟩

def k1_cond2 (i : grid1.Coords) : BitVec 1 :=
  let arg1 : BitVec 32 := BitVec.ofNat 32 (i 1).val
  let c14_i32 : BitVec 32 := 14#32
  let v11 : BitVec 1 := Scalar.cmpi .slt arg1 c14_i32
  let v12 : BitVec 32 := Scalar.extui v11
  let c0_i32_5 : BitVec 32 := 0#32
  let v13 : BitVec 1 := Scalar.cmpi .ne v12 c0_i32_5
  v13

def k1_cond3 (i : grid1.Coords) : BitVec 1 :=
  let arg1 : BitVec 32 := BitVec.ofNat 32 (i 1).val
  let c14_i32_6 : BitVec 32 := 14#32
  let v14 : BitVec 1 := Scalar.cmpi .sge arg1 c14_i32_6
  let c16_i32 : BitVec 32 := 16#32
  let v15 : BitVec 1 := Scalar.cmpi .slt arg1 c16_i32
  let v16 : BitVec 1 := Scalar.andi v14 v15
  let v17 : BitVec 32 := Scalar.extui v16
  let c0_i32_7 : BitVec 32 := 0#32
  let v18 : BitVec 1 := Scalar.cmpi .ne v17 c0_i32_7
  v18

def k1_cond4 (i : grid1.Coords) : BitVec 1 :=
  let arg1 : BitVec 32 := BitVec.ofNat 32 (i 1).val
  let c16_i32_8 : BitVec 32 := 16#32
  let v19 : BitVec 1 := Scalar.cmpi .sge arg1 c16_i32_8
  let v20 : BitVec 32 := Scalar.extui v19
  let c0_i32_9 : BitVec 32 := 0#32
  let v21 : BitVec 1 := Scalar.cmpi .ne v20 c0_i32_9
  v21

def k1_cond1 (i : grid1.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.minsi arg1 c13_i32
  let c0_i32 : BitVec 32 := 0#32
  ![arg0.toNat, v0.toNat]

def cc1_transform_9 (i : grid1.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc1_transform_10 (i : grid1.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  ![arg0.toNat, v3.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S512x7168 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x7168 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x4x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S7168x512 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x7168 .fp8e4m3 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x4x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]
-- ==== KernelIdeal.lean ====
variable {F : FTy → Type} [FloatOps F] [Named F]
def κ : String → Option EReal := fun
  | "inv_d_model" => some ((1 / 7168 : ℝ) : EReal)
  | _ => none
-- ==== ReferenceIdeal.lean ====
abbrev S2x8192x18432 : Shape := ⟨3, ![2, 8192, 18432]⟩
abbrev S1 : Shape := ⟨1, ![1]⟩
abbrev S18432x7168 : Shape := ⟨2, ![18432, 7168]⟩
abbrev S2x8192x7168 : Shape := ⟨3, ![2, 8192, 7168]⟩
abbrev S7168 : Shape := ⟨1, ![7168]⟩
abbrev S7168x9216 : Shape := ⟨2, ![7168, 9216]⟩
abbrev S2x8192 : Shape := ⟨2, ![2, 8192]⟩
abbrev S64 : Shape := ⟨1, ![64]⟩
abbrev S_ : Shape := ⟨0, ![]⟩
abbrev S2x8192x1 : Shape := ⟨3, ![2, 8192, 1]⟩
abbrev S1x1x64 : Shape := ⟨3, ![1, 1, 64]⟩
abbrev S2x8192x64 : Shape := ⟨3, ![2, 8192, 64]⟩
abbrev S16384x18432 : Shape := ⟨2, ![16384, 18432]⟩
abbrev S16384x7168 : Shape := ⟨2, ![16384, 7168]⟩
abbrev S1x7168 : Shape := ⟨2, ![1, 7168]⟩
abbrev S16384x64 : Shape := ⟨2, ![16384, 64]⟩
abbrev S16384x56x128 : Shape := ⟨3, ![16384, 56, 128]⟩
abbrev S16384x8x128 : Shape := ⟨3, ![16384, 8, 128]⟩
abbrev S16384 : Shape := ⟨1, ![16384]⟩
abbrev S16384x1 : Shape := ⟨2, ![16384, 1]⟩
abbrev S16384x9216 : Shape := ⟨2, ![16384, 9216]⟩
abbrev S16384x1024 : Shape := ⟨2, ![16384, 1024]⟩
abbrev S16384x1x64 : Shape := ⟨3, ![16384, 1, 64]⟩
abbrev S16384x56x64 : Shape := ⟨3, ![16384, 56, 64]⟩
abbrev S16384x8x64 : Shape := ⟨3, ![16384, 8, 64]⟩
abbrev S2x8192x56x128 : Shape := ⟨4, ![2, 8192, 56, 128]⟩
abbrev S2x8192x8x128 : Shape := ⟨4, ![2, 8192, 8, 128]⟩

abbrev nBuf : Space → Nat
  | .hbm => 51
  | .vmem => 13
  | .smem => 4
  | _ => 0

abbrev bufTy : (tb : Table) → Fin (tcTables nBuf tb) → BufTy
  | .hbm, ⟨0, _⟩ => ⟨S2x8192x18432, .fp8e4m3⟩
  | .hbm, ⟨1, _⟩ => ⟨S1, .f32⟩
  | .hbm, ⟨2, _⟩ => ⟨S18432x7168, .fp8e4m3⟩
  | .hbm, ⟨3, _⟩ => ⟨S1, .f32⟩
  | .hbm, ⟨4, _⟩ => ⟨S2x8192x7168, .bf16⟩
  | .hbm, ⟨5, _⟩ => ⟨S7168, .f32⟩
  | .hbm, ⟨6, _⟩ => ⟨S1, .f32⟩
  | .hbm, ⟨7, _⟩ => ⟨S7168x9216, .fp8e4m3⟩
  | .hbm, ⟨8, _⟩ => ⟨S1, .f32⟩
  | .hbm, ⟨9, _⟩ => ⟨S2x8192, .i32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S2x8192, .f32⟩
  | .hbm, ⟨27, _⟩ => ⟨S2x8192x1, .f32⟩
  | .hbm, ⟨28, _⟩ => ⟨S1x1x64, .f32⟩
  | .hbm, ⟨29, _⟩ => ⟨S2x8192x64, .f32⟩
  | .hbm, ⟨30, _⟩ => ⟨S2x8192x64, .f32⟩
  | .hbm, ⟨31, _⟩ => ⟨S2x8192x64, .f32⟩
  | .hbm, ⟨32, _⟩ => ⟨S16384x18432, .fp8e4m3⟩
  | .hbm, ⟨33, _⟩ => ⟨S16384x7168, .bf16⟩
  | .hbm, ⟨34, _⟩ => ⟨S1x7168, .f32⟩
  | .hbm, ⟨35, _⟩ => ⟨S2x8192x64, .f32⟩
  | .hbm, ⟨36, _⟩ => ⟨S16384x64, .f32⟩
  | .hbm, ⟨37, _⟩ => ⟨S2x8192x64, .f32⟩
  | .hbm, ⟨38, _⟩ => ⟨S16384x64, .f32⟩
  | .hbm, ⟨39, _⟩ => ⟨S16384x7168, .bf16⟩
  | .hbm, ⟨40, _⟩ => ⟨S16384x56x128, .bf16⟩
  | .hbm, ⟨41, _⟩ => ⟨S16384x8x128, .bf16⟩
  | .hbm, ⟨42, _⟩ => ⟨S16384x8x128, .bf16⟩
  | .hbm, ⟨43, _⟩ => ⟨S16384x7168, .fp8e4m3⟩
  | .hbm, ⟨44, _⟩ => ⟨S16384, .f32⟩
  | .hbm, ⟨45, _⟩ => ⟨S2x8192x7168, .bf16⟩
  | .hbm, ⟨46, _⟩ => ⟨S2x8192x56x128, .bf16⟩
  | .hbm, ⟨47, _⟩ => ⟨S2x8192x8x128, .bf16⟩
  | .hbm, ⟨48, _⟩ => ⟨S2x8192x8x128, .bf16⟩
  | .hbm, ⟨49, _⟩ => ⟨S2x8192x7168, .fp8e4m3⟩
  | .hbm, ⟨50, _⟩ => ⟨S2x8192, .f32⟩
  | .local _ .vmem, ⟨0, _⟩ => ⟨S16384x18432, .fp8e4m3⟩
  | .local _ .vmem, ⟨1, _⟩ => ⟨S18432x7168, .fp8e4m3⟩
  | .local _ .vmem, ⟨2, _⟩ => ⟨S16384x7168, .bf16⟩
  | .local _ .vmem, ⟨3, _⟩ => ⟨S1x7168, .f32⟩
  | .local _ .vmem, ⟨4, _⟩ => ⟨S7168x9216, .fp8e4m3⟩
  | .local _ .vmem, ⟨5, _⟩ => ⟨S16384x64, .f32⟩
  | .local _ .vmem, ⟨6, _⟩ => ⟨S16384x64, .f32⟩
  | .local _ .vmem, ⟨7, _⟩ => ⟨S16384x7168, .bf16⟩
  | .local _ .vmem, ⟨8, _⟩ => ⟨S16384x56x128, .bf16⟩
  | .local _ .vmem, ⟨9, _⟩ => ⟨S16384x8x128, .bf16⟩
  | .local _ .vmem, ⟨10, _⟩ => ⟨S16384x8x128, .bf16⟩
  | .local _ .vmem, ⟨11, _⟩ => ⟨S16384x7168, .fp8e4m3⟩
  | .local _ .vmem, ⟨12, _⟩ => ⟨S16384, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S2x8192x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_v24_4 : Ref sig .tc := ⟨.hbm, 43, rfl⟩
abbrev main_v24_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg7_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg14_0 : Ref sig .tc := ⟨.vmem, 10, rfl⟩
abbrev cc0_stg15_0 : Ref sig .tc := ⟨.vmem, 11, rfl⟩
abbrev cc0_stg16_0 : Ref sig .tc := ⟨.vmem, 12, rfl⟩
abbrev cc0_stg1_0 : Ref sig .tc := ⟨.smem, 0, rfl⟩
abbrev cc0_stg3_0 : Ref sig .tc := ⟨.smem, 1, rfl⟩
abbrev cc0_stg6_0 : Ref sig .tc := ⟨.smem, 2, rfl⟩
abbrev cc0_stg8_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S16384x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x9216 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16384x7168 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16384x56x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16384x8x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16384x8x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16384x7168 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Bits.QkvBase.lean ====
/-
  The second pallas_call (`qkv`, pipeline 1 of @main): what the runs of its body are stated over — the windows' blocks at
  the region's entry, the body's branch conditions in closed form over the grid points, where a window is idle.
  The text is the one generated for this pallas_call alone, stated over any contents at the region's entry.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered
variable (m : Dev nD → Valuation τ sig (Elt F))

/-- Core `c`'s buffers when the region is entered, by TensorCore reference. -/
abbrev V (c : Dev nD) (b : Ref sig .tc) : Buf (Elt F) ((c : Thread nD τ).loc b) := m c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 18) — by arithmetic of the point. -/
theorem hcond1_0 : ∀ t : Fin cfg1.N, cond1_0 (grid1.coords t) ↔ t.val % 18 = 0 :=
  (fun t => by
    have ht : t.val < 576 := Nat.lt_of_lt_of_eq t.isLt N_1
    have e0 : (grid1.coords t 0).val = t.val / 18 % 32 := Pipeline.Grid.coords_val t 0 (by decide) rfl
    have e1 : (grid1.coords t 1).val = t.val / 1 % 18 := Pipeline.Grid.coords_val t 1 (by decide) rfl
    simp only [cond1_0, k1_cond1, e0, e1]
    word_cmp
   : ∀ t : Fin grid1.N, cond1_0 (grid1.coords t) ↔ t.val % 18 = 0)

/-- The condition of the body's `scf.if` 1 (`k1_h2`), from the grid coordinates (the skeleton's scalar
    chain substituted). -/
abbrev cond1_1 (i : grid1.Coords) : Prop := k1_cond2 i = 1#1
/-- It holds at the points whose coordinates have i1 ≤ 13 — decided over the grid. -/
theorem hcond1_1 : ∀ t : Fin cfg1.N, cond1_1 (grid1.coords t) ↔ t.val % 18 ≤ 13 :=
  (by decide +kernel : ∀ t : Fin grid1.N, cond1_1 (grid1.coords t) ↔ t.val % 18 ≤ 13)

/-- The condition of the body's `scf.if` 2 (`k1_h3`), from the grid coordinates (the skeleton's scalar
    chain substituted). -/
abbrev cond1_2 (i : grid1.Coords) : Prop := k1_cond3 i = 1#1
/-- It holds at the points whose coordinates have 14 ≤ i1 and i1 ≤ 15 — decided over the grid. -/
theorem hcond1_2 : ∀ t : Fin cfg1.N, cond1_2 (grid1.coords t) ↔ (14 ≤ t.val % 18 ∧ t.val % 18 ≤ 15) :=
  (by decide +kernel : ∀ t : Fin grid1.N, cond1_2 (grid1.coords t) ↔ (14 ≤ t.val % 18 ∧ t.val % 18 ≤ 15))

/-- The condition of the body's `scf.if` 3 (`k1_h4`), from the grid coordinates (the skeleton's scalar
    chain substituted). -/
abbrev cond1_3 (i : grid1.Coords) : Prop := k1_cond4 i = 1#1
/-- It holds at the points whose coordinates have 16 ≤ i1 — decided over the grid. -/
theorem hcond1_3 : ∀ t : Fin cfg1.N, cond1_3 (grid1.coords t) ↔ 16 ≤ t.val % 18 :=
  (by decide +kernel : ∀ t : Fin grid1.N, cond1_3 (grid1.coords t) ↔ 16 ≤ t.val % 18)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-! ## The kernel body on any staging memrefs: a subtype the run finds -/

/-- Each window's current staging memref at point `t`, spelled as the pipeline passes it (`bodyAt1`), and its wholeness. -/
abbrev ms1_0 (t : Fin cfg1.N) : Memref sig .tc .smem S2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x7168 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x7168 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S7168x512 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x7168 .fp8e4m3 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x4x128 .f32 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S512x128 .f32 := Memref.whole cc1_scratch0
abbrev scM1_1 : Memref sig .tc .vmem S512x128 .f32 := Memref.whole cc1_scratch1

end Cert.Kernel.Qkv

end
-- ==== Proof.Bits.QkvRunB.lean ====
/-
  The run of the second pallas_call's body at a point of case B: the other q tiles.
-/
module

public import proofs.«01_k».proof.Proof.Bits.QkvBase
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case B (the other q tiles), with the proof that on whole
    staging memrefs the body runs to the continuation holding every other buffer as it was and these with their pieces written. The printed functions are
    their skeletons, which `sl_exec` runs, each branch decided by the case's hypotheses; the pieces are the witness that run finds. -/
noncomputable def kernelRun1_B (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : ¬cond1_0 i) (hc1 : cond1_1 i) (hc2 : ¬cond1_2 i) (hc3 : ¬cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) (x11 : Vec F S512x7168 .fp8e4m3) (xs0 : Vec F S512x128 .f32) (xs1 : Vec F S512x128 .f32) :
    { L8 : List (View.Piece (Elt F) S512x512 .bf16) //
      ∀ (x9 : Vec F S512x512 .bf16) (x10 : Vec F S512x512 .bf16) (x12 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun x9 x10 x12 E K => ?run⟩
  case run =>
    simp only [cc1_qkv_eq_skeleton]; unfold cc1_qkv_skel
    simp only [k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, HS0⟩, ⟨%f14, %hf14, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; isplitr; · ipureintro; exact harg15.read_unread _
      iexact HS0
    iexists _; isplitr; · ipureintro; exact harg16.read_unread _
    iexact HS1

end Cert.Kernel.Qkv

end
-- ==== Proof.Bits.QkvRunC.lean ====
/-
  The run of the second pallas_call's body at a point of case C: the k tiles.
-/
module

public import proofs.«01_k».proof.Proof.Bits.QkvRunB
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case C (the k tiles), with the proof that on whole
    staging memrefs the body runs to the continuation holding every other buffer as it was and these with their pieces written. The printed functions are
    their skeletons, which `sl_exec` runs, each branch decided by the case's hypotheses; the pieces are the witness that run finds. -/
noncomputable def kernelRun1_C (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : ¬cond1_0 i) (hc1 : ¬cond1_1 i) (hc2 : cond1_2 i) (hc3 : ¬cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) (x11 : Vec F S512x7168 .fp8e4m3) (xs0 : Vec F S512x128 .f32) (xs1 : Vec F S512x128 .f32) :
    { L9 : List (View.Piece (Elt F) S512x512 .bf16) //
      ∀ (x8 : Vec F S512x512 .bf16) (x10 : Vec F S512x512 .bf16) (x12 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun x8 x10 x12 E K => ?run⟩
  case run =>
    simp only [cc1_qkv_eq_skeleton]; unfold cc1_qkv_skel
    simp only [k1_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, HS0⟩, ⟨%f14, %hf14, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; isplitr; · ipureintro; exact harg15.read_unread _
      iexact HS0
    iexists _; isplitr; · ipureintro; exact harg16.read_unread _
    iexact HS1

end Cert.Kernel.Qkv

end
-- ==== Proof.Bits.QkvRunD.lean ====
/-
  The run of the second pallas_call's body at a point of case D: the v tiles.
-/
module

public import proofs.«01_k».proof.Proof.Bits.QkvRunC
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case D (the v tiles), with the proof that on whole
    staging memrefs the body runs to the continuation holding every other buffer as it was and these with their pieces written. The printed functions are
    their skeletons, which `sl_exec` runs, each branch decided by the case's hypotheses; the pieces are the witness that run finds. -/
noncomputable def kernelRun1_D (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : ¬cond1_0 i) (hc1 : ¬cond1_1 i) (hc2 : ¬cond1_2 i) (hc3 : cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) (x11 : Vec F S512x7168 .fp8e4m3) :
    { L10 : List (View.Piece (Elt F) S512x512 .bf16) //
      ∀ (x8 : Vec F S512x512 .bf16) (x9 : Vec F S512x512 .bf16) (x12 : Vec F S1x4x128 .f32) (xs0 : Vec F S512x128 .f32) (xs1 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare x11 ∗ owns (c : Thread nD τ) arg14 fullShare x12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare x11 ∗ owns (c : Thread nD τ) arg14 fullShare x12 ∗ owns (c : Thread nD τ) arg15 fullShare xs0 ∗ owns (c : Thread nD τ) arg16 fullShare xs1) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun x8 x9 x12 xs0 xs1 E K => ?run⟩
  case run =>
    simp only [cc1_qkv_eq_skeleton]; unfold cc1_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, HS0⟩, ⟨%f14, %hf14, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [H12]
    · iexists _; isplitr; · ipureintro; exact harg14.read_unread _
      iexact H12
    isplitl [HS0]
    · iexists _; isplitr; · ipureintro; exact harg15.read_unread _
      iexact HS0
    iexists _; isplitr; · ipureintro; exact harg16.read_unread _
    iexact HS1

end Cert.Kernel.Qkv

end
-- ==== Proof.Bits.QkvRunA.lean ====
/-
  The run of the second pallas_call's body at a point of case A: the first point of a row of blocks: the activations are normalised and encoded, the rotation angles computed, and a q tile made.
-/
module

public import proofs.«01_k».proof.Proof.Bits.QkvRunD
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case A (the first point of a row of blocks: the activations are normalised and encoded, the rotation angles computed, and a q tile made), with the proof that on whole
    staging memrefs the body runs to the continuation holding every other buffer as it was and these with their pieces written. The printed functions are
    their skeletons, which `sl_exec` runs, each branch decided by the case's hypotheses; the pieces are the witness that run finds. -/
noncomputable def kernelRun1_A (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : cond1_0 i) (hc1 : cond1_1 i) (hc2 : ¬cond1_2 i) (hc3 : ¬cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) :
    Σ' (L8 : List (View.Piece (Elt F) S512x512 .bf16)), Σ' (L11 : List (View.Piece (Elt F) S512x7168 .fp8e4m3)), Σ' (L12 : List (View.Piece (Elt F) S1x4x128 .f32)), Σ' (Ls0 : List (View.Piece (Elt F) S512x128 .f32)), { Ls1 : List (View.Piece (Elt F) S512x128 .f32) //
      ∀ (x9 : Vec F S512x512 .bf16) (x10 : Vec F S512x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f Ls0) ∗ (∃ f, arg16.view.loc (c : Thread nD τ) ↦[arg16.view.set]{fullShare} arg16.view.writes (Elt F) f Ls1)) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun x9 x10 E K => ?run⟩
  case run =>
    simp only [cc1_qkv_eq_skeleton]; unfold cc1_qkv_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, HS0⟩, ⟨%d14, %f14, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [HS0]; · iexists _; iexact HS0
    iexists _; iexact HS1

end Cert.Kernel.Qkv

end
-- ==== Proof.Bits.Qkv.lean ====
/-
  The second pallas_call (`qkv`): what each buffer holds after each grid point, the pipeline's proof data over any contents at the region's
  entry, and the body obligation.

  A row of blocks is 18 points. Its first point encodes the activations (`codesAt`), their row maxima (`amaxAt`), and the rotation
  angles' cosines and signed sines (`cosAt`, `sinAt`: scratch, carried to the row's other points by the invariant). The points 0..13 make the q
  tiles, 14 and 15 the k tiles, 16 and 17 the v tiles. A window's buffer that a point does not store into holds what the last storing point left.
-/
module

public import proofs.«01_k».proof.Proof.Bits.QkvRunA
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered
variable (m : Dev nD → Valuation τ sig (Elt F))

/-! ## Closed forms over the points -/

/-- Window 8: the points that leave it idle, -/
theorem idle1_8 : ∀ t : Fin cfg1.N, cfg1.idle 8 (grid1.coords t) = decide (14 ≤ t.val % 18) := by decide +kernel
/-- the points that write it back, -/
theorem flushes1_8 : ∀ t : Fin cfg1.N, (cfg1.win 8).flush t = decide (t.val % 18 ≤ 12 ∨ t.val % 18 = 17) := by
  intro t; rw [Pipeline.Window.flush_eq_flushF]; revert t; decide +kernel
/-- the positions where nothing is stored in it since the last write-back. -/
theorem fresh1_8 (t : Fin cfg1.N) : cfg1.fresh 8 t.val = decide (t.val % 18 ≤ 13) :=
  Pipeline.Cfg.fresh_tab cfg1 8 (fun n => decide (n % 18 ≤ 13)) rfl (fun t => by
    show decide ((t.val + 1) % 18 ≤ 13) = ((cfg1.win 8).flush t || (cfg1.idle 8 (grid1.coords t) && decide (t.val % 18 ≤ 13)))
    rw [flushes1_8, idle1_8, ← Bool.decide_and, ← Bool.decide_or, decide_eq_decide]; omega) t.val (Nat.le_of_lt t.isLt)
/-- Window 9: the points that leave it idle, -/
theorem idle1_9 : ∀ t : Fin cfg1.N, cfg1.idle 9 (grid1.coords t) = decide (t.val % 18 ≤ 13 ∨ 16 ≤ t.val % 18) := by decide +kernel
/-- the points that write it back, -/
theorem flushes1_9 : ∀ t : Fin cfg1.N, (cfg1.win 9).flush t = decide (t.val % 18 = 14 ∨ t.val % 18 = 17) := by
  intro t; rw [Pipeline.Window.flush_eq_flushF]; revert t; decide +kernel
/-- the positions where nothing is stored in it since the last write-back. -/
theorem fresh1_9 (t : Fin cfg1.N) : cfg1.fresh 9 t.val = decide (t.val % 18 ≤ 15) :=
  Pipeline.Cfg.fresh_tab cfg1 9 (fun n => decide (n % 18 ≤ 15)) rfl (fun t => by
    show decide ((t.val + 1) % 18 ≤ 15) = ((cfg1.win 9).flush t || (cfg1.idle 9 (grid1.coords t) && decide (t.val % 18 ≤ 15)))
    rw [flushes1_9, idle1_9, ← Bool.decide_and, ← Bool.decide_or, decide_eq_decide]; omega) t.val (Nat.le_of_lt t.isLt)
/-- Window 10: the points that leave it idle, -/
theorem idle1_10 : ∀ t : Fin cfg1.N, cfg1.idle 10 (grid1.coords t) = decide (t.val % 18 ≤ 15) := by decide +kernel
/-- the points that write it back. -/
theorem flushes1_10 : ∀ t : Fin cfg1.N, (cfg1.win 10).flush t = decide (16 ≤ t.val % 18) := by
  intro t; rw [Pipeline.Window.flush_eq_flushF]; revert t; decide +kernel
/-- Window 11: the points that leave it idle, -/
theorem idle1_11 : ∀ t : Fin cfg1.N, cfg1.idle 11 (grid1.coords t) = decide (t.val % 18 ≠ 0) := by decide +kernel
/-- the points that write it back, -/
theorem flushes1_11 : ∀ t : Fin cfg1.N, (cfg1.win 11).flush t = decide (t.val % 18 = 17) := by
  intro t; rw [Pipeline.Window.flush_eq_flushF]; revert t; decide +kernel
/-- the positions where nothing is stored in it since the last write-back. -/
theorem fresh1_11 (t : Fin cfg1.N) : cfg1.fresh 11 t.val = decide (t.val % 18 = 0) :=
  Pipeline.Cfg.fresh_tab cfg1 11 (fun n => decide (n % 18 = 0)) rfl (fun t => by
    show decide ((t.val + 1) % 18 = 0) = ((cfg1.win 11).flush t || (cfg1.idle 11 (grid1.coords t) && decide (t.val % 18 = 0)))
    rw [flushes1_11, idle1_11, ← Bool.decide_and, ← Bool.decide_or, decide_eq_decide]; omega) t.val (Nat.le_of_lt t.isLt)
/-- Window 12: the points that leave it idle, -/
theorem idle1_12 : ∀ t : Fin cfg1.N, cfg1.idle 12 (grid1.coords t) = decide (t.val % 18 ≠ 0) := by decide +kernel
/-- the points that write it back, -/
theorem flushes1_12 : ∀ t : Fin cfg1.N, (cfg1.win 12).flush t = decide (t.val % 18 = 17) := by
  intro t; rw [Pipeline.Window.flush_eq_flushF]; revert t; decide +kernel
/-- the positions where nothing is stored in it since the last write-back. -/
theorem fresh1_12 (t : Fin cfg1.N) : cfg1.fresh 12 t.val = decide (t.val % 18 = 0) :=
  Pipeline.Cfg.fresh_tab cfg1 12 (fun n => decide (n % 18 = 0)) rfl (fun t => by
    show decide ((t.val + 1) % 18 = 0) = ((cfg1.win 12).flush t || (cfg1.idle 12 (grid1.coords t) && decide (t.val % 18 = 0)))
    rw [flushes1_12, idle1_12, ← Bool.decide_and, ← Bool.decide_or, decide_eq_decide]; omega) t.val (Nat.le_of_lt t.isLt)

/-- The first point of the row of `t`. -/
def row (t : Fin cfg1.N) : Fin cfg1.N := ⟨t.val - t.val % 18, Nat.lt_of_le_of_lt (Nat.sub_le _ _) t.isLt⟩
theorem row_mod (t : Fin cfg1.N) : (row t).val % 18 = 0 := by show (t.val - t.val % 18) % 18 = 0; omega
theorem row_eq {t u : Fin cfg1.N} (h : t.val / 18 = u.val / 18) : row t = row u := Fin.ext (by show t.val - t.val % 18 = u.val - u.val % 18; omega)
theorem row_self {t : Fin cfg1.N} (h : t.val % 18 = 0) : row t = t := Fin.ext (by show t.val - t.val % 18 = t.val; omega)

/-! ## The runs at a point -/

/-- Buffers through which an output's contents are stated (the choice does not matter, `View.read_writes_of_cover`). -/
abbrev VO1_8 : View sig .tc .vmem S512x512 .bf16 := (Memref.whole cc1_stg8_0 : Memref sig .tc .vmem S512x512 .bf16).view
abbrev VO1_9 : View sig .tc .vmem S512x512 .bf16 := (Memref.whole cc1_stg9_0 : Memref sig .tc .vmem S512x512 .bf16).view
abbrev VO1_10 : View sig .tc .vmem S512x512 .bf16 := (Memref.whole cc1_stg10_0 : Memref sig .tc .vmem S512x512 .bf16).view
abbrev VO1_11 : View sig .tc .vmem S512x7168 .fp8e4m3 := (Memref.whole cc1_stg11_0 : Memref sig .tc .vmem S512x7168 .fp8e4m3).view
abbrev VO1_12 : View sig .tc .vmem S1x4x128 .f32 := (Memref.whole cc1_stg12_0 : Memref sig .tc .vmem S1x4x128 .f32).view
abbrev VS1_0 : View sig .tc .vmem S512x128 .f32 := scM1_0.view
abbrev VS1_1 : View sig .tc .vmem S512x128 .f32 := scM1_1.view

/-- The run of case A at a point, on the point's buffers and blocks. -/
def runA (c : Dev nD) (t : Fin cfg1.N) (h0 : t.val % 18 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcond1_0 t).mpr h0) ((hcond1_1 t).mpr (by omega)) (fun h => absurd ((hcond1_2 t).mp h) (by omega)) (fun h => absurd ((hcond1_3 t).mp h) (by omega)) (iblk m c 0 t) (iblk m c 1 t) (iblk m c 2 t) (iblk m c 3 t) (iblk m c 4 t) (iblk m c 5 t) (iblk m c 6 t) (iblk m c 7 t)
/-- The run of case B at a point, on the point's buffers and blocks. -/
def runB (c : Dev nD) (t : Fin cfg1.N) (h0 : ¬t.val % 18 = 0) (h1 : t.val % 18 ≤ 13) (x11 : Vec F S512x7168 .fp8e4m3) (xs0 xs1 : Vec F S512x128 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => h0 ((hcond1_0 t).mp h)) ((hcond1_1 t).mpr h1) (fun h => absurd ((hcond1_2 t).mp h) (by omega)) (fun h => absurd ((hcond1_3 t).mp h) (by omega)) (iblk m c 0 t) (iblk m c 1 t) (iblk m c 2 t) (iblk m c 3 t) (iblk m c 4 t) (iblk m c 5 t) (iblk m c 6 t) (iblk m c 7 t) x11 xs0 xs1
/-- The run of case C at a point, on the point's buffers and blocks. -/
def runC (c : Dev nD) (t : Fin cfg1.N) (h0 : 14 ≤ t.val % 18) (h1 : t.val % 18 ≤ 15) (x11 : Vec F S512x7168 .fp8e4m3) (xs0 xs1 : Vec F S512x128 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => absurd ((hcond1_0 t).mp h) (by omega)) (fun h => absurd ((hcond1_1 t).mp h) (by omega)) ((hcond1_2 t).mpr ⟨h0, h1⟩) (fun h => absurd ((hcond1_3 t).mp h) (by omega)) (iblk m c 0 t) (iblk m c 1 t) (iblk m c 2 t) (iblk m c 3 t) (iblk m c 4 t) (iblk m c 5 t) (iblk m c 6 t) (iblk m c 7 t) x11 xs0 xs1
/-- The run of case D at a point, on the point's buffers and blocks. -/
def runD (c : Dev nD) (t : Fin cfg1.N) (h0 : 16 ≤ t.val % 18) (x11 : Vec F S512x7168 .fp8e4m3) :=
  kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => absurd ((hcond1_0 t).mp h) (by omega)) (fun h => absurd ((hcond1_1 t).mp h) (by omega)) (fun h => absurd ((hcond1_2 t).mp h) (by omega)) ((hcond1_3 t).mpr h0) (iblk m c 0 t) (iblk m c 1 t) (iblk m c 2 t) (iblk m c 3 t) (iblk m c 4 t) (iblk m c 5 t) (iblk m c 6 t) (iblk m c 7 t) x11
/-- What case A leaves there: its pieces read back over junk, -/
def qAtA (c : Dev nD) (t : Fin cfg1.N) (h0 : t.val % 18 = 0) : Vec F S512x512 .bf16 :=
  VO1_8.read (Elt F) (VO1_8.writes (Elt F) VO1_8.junk (runA m c t h0).1)
/-- which tile the buffer. -/
theorem cover_qAtA (c : Dev nD) (t : Fin cfg1.N) (h0 : t.val % 18 = 0) (y : Shape.Idx S512x512) : ∃ pc ∈ (runA m c t h0).1, y ∈ pc.1.set :=
  View.cover_of_tiledL (runA m c t h0).1 S512x128.size (by sl_kernel_rfl) y
/-- What case A leaves there: its pieces read back over junk, -/
def codesA (c : Dev nD) (t : Fin cfg1.N) (h0 : t.val % 18 = 0) : Vec F S512x7168 .fp8e4m3 :=
  VO1_11.read (Elt F) (VO1_11.writes (Elt F) VO1_11.junk (runA m c t h0).2.1)
/-- which tile the buffer. -/
theorem cover_codesA (c : Dev nD) (t : Fin cfg1.N) (h0 : t.val % 18 = 0) (y : Shape.Idx S512x7168) : ∃ pc ∈ (runA m c t h0).2.1, y ∈ pc.1.set :=
  View.cover_of_tiledL (runA m c t h0).2.1 S512x128.size (by sl_kernel_rfl) y
/-- What case A leaves there: its pieces read back over junk, -/
def amaxA (c : Dev nD) (t : Fin cfg1.N) (h0 : t.val % 18 = 0) : Vec F S1x4x128 .f32 :=
  VO1_12.read (Elt F) (VO1_12.writes (Elt F) VO1_12.junk (runA m c t h0).2.2.1)
/-- which tile the buffer. -/
theorem cover_amaxA (c : Dev nD) (t : Fin cfg1.N) (h0 : t.val % 18 = 0) (y : Shape.Idx S1x4x128) : ∃ pc ∈ (runA m c t h0).2.2.1, y ∈ pc.1.set :=
  View.cover_of_tiledL (runA m c t h0).2.2.1 S1x1x128.size (by sl_kernel_rfl) y
/-- What case A leaves there: its pieces read back over junk, -/
def cosA (c : Dev nD) (t : Fin cfg1.N) (h0 : t.val % 18 = 0) : Vec F S512x128 .f32 :=
  VS1_0.read (Elt F) (VS1_0.writes (Elt F) VS1_0.junk (runA m c t h0).2.2.2.1)
/-- which tile the buffer. -/
theorem cover_cosA (c : Dev nD) (t : Fin cfg1.N) (h0 : t.val % 18 = 0) (y : Shape.Idx S512x128) : ∃ pc ∈ (runA m c t h0).2.2.2.1, y ∈ pc.1.set :=
  View.cover_of_tiledL (runA m c t h0).2.2.2.1 S128x128.size (by sl_kernel_rfl) y
/-- What case A leaves there: its pieces read back over junk, -/
def sinA (c : Dev nD) (t : Fin cfg1.N) (h0 : t.val % 18 = 0) : Vec F S512x128 .f32 :=
  VS1_1.read (Elt F) (VS1_1.writes (Elt F) VS1_1.junk (runA m c t h0).2.2.2.2.1)
/-- which tile the buffer. -/
theorem cover_sinA (c : Dev nD) (t : Fin cfg1.N) (h0 : t.val % 18 = 0) (y : Shape.Idx S512x128) : ∃ pc ∈ (runA m c t h0).2.2.2.2.1, y ∈ pc.1.set :=
  View.cover_of_tiledL (runA m c t h0).2.2.2.2.1 S128x128.size (by sl_kernel_rfl) y
/-- What case B leaves there: its pieces read back over junk, -/
def qAtB (c : Dev nD) (t : Fin cfg1.N) (h0 : ¬t.val % 18 = 0) (h1 : t.val % 18 ≤ 13) (x11 : Vec F S512x7168 .fp8e4m3) (xs0 xs1 : Vec F S512x128 .f32) : Vec F S512x512 .bf16 :=
  VO1_8.read (Elt F) (VO1_8.writes (Elt F) VO1_8.junk (runB m c t h0 h1 x11 xs0 xs1).1)
/-- which tile the buffer. -/
theorem cover_qAtB (c : Dev nD) (t : Fin cfg1.N) (h0 : ¬t.val % 18 = 0) (h1 : t.val % 18 ≤ 13) (x11 : Vec F S512x7168 .fp8e4m3) (xs0 xs1 : Vec F S512x128 .f32) (y : Shape.Idx S512x512) : ∃ pc ∈ (runB m c t h0 h1 x11 xs0 xs1).1, y ∈ pc.1.set :=
  View.cover_of_tiledL (runB m c t h0 h1 x11 xs0 xs1).1 S512x128.size (by sl_kernel_rfl) y
/-- What case C leaves there: its pieces read back over junk, -/
def kAtC (c : Dev nD) (t : Fin cfg1.N) (h0 : 14 ≤ t.val % 18) (h1 : t.val % 18 ≤ 15) (x11 : Vec F S512x7168 .fp8e4m3) (xs0 xs1 : Vec F S512x128 .f32) : Vec F S512x512 .bf16 :=
  VO1_9.read (Elt F) (VO1_9.writes (Elt F) VO1_9.junk (runC m c t h0 h1 x11 xs0 xs1).1)
/-- which tile the buffer. -/
theorem cover_kAtC (c : Dev nD) (t : Fin cfg1.N) (h0 : 14 ≤ t.val % 18) (h1 : t.val % 18 ≤ 15) (x11 : Vec F S512x7168 .fp8e4m3) (xs0 xs1 : Vec F S512x128 .f32) (y : Shape.Idx S512x512) : ∃ pc ∈ (runC m c t h0 h1 x11 xs0 xs1).1, y ∈ pc.1.set :=
  View.cover_of_tiledL (runC m c t h0 h1 x11 xs0 xs1).1 S512x128.size (by sl_kernel_rfl) y
/-- What case D leaves there: its pieces read back over junk, -/
def vAtD (c : Dev nD) (t : Fin cfg1.N) (h0 : 16 ≤ t.val % 18) (x11 : Vec F S512x7168 .fp8e4m3) : Vec F S512x512 .bf16 :=
  VO1_10.read (Elt F) (VO1_10.writes (Elt F) VO1_10.junk (runD m c t h0 x11).1)
/-- which tile the buffer. -/
theorem cover_vAtD (c : Dev nD) (t : Fin cfg1.N) (h0 : 16 ≤ t.val % 18) (x11 : Vec F S512x7168 .fp8e4m3) (y : Shape.Idx S512x512) : ∃ pc ∈ (runD m c t h0 x11).1, y ∈ pc.1.set :=
  View.cover_of_tiledL (runD m c t h0 x11).1 S512x512.size (by sl_kernel_rfl) y

/-! ## What the buffers hold after each point -/

/-- The codes, the row maxima and the angles of the row of `t`. -/
def codesAt (c : Dev nD) (t : Fin cfg1.N) : Vec F S512x7168 .fp8e4m3 := codesA m c (row t) (row_mod t)
def amaxAt (c : Dev nD) (t : Fin cfg1.N) : Vec F S1x4x128 .f32 := amaxA m c (row t) (row_mod t)
def cosAt (c : Dev nD) (t : Fin cfg1.N) : Vec F S512x128 .f32 := cosA m c (row t) (row_mod t)
def sinAt (c : Dev nD) (t : Fin cfg1.N) : Vec F S512x128 .f32 := sinA m c (row t) (row_mod t)

theorem codesAt_congr (c : Dev nD) {t u : Fin cfg1.N} (e : row t = row u) : codesAt m c t = codesAt m c u := by
  have : ∀ (a b : Fin cfg1.N) (h h'), a = b → codesA m c a h = codesA m c b h' := fun a b h h' e => by subst e; rfl
  exact this _ _ _ _ e
theorem amaxAt_congr (c : Dev nD) {t u : Fin cfg1.N} (e : row t = row u) : amaxAt m c t = amaxAt m c u := by
  have : ∀ (a b : Fin cfg1.N) (h h'), a = b → amaxA m c a h = amaxA m c b h' := fun a b h h' e => by subst e; rfl
  exact this _ _ _ _ e
theorem cosAt_congr (c : Dev nD) {t u : Fin cfg1.N} (e : row t = row u) : cosAt m c t = cosAt m c u := by
  have : ∀ (a b : Fin cfg1.N) (h h'), a = b → cosA m c a h = cosA m c b h' := fun a b h h' e => by subst e; rfl
  exact this _ _ _ _ e
theorem sinAt_congr (c : Dev nD) {t u : Fin cfg1.N} (e : row t = row u) : sinAt m c t = sinAt m c u := by
  have : ∀ (a b : Fin cfg1.N) (h h'), a = b → sinA m c a h = sinA m c b h' := fun a b h h' e => by subst e; rfl
  exact this _ _ _ _ e

/-- The q tile made at a point, -/
def qAt (c : Dev nD) (t : Fin cfg1.N) : Vec F S512x512 .bf16 :=
  if h0 : t.val % 18 = 0 then qAtA m c t h0
  else if h1 : t.val % 18 ≤ 13 then qAtB m c t h0 h1 (codesAt m c t) (cosAt m c t) (sinAt m c t)
  else VO1_8.read (Elt F) VO1_8.junk
/-- the k tile, -/
def kAt (c : Dev nD) (t : Fin cfg1.N) : Vec F S512x512 .bf16 :=
  if h : 14 ≤ t.val % 18 ∧ t.val % 18 ≤ 15 then kAtC m c t h.1 h.2 (codesAt m c t) (cosAt m c t) (sinAt m c t)
  else VO1_9.read (Elt F) VO1_9.junk
/-- the v tile. -/
def vAt (c : Dev nD) (t : Fin cfg1.N) : Vec F S512x512 .bf16 :=
  if h : 16 ≤ t.val % 18 then vAtD m c t h (codesAt m c t)
  else VO1_10.read (Elt F) VO1_10.junk

theorem row_bound (t : Fin cfg1.N) (j : ℕ) (hj : j < 18) : t.val - t.val % 18 + j < cfg1.N := by
  have hN : t.val < 576 := lt_of_lt_of_eq t.isLt (show cfg1.N = 576 from N_1)
  exact lt_of_lt_of_eq (show _ < 576 by omega) (show cfg1.N = 576 from N_1).symm

/-- The last point up to `t` in its row that makes a q tile, -/
def qpt (t : Fin cfg1.N) : Fin cfg1.N := ⟨t.val - t.val % 18 + min (t.val % 18) 13, row_bound t _ (by omega)⟩
/-- a k tile (before the first, the first), -/
def kpt (t : Fin cfg1.N) : Fin cfg1.N := ⟨t.val - t.val % 18 + max 14 (min (t.val % 18) 15), row_bound t _ (by omega)⟩
/-- a v tile. -/
def vpt (t : Fin cfg1.N) : Fin cfg1.N := ⟨t.val - t.val % 18 + max 16 (t.val % 18), row_bound t _ (by have := Nat.mod_lt t.val (show 0 < 18 by omega); omega)⟩

theorem qpt_self {t : Fin cfg1.N} (h : t.val % 18 ≤ 13) : qpt t = t := Fin.ext (by show t.val - t.val % 18 + min (t.val % 18) 13 = t.val; omega)
theorem kpt_self {t : Fin cfg1.N} (h : 14 ≤ t.val % 18) (h' : t.val % 18 ≤ 15) : kpt t = t := Fin.ext (by show t.val - t.val % 18 + max 14 (min (t.val % 18) 15) = t.val; omega)
theorem vpt_self {t : Fin cfg1.N} (h : 16 ≤ t.val % 18) : vpt t = t := Fin.ext (by show t.val - t.val % 18 + max 16 (t.val % 18) = t.val; omega)

/-- The scoped buffers that are neither staging buffers nor this kernel's scratch, each at some contents: -/
def others (c : Dev nD) : sProp 𝕄 := iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg0_0), ((c : Thread nD τ).loc cc0_stg0_0) ↦{fullShare} f))

/-- The invariant before position `n`: those buffers, and the scratch at the row's angles inside a row, at anything between rows. -/
def Phi (c : Dev nD) (n : Fin (cfg1.N + 1)) : sProp 𝕄 :=
  if h : n.val % 18 = 0 then iprop(others c ∗ (∃ d, owns (c : Thread nD τ) scM1_0 fullShare d) ∗ (∃ d, owns (c : Thread nD τ) scM1_1 fullShare d))
  else iprop(others c ∗ owns (c : Thread nD τ) scM1_0 fullShare (cosAt m c ⟨n.val, by have h1 : cfg1.N = 576 := N_1; have h2 := n.isLt; omega⟩)
    ∗ owns (c : Thread nD τ) scM1_1 fullShare (sinAt m c ⟨n.val, by have h1 : cfg1.N = 576 := N_1; have h2 := n.isLt; omega⟩))

theorem Phi_row (c : Dev nD) (t : Fin cfg1.N) (h : t.val % 18 = 0) :
    Phi m c t.castSucc = iprop(others c ∗ (∃ d, owns (c : Thread nD τ) scM1_0 fullShare d) ∗ (∃ d, owns (c : Thread nD τ) scM1_1 fullShare d)) := dif_pos h
theorem Phi_inside (c : Dev nD) (t : Fin cfg1.N) (h : ¬t.val % 18 = 0) :
    Phi m c t.castSucc = iprop(others c ∗ owns (c : Thread nD τ) scM1_0 fullShare (cosAt m c t) ∗ owns (c : Thread nD τ) scM1_1 fullShare (sinAt m c t)) := dif_neg h
theorem Phi_succ (c : Dev nD) (t : Fin cfg1.N) :
    iprop(others c ∗ owns (c : Thread nD τ) scM1_0 fullShare (cosAt m c t) ∗ owns (c : Thread nD τ) scM1_1 fullShare (sinAt m c t)) ⊢ (Phi m c t.succ : sProp 𝕄) := by
  unfold Phi
  by_cases h : t.succ.val % 18 = 0
  · rw [dif_pos h]
    iintro ⟨H, H0, H1⟩
    isplitl [H]; · iexact H
    isplitl [H0]; · iexists _; iexact H0
    iexists _; iexact H1
  · rw [dif_neg h]
    have e : ∀ h', row (⟨t.succ.val, h'⟩ : Fin cfg1.N) = row t := fun h' => row_eq (by
      show (t.val + 1) / 18 = t.val / 18
      have h2 : ¬(t.val + 1) % 18 = 0 := h
      omega)
    rw [cosAt_congr m c (e _), sinAt_congr m c (e _)]

theorem start (c : Dev nD) : (Pipeline.scopedRest spec1 c : sProp 𝕄) ⊢ Phi m c 0 := by
  rw [scopedRest1_eq, show Phi m c 0 = iprop(others c ∗ (∃ d, owns (c : Thread nD τ) scM1_0 fullShare d) ∗ (∃ d, owns (c : Thread nD τ) scM1_1 fullShare d)) from dif_pos rfl]
  unfold others
  simp only [owns_whole]
  iintro ⟨H0, H1, H2, H3, H4, H5, H6, H7, H8, H9, S0, S1, R⟩
  isplitr [S0 S1]
  · (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9)
    iexact R
  isplitl [S0]; · iexact S0
  iexact S1
theorem finish (c : Dev nD) : Phi m c (Fin.last cfg1.N) ⊢ (Pipeline.scopedRest spec1 c : sProp 𝕄) := by
  rw [scopedRest1_eq, show Phi m c (Fin.last cfg1.N) = iprop(others c ∗ (∃ d, owns (c : Thread nD τ) scM1_0 fullShare d) ∗ (∃ d, owns (c : Thread nD τ) scM1_1 fullShare d)) from
    dif_pos (by show cfg1.N % 18 = 0; rw [show cfg1.N = 576 from N_1])]
  unfold others
  simp only [owns_whole]
  iintro ⟨⟨H0, H1, H2, H3, H4, H5, H6, H7, H8, H9, R⟩, S0, S1⟩
  (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9)
  isplitl [S0]; · iexact S0
  isplitl [S1]; · iexact S1
  iexact R

/-- The proof data of the region on core `c`. -/
def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qAt m c (qpt t)
    | ⟨9, _⟩ => kAt m c (kpt t)
    | ⟨10, _⟩ => vAt m c (vpt t)
    | ⟨11, _⟩ => codesAt m c t
    | ⟨12, _⟩ => amaxAt m c t
  Φ n := Phi m c n
  q _ := fullShare
  owed _ := 0

theorem A_eq (c : Dev nD) (w : Fin cfg1.W) : (dat m c).A w = V m c (Pipeline.arrRef spec1 w) := by
  dsimp only [dat]

theorem after1_0 (c : Dev nD) (t : Fin cfg1.N) : (dat m c).after 0 t = iblk m c 0 t := by dsimp only [dat]
theorem after1_1 (c : Dev nD) (t : Fin cfg1.N) : (dat m c).after 1 t = iblk m c 1 t := by dsimp only [dat]
theorem after1_2 (c : Dev nD) (t : Fin cfg1.N) : (dat m c).after 2 t = iblk m c 2 t := by dsimp only [dat]
theorem after1_3 (c : Dev nD) (t : Fin cfg1.N) : (dat m c).after 3 t = iblk m c 3 t := by dsimp only [dat]
theorem after1_4 (c : Dev nD) (t : Fin cfg1.N) : (dat m c).after 4 t = iblk m c 4 t := by dsimp only [dat]
theorem after1_5 (c : Dev nD) (t : Fin cfg1.N) : (dat m c).after 5 t = iblk m c 5 t := by dsimp only [dat]
theorem after1_6 (c : Dev nD) (t : Fin cfg1.N) : (dat m c).after 6 t = iblk m c 6 t := by dsimp only [dat]
theorem after1_7 (c : Dev nD) (t : Fin cfg1.N) : (dat m c).after 7 t = iblk m c 7 t := by dsimp only [dat]
theorem after1_8 (c : Dev nD) (t : Fin cfg1.N) : (dat m c).after 8 t = qAt m c (qpt t) := by dsimp only [dat]
theorem after1_9 (c : Dev nD) (t : Fin cfg1.N) : (dat m c).after 9 t = kAt m c (kpt t) := by dsimp only [dat]
theorem after1_10 (c : Dev nD) (t : Fin cfg1.N) : (dat m c).after 10 t = vAt m c (vpt t) := by dsimp only [dat]
theorem after1_11 (c : Dev nD) (t : Fin cfg1.N) : (dat m c).after 11 t = codesAt m c t := by dsimp only [dat]
theorem after1_12 (c : Dev nD) (t : Fin cfg1.N) : (dat m c).after 12 t = amaxAt m c t := by dsimp only [dat]
theorem before1_0 (c : Dev nD) (t : Fin cfg1.N) (d) : (dat m c).before 0 t d = iblk m c 0 t :=
  before1_0_of m (dat m c) (by dsimp only [dat]) (fun t => by dsimp only [dat]) t d
theorem before1_1 (c : Dev nD) (t : Fin cfg1.N) (d) : (dat m c).before 1 t d = iblk m c 1 t :=
  before1_1_of m (dat m c) (by dsimp only [dat]) (fun t => by dsimp only [dat]) t d
theorem before1_2 (c : Dev nD) (t : Fin cfg1.N) (d) : (dat m c).before 2 t d = iblk m c 2 t :=
  before1_2_of m (dat m c) (by dsimp only [dat]) (fun t => by dsimp only [dat]) t d
theorem before1_3 (c : Dev nD) (t : Fin cfg1.N) (d) : (dat m c).before 3 t d = iblk m c 3 t :=
  before1_3_of m (dat m c) (by dsimp only [dat]) (fun t => by dsimp only [dat]) t d
theorem before1_4 (c : Dev nD) (t : Fin cfg1.N) (d) : (dat m c).before 4 t d = iblk m c 4 t :=
  before1_4_of m (dat m c) (by dsimp only [dat]) (fun t => by dsimp only [dat]) t d
theorem before1_5 (c : Dev nD) (t : Fin cfg1.N) (d) : (dat m c).before 5 t d = iblk m c 5 t :=
  before1_5_of m (dat m c) (by dsimp only [dat]) (fun t => by dsimp only [dat]) t d
theorem before1_6 (c : Dev nD) (t : Fin cfg1.N) (d) : (dat m c).before 6 t d = iblk m c 6 t :=
  before1_6_of m (dat m c) (by dsimp only [dat]) (fun t => by dsimp only [dat]) t d
theorem before1_7 (c : Dev nD) (t : Fin cfg1.N) (d) : (dat m c).before 7 t d = iblk m c 7 t :=
  before1_7_of m (dat m c) (by dsimp only [dat]) (fun t => by dsimp only [dat]) t d
theorem carry1_8 (c : Dev nD) (t : Fin cfg1.N) (h0 : t.val ≠ 0) (hi : cfg1.idle 8 (grid1.coords t) = true) (hf : cfg1.fresh 8 t.val = false) :
    (dat m c).after 8 t = (dat m c).after 8 ⟨t.val - 1, by omega⟩ := by
  rw [idle1_8, decide_eq_true_eq] at hi
  rw [fresh1_8, decide_eq_false_iff_not] at hf
  rw [after1_8, after1_8]
  rw [show qpt t = qpt ⟨t.val - 1, by omega⟩ from Fin.ext (by show t.val - t.val % 18 + min (t.val % 18) 13 = t.val - 1 - (t.val - 1) % 18 + min ((t.val - 1) % 18) 13; omega)]
/-- Where something is stored since the last write-back, an idle point finds what the last storing point left. -/
theorem before1_8 (c : Dev nD) (t : Fin cfg1.N) (hi : 14 ≤ t.val % 18) (hf : ¬(t.val % 18 ≤ 13)) (d) : (dat m c).before 8 t d = (dat m c).after 8 t := by
  have hi' : cfg1.idle 8 (grid1.coords t) = true := by rw [idle1_8]; exact decide_eq_true hi
  have hf' : cfg1.fresh 8 t.val = false := by rw [fresh1_8]; exact decide_eq_false hf
  rw [Dat.before_out_traj _ 8 rfl (fun _ _ => rfl) (carry1_8 m c) t.val t rfl d, hf', if_neg Bool.false_ne_true,
    carry1_8 m c t (fun h => by rw [h] at hf; omega) hi' hf']
theorem carry1_9 (c : Dev nD) (t : Fin cfg1.N) (h0 : t.val ≠ 0) (hi : cfg1.idle 9 (grid1.coords t) = true) (hf : cfg1.fresh 9 t.val = false) :
    (dat m c).after 9 t = (dat m c).after 9 ⟨t.val - 1, by omega⟩ := by
  rw [idle1_9, decide_eq_true_eq] at hi
  rw [fresh1_9, decide_eq_false_iff_not] at hf
  rw [after1_9, after1_9]
  rw [show kpt t = kpt ⟨t.val - 1, by omega⟩ from Fin.ext (by show t.val - t.val % 18 + max 14 (min (t.val % 18) 15) = t.val - 1 - (t.val - 1) % 18 + max 14 (min ((t.val - 1) % 18) 15); omega)]
/-- Where something is stored since the last write-back, an idle point finds what the last storing point left. -/
theorem before1_9 (c : Dev nD) (t : Fin cfg1.N) (hi : t.val % 18 ≤ 13 ∨ 16 ≤ t.val % 18) (hf : ¬(t.val % 18 ≤ 15)) (d) : (dat m c).before 9 t d = (dat m c).after 9 t := by
  have hi' : cfg1.idle 9 (grid1.coords t) = true := by rw [idle1_9]; exact decide_eq_true hi
  have hf' : cfg1.fresh 9 t.val = false := by rw [fresh1_9]; exact decide_eq_false hf
  rw [Dat.before_out_traj _ 9 rfl (fun _ _ => rfl) (carry1_9 m c) t.val t rfl d, hf', if_neg Bool.false_ne_true,
    carry1_9 m c t (fun h => by rw [h] at hf; omega) hi' hf']
theorem carry1_11 (c : Dev nD) (t : Fin cfg1.N) (h0 : t.val ≠ 0) (hi : cfg1.idle 11 (grid1.coords t) = true) (hf : cfg1.fresh 11 t.val = false) :
    (dat m c).after 11 t = (dat m c).after 11 ⟨t.val - 1, by omega⟩ := by
  rw [idle1_11, decide_eq_true_eq] at hi
  rw [fresh1_11, decide_eq_false_iff_not] at hf
  rw [after1_11, after1_11]
  exact codesAt_congr m c (row_eq (by show t.val / 18 = (t.val - 1) / 18; omega))
/-- Where something is stored since the last write-back, an idle point finds what the last storing point left. -/
theorem before1_11 (c : Dev nD) (t : Fin cfg1.N) (hi : t.val % 18 ≠ 0) (hf : ¬(t.val % 18 = 0)) (d) : (dat m c).before 11 t d = (dat m c).after 11 t := by
  have hi' : cfg1.idle 11 (grid1.coords t) = true := by rw [idle1_11]; exact decide_eq_true hi
  have hf' : cfg1.fresh 11 t.val = false := by rw [fresh1_11]; exact decide_eq_false hf
  rw [Dat.before_out_traj _ 11 rfl (fun _ _ => rfl) (carry1_11 m c) t.val t rfl d, hf', if_neg Bool.false_ne_true,
    carry1_11 m c t (fun h => by rw [h] at hf; omega) hi' hf']
theorem carry1_12 (c : Dev nD) (t : Fin cfg1.N) (h0 : t.val ≠ 0) (hi : cfg1.idle 12 (grid1.coords t) = true) (hf : cfg1.fresh 12 t.val = false) :
    (dat m c).after 12 t = (dat m c).after 12 ⟨t.val - 1, by omega⟩ := by
  rw [idle1_12, decide_eq_true_eq] at hi
  rw [fresh1_12, decide_eq_false_iff_not] at hf
  rw [after1_12, after1_12]
  exact amaxAt_congr m c (row_eq (by show t.val / 18 = (t.val - 1) / 18; omega))
/-- Where something is stored since the last write-back, an idle point finds what the last storing point left. -/
theorem before1_12 (c : Dev nD) (t : Fin cfg1.N) (hi : t.val % 18 ≠ 0) (hf : ¬(t.val % 18 = 0)) (d) : (dat m c).before 12 t d = (dat m c).after 12 t := by
  have hi' : cfg1.idle 12 (grid1.coords t) = true := by rw [idle1_12]; exact decide_eq_true hi
  have hf' : cfg1.fresh 12 t.val = false := by rw [fresh1_12]; exact decide_eq_false hf
  rw [Dat.before_out_traj _ 12 rfl (fun _ _ => rfl) (carry1_12 m c) t.val t rfl d, hf', if_neg Bool.false_ne_true,
    carry1_12 m c t (fun h => by rw [h] at hf; omega) hi' hf']

/-! ## The body obligation, at a generic point -/

theorem leaves1_0 (c : Dev nD) (t : Fin cfg1.N) : (dat m c).leavesExact 0 t = owns (c : Thread nD τ) (ms1_0 t) fullShare (iblk m c 0 t) := by
  unfold Dat.leavesExact; rw [liveAt1_0 t, after1_0]
theorem leaves1_1 (c : Dev nD) (t : Fin cfg1.N) : (dat m c).leavesExact 1 t = owns (c : Thread nD τ) (ms1_1 t) fullShare (iblk m c 1 t) := by
  unfold Dat.leavesExact; rw [liveAt1_1 t, after1_1]
theorem leaves1_2 (c : Dev nD) (t : Fin cfg1.N) : (dat m c).leavesExact 2 t = owns (c : Thread nD τ) (ms1_2 t) fullShare (iblk m c 2 t) := by
  unfold Dat.leavesExact; rw [liveAt1_2 t, after1_2]
theorem leaves1_3 (c : Dev nD) (t : Fin cfg1.N) : (dat m c).leavesExact 3 t = owns (c : Thread nD τ) (ms1_3 t) fullShare (iblk m c 3 t) := by
  unfold Dat.leavesExact; rw [liveAt1_3 t, after1_3]
theorem leaves1_4 (c : Dev nD) (t : Fin cfg1.N) : (dat m c).leavesExact 4 t = owns (c : Thread nD τ) (ms1_4 t) fullShare (iblk m c 4 t) := by
  unfold Dat.leavesExact; rw [liveAt1_4 t, after1_4]
theorem leaves1_5 (c : Dev nD) (t : Fin cfg1.N) : (dat m c).leavesExact 5 t = owns (c : Thread nD τ) (ms1_5 t) fullShare (iblk m c 5 t) := by
  unfold Dat.leavesExact; rw [liveAt1_5 t, after1_5]
theorem leaves1_6 (c : Dev nD) (t : Fin cfg1.N) : (dat m c).leavesExact 6 t = owns (c : Thread nD τ) (ms1_6 t) fullShare (iblk m c 6 t) := by
  unfold Dat.leavesExact; rw [liveAt1_6 t, after1_6]
theorem leaves1_7 (c : Dev nD) (t : Fin cfg1.N) : (dat m c).leavesExact 7 t = owns (c : Thread nD τ) (ms1_7 t) fullShare (iblk m c 7 t) := by
  unfold Dat.leavesExact; rw [liveAt1_7 t, after1_7]
theorem leaves1_8 (c : Dev nD) (t : Fin cfg1.N) (h : ¬(14 ≤ t.val % 18)) : (dat m c).leavesExact 8 t = owns (c : Thread nD τ) (ms1_8 t) fullShare ((dat m c).after 8 t) := by
  unfold Dat.leavesExact; rw [show cfg1.idle 8 (cfg1.grid.coords t) = false from (idle1_8 t).trans (decide_eq_false h)]
/-- A buffer the point does not store into is handed back as found. -/
theorem pass1_8 (c : Dev nD) (t : Fin cfg1.N) (h : 14 ≤ t.val % 18) (d) : owns (c : Thread nD τ) (ms1_8 t) fullShare ((dat m c).before 8 t d) ⊢ (dat m c).leavesExact 8 t := by
  by_cases hf : (t.val % 18 ≤ 12 ∨ t.val % 18 = 17)
  · rw [before1_8 m c t h (by omega) d]
    unfold Dat.leavesExact
    rw [show cfg1.idle 8 (cfg1.grid.coords t) = true from (idle1_8 t).trans (decide_eq_true h), (flushes1_8 t).trans (decide_eq_true hf)]
  · rw [(dat m c).leavesExact_idle 8 t ((idle1_8 t).trans (decide_eq_true h)) ((flushes1_8 t).trans (decide_eq_false hf))]
    iintro H; iexists d; iexact H
theorem leaves1_9 (c : Dev nD) (t : Fin cfg1.N) (h : ¬(t.val % 18 ≤ 13 ∨ 16 ≤ t.val % 18)) : (dat m c).leavesExact 9 t = owns (c : Thread nD τ) (ms1_9 t) fullShare ((dat m c).after 9 t) := by
  unfold Dat.leavesExact; rw [show cfg1.idle 9 (cfg1.grid.coords t) = false from (idle1_9 t).trans (decide_eq_false h)]
/-- A buffer the point does not store into is handed back as found. -/
theorem pass1_9 (c : Dev nD) (t : Fin cfg1.N) (h : t.val % 18 ≤ 13 ∨ 16 ≤ t.val % 18) (d) : owns (c : Thread nD τ) (ms1_9 t) fullShare ((dat m c).before 9 t d) ⊢ (dat m c).leavesExact 9 t := by
  by_cases hf : (t.val % 18 = 14 ∨ t.val % 18 = 17)
  · rw [before1_9 m c t h (by omega) d]
    unfold Dat.leavesExact
    rw [show cfg1.idle 9 (cfg1.grid.coords t) = true from (idle1_9 t).trans (decide_eq_true h), (flushes1_9 t).trans (decide_eq_true hf)]
  · rw [(dat m c).leavesExact_idle 9 t ((idle1_9 t).trans (decide_eq_true h)) ((flushes1_9 t).trans (decide_eq_false hf))]
    iintro H; iexists d; iexact H
theorem leaves1_10 (c : Dev nD) (t : Fin cfg1.N) (h : ¬(t.val % 18 ≤ 15)) : (dat m c).leavesExact 10 t = owns (c : Thread nD τ) (ms1_10 t) fullShare ((dat m c).after 10 t) := by
  unfold Dat.leavesExact; rw [show cfg1.idle 10 (cfg1.grid.coords t) = false from (idle1_10 t).trans (decide_eq_false h)]
/-- A buffer the point does not store into is handed back as found. -/
theorem pass1_10 (c : Dev nD) (t : Fin cfg1.N) (h : t.val % 18 ≤ 15) (d) : owns (c : Thread nD τ) (ms1_10 t) fullShare ((dat m c).before 10 t d) ⊢ (dat m c).leavesExact 10 t := by
  by_cases hf : (16 ≤ t.val % 18)
  · exfalso; omega
  · rw [(dat m c).leavesExact_idle 10 t ((idle1_10 t).trans (decide_eq_true h)) ((flushes1_10 t).trans (decide_eq_false hf))]
    iintro H; iexists d; iexact H
theorem leaves1_11 (c : Dev nD) (t : Fin cfg1.N) (h : ¬(t.val % 18 ≠ 0)) : (dat m c).leavesExact 11 t = owns (c : Thread nD τ) (ms1_11 t) fullShare ((dat m c).after 11 t) := by
  unfold Dat.leavesExact; rw [show cfg1.idle 11 (cfg1.grid.coords t) = false from (idle1_11 t).trans (decide_eq_false h)]
/-- A buffer the point does not store into is handed back as found. -/
theorem pass1_11 (c : Dev nD) (t : Fin cfg1.N) (h : t.val % 18 ≠ 0) (d) : owns (c : Thread nD τ) (ms1_11 t) fullShare ((dat m c).before 11 t d) ⊢ (dat m c).leavesExact 11 t := by
  by_cases hf : (t.val % 18 = 17)
  · rw [before1_11 m c t h (by omega) d]
    unfold Dat.leavesExact
    rw [show cfg1.idle 11 (cfg1.grid.coords t) = true from (idle1_11 t).trans (decide_eq_true h), (flushes1_11 t).trans (decide_eq_true hf)]
  · rw [(dat m c).leavesExact_idle 11 t ((idle1_11 t).trans (decide_eq_true h)) ((flushes1_11 t).trans (decide_eq_false hf))]
    iintro H; iexists d; iexact H
theorem leaves1_12 (c : Dev nD) (t : Fin cfg1.N) (h : ¬(t.val % 18 ≠ 0)) : (dat m c).leavesExact 12 t = owns (c : Thread nD τ) (ms1_12 t) fullShare ((dat m c).after 12 t) := by
  unfold Dat.leavesExact; rw [show cfg1.idle 12 (cfg1.grid.coords t) = false from (idle1_12 t).trans (decide_eq_false h)]
/-- A buffer the point does not store into is handed back as found. -/
theorem pass1_12 (c : Dev nD) (t : Fin cfg1.N) (h : t.val % 18 ≠ 0) (d) : owns (c : Thread nD τ) (ms1_12 t) fullShare ((dat m c).before 12 t d) ⊢ (dat m c).leavesExact 12 t := by
  by_cases hf : (t.val % 18 = 17)
  · rw [before1_12 m c t h (by omega) d]
    unfold Dat.leavesExact
    rw [show cfg1.idle 12 (cfg1.grid.coords t) = true from (idle1_12 t).trans (decide_eq_true h), (flushes1_12 t).trans (decide_eq_true hf)]
  · rw [(dat m c).leavesExact_idle 12 t ((idle1_12 t).trans (decide_eq_true h)) ((flushes1_12 t).trans (decide_eq_false hf))]
    iintro H; iexists d; iexact H

/-- What the body is called with at point `t`, the windows one by one, -/
def bodyPre (c : Dev nD) (t : Fin cfg1.N) : sProp 𝕄 :=
  iprop((dat m c).Φ t.castSucc ∗ (dat m c).owesAt () t.castSucc
    ∗ (∃ d, owns (c : Thread nD τ) (ms1_0 t) fullShare ((dat m c).before 0 t d))
    ∗ (∃ d, owns (c : Thread nD τ) (ms1_1 t) fullShare ((dat m c).before 1 t d))
    ∗ (∃ d, owns (c : Thread nD τ) (ms1_2 t) fullShare ((dat m c).before 2 t d))
    ∗ (∃ d, owns (c : Thread nD τ) (ms1_3 t) fullShare ((dat m c).before 3 t d))
    ∗ (∃ d, owns (c : Thread nD τ) (ms1_4 t) fullShare ((dat m c).before 4 t d))
    ∗ (∃ d, owns (c : Thread nD τ) (ms1_5 t) fullShare ((dat m c).before 5 t d))
    ∗ (∃ d, owns (c : Thread nD τ) (ms1_6 t) fullShare ((dat m c).before 6 t d))
    ∗ (∃ d, owns (c : Thread nD τ) (ms1_7 t) fullShare ((dat m c).before 7 t d))
    ∗ (∃ d, owns (c : Thread nD τ) (ms1_8 t) fullShare ((dat m c).before 8 t d))
    ∗ (∃ d, owns (c : Thread nD τ) (ms1_9 t) fullShare ((dat m c).before 9 t d))
    ∗ (∃ d, owns (c : Thread nD τ) (ms1_10 t) fullShare ((dat m c).before 10 t d))
    ∗ (∃ d, owns (c : Thread nD τ) (ms1_11 t) fullShare ((dat m c).before 11 t d))
    ∗ (∃ d, owns (c : Thread nD τ) (ms1_12 t) fullShare ((dat m c).before 12 t d)))

/-- and what it returns. -/
def bodyPost (c : Dev nD) (t : Fin cfg1.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t
    ∗ (dat m c).leavesExact 7 t
    ∗ (dat m c).leavesExact 8 t
    ∗ (dat m c).leavesExact 9 t
    ∗ (dat m c).leavesExact 10 t
    ∗ (dat m c).leavesExact 11 t
    ∗ (dat m c).leavesExact 12 t)

set_option maxHeartbeats 1600000 in
theorem sound_A (c : Dev nD) (t : Fin cfg1.N) (h0 : t.val % 18 = 0) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_row m c t h0]
  rw [leaves1_0, leaves1_1, leaves1_2, leaves1_3, leaves1_4, leaves1_5, leaves1_6, leaves1_7, leaves1_8 m c t (by omega), after1_8, leaves1_11 m c t (by omega), after1_11, leaves1_12 m c t (by omega), after1_12]
  rw [qpt_self (by omega)]
  rw [show qAt m c t = qAtA m c t h0 from dif_pos h0]
  have er := row_self h0
  have cA : ∀ (a : Fin cfg1.N) (h), a = t → codesA m c a h = codesA m c t h0 := fun a h e => by subst e; rfl
  have mA : ∀ (a : Fin cfg1.N) (h), a = t → amaxA m c a h = amaxA m c t h0 := fun a h e => by subst e; rfl
  have xA : ∀ (a : Fin cfg1.N) (h), a = t → cosA m c a h = cosA m c t h0 := fun a h e => by subst e; rfl
  have yA : ∀ (a : Fin cfg1.N) (h), a = t → sinA m c a h = sinA m c t h0 := fun a h e => by subst e; rfl
  have e_codesAt : codesAt m c t = codesA m c t h0 := cA _ _ er
  have e_amaxAt : amaxAt m c t = amaxA m c t h0 := mA _ _ er
  have e_cosAt : cosAt m c t = cosA m c t h0 := xA _ _ er
  have e_sinAt : sinAt m c t = sinA m c t h0 := yA _ _ er
  rw [e_codesAt, e_amaxAt]
  iintro ⟨⟨HΦ, ⟨%ds0, S0⟩, ⟨%ds1, S1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA m c t h0).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexists _; iexact H11
  isplitl [H12]; · iexists _; iexact H12
  isplitl [S0]; · iexists _; iexact S0
  isplitl [S1]; · iexists _; iexact S1
  iintro ⟨H0, H1, H2, H3, H4, H5, H6, H7, ⟨%e8, H8⟩, H9, H10, ⟨%e11, H11⟩, ⟨%e12, H12⟩, ⟨%es0, S0⟩, ⟨%es1, S1⟩⟩
  isplitl [HΦ S0 S1]
  · iapply (Phi_succ m c t)
    isplitl [HΦ]; · iexact HΦ
    rw [e_cosAt, e_sinAt]
    isplitl [S0]
    · unfold cosA owns; iexists _; isplitr
      swap; · iexact S0
      ipureintro; exact View.read_writes_of_cover _ _ _ _ _ (cover_cosA m c t h0)
    unfold sinA owns; iexists _; isplitr
    swap; · iexact S1
    ipureintro; exact View.read_writes_of_cover _ _ _ _ _ (cover_sinA m c t h0)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold qAtA owns; iexists _; isplitr
    swap; · iexact H8
    ipureintro; exact View.read_writes_of_cover _ _ _ _ _ (cover_qAtA m c t h0)
  isplitl [H9]; · iapply (pass1_9 m c t (by omega) d9); iexact H9
  isplitl [H10]; · iapply (pass1_10 m c t (by omega) d10); iexact H10
  isplitl [H11]
  · unfold codesA owns; iexists _; isplitr
    swap; · iexact H11
    ipureintro; exact View.read_writes_of_cover _ _ _ _ _ (cover_codesA m c t h0)
  unfold amaxA owns; iexists _; isplitr
  swap; · iexact H12
  ipureintro; exact View.read_writes_of_cover _ _ _ _ _ (cover_amaxA m c t h0)

set_option maxHeartbeats 1600000 in
theorem sound_B (c : Dev nD) (t : Fin cfg1.N) (h0 : ¬t.val % 18 = 0) (h1 : t.val % 18 ≤ 13) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_inside m c t (by omega)]
  rw [leaves1_0, leaves1_1, leaves1_2, leaves1_3, leaves1_4, leaves1_5, leaves1_6, leaves1_7, leaves1_8 m c t (by omega), after1_8]
  rw [qpt_self (by omega)]
  simp only [before1_11 m c t (by omega) (by omega), after1_11]
  rw [show qAt m c t = qAtB m c t h0 h1 (codesAt m c t) (cosAt m c t) (sinAt m c t) from (dif_neg h0).trans (dif_pos h1)]
  iintro ⟨⟨HΦ, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB m c t h0 h1 (codesAt m c t) (cosAt m c t) (sinAt m c t)).2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  isplitl [S0]; · iexact S0
  isplitl [S1]; · iexact S1
  iintro ⟨H0, H1, H2, H3, H4, H5, H6, H7, ⟨%e8, H8⟩, H9, H10, H11, H12, S0, S1⟩
  isplitl [HΦ S0 S1]
  · iapply (Phi_succ m c t)
    isplitl [HΦ]; · iexact HΦ
    isplitl [S0]; · iexact S0
    iexact S1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold qAtB owns; iexists _; isplitr
    swap; · iexact H8
    ipureintro; exact View.read_writes_of_cover _ _ _ _ _ (cover_qAtB m c t h0 h1 (codesAt m c t) (cosAt m c t) (sinAt m c t))
  isplitl [H9]; · iapply (pass1_9 m c t (by omega) d9); iexact H9
  isplitl [H10]; · iapply (pass1_10 m c t (by omega) d10); iexact H10
  isplitl [H11]
  · iapply (pass1_11 m c t (by omega) d11)
    rw [before1_11 m c t (by omega) (by omega), after1_11]; iexact H11
  iapply (pass1_12 m c t (by omega) d12); iexact H12

set_option maxHeartbeats 1600000 in
theorem sound_C (c : Dev nD) (t : Fin cfg1.N) (h0 : 14 ≤ t.val % 18) (h1 : t.val % 18 ≤ 15) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_inside m c t (by omega)]
  rw [leaves1_0, leaves1_1, leaves1_2, leaves1_3, leaves1_4, leaves1_5, leaves1_6, leaves1_7, leaves1_9 m c t (by omega), after1_9]
  rw [kpt_self h0 h1]
  simp only [before1_11 m c t (by omega) (by omega), after1_11]
  rw [show kAt m c t = kAtC m c t h0 h1 (codesAt m c t) (cosAt m c t) (sinAt m c t) from dif_pos ⟨h0, h1⟩]
  iintro ⟨⟨HΦ, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC m c t h0 h1 (codesAt m c t) (cosAt m c t) (sinAt m c t)).2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [S0]; · iexact S0
  isplitl [S1]; · iexact S1
  iintro ⟨H0, H1, H2, H3, H4, H5, H6, H7, H8, ⟨%e9, H9⟩, H10, H11, H12, S0, S1⟩
  isplitl [HΦ S0 S1]
  · iapply (Phi_succ m c t)
    isplitl [HΦ]; · iexact HΦ
    isplitl [S0]; · iexact S0
    iexact S1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass1_8 m c t (by omega) d8); iexact H8
  isplitl [H9]
  · unfold kAtC owns; iexists _; isplitr
    swap; · iexact H9
    ipureintro; exact View.read_writes_of_cover _ _ _ _ _ (cover_kAtC m c t h0 h1 (codesAt m c t) (cosAt m c t) (sinAt m c t))
  isplitl [H10]; · iapply (pass1_10 m c t (by omega) d10); iexact H10
  isplitl [H11]
  · iapply (pass1_11 m c t (by omega) d11)
    rw [before1_11 m c t (by omega) (by omega), after1_11]; iexact H11
  iapply (pass1_12 m c t (by omega) d12); iexact H12

set_option maxHeartbeats 1600000 in
theorem sound_D (c : Dev nD) (t : Fin cfg1.N) (h0 : 16 ≤ t.val % 18) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_inside m c t (by omega)]
  rw [leaves1_0, leaves1_1, leaves1_2, leaves1_3, leaves1_4, leaves1_5, leaves1_6, leaves1_7, leaves1_10 m c t (by omega), after1_10]
  rw [vpt_self h0]
  simp only [before1_11 m c t (by omega) (by omega), after1_11]
  rw [show vAt m c t = vAtD m c t h0 (codesAt m c t) from dif_pos h0]
  iintro ⟨⟨HΦ, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runD m c t h0 (codesAt m c t)).2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [S0]; · iexact S0
  isplitl [S1]; · iexact S1
  iintro ⟨H0, H1, H2, H3, H4, H5, H6, H7, H8, H9, ⟨%e10, H10⟩, H11, H12, S0, S1⟩
  isplitl [HΦ S0 S1]
  · iapply (Phi_succ m c t)
    isplitl [HΦ]; · iexact HΦ
    isplitl [S0]; · iexact S0
    iexact S1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass1_8 m c t (by omega) d8); iexact H8
  isplitl [H9]; · iapply (pass1_9 m c t (by omega) d9); iexact H9
  isplitl [H10]
  · unfold vAtD owns; iexists _; isplitr
    swap; · iexact H10
    ipureintro; exact View.read_writes_of_cover _ _ _ _ _ (cover_vAtD m c t h0 (codesAt m c t))
  isplitl [H11]
  · iapply (pass1_11 m c t (by omega) d11)
    rw [before1_11 m c t (by omega) (by omega), after1_11]; iexact H11
  iapply (pass1_12 m c t (by omega) d12); iexact H12

theorem sound_body (c : Dev nD) (t : Fin cfg1.N) :
    bodyPre m c t ⊢ wp frame (wpE (defs₀ (F := F)) Variants.none c none) Set.univ (bodyAt1 t) (fun _ => bodyPost m c t) := by
  by_cases h0 : t.val % 18 = 0
  · exact sound_A m c t h0
  by_cases h1 : t.val % 18 ≤ 13
  · exact sound_B m c t h0 h1
  by_cases h2 : t.val % 18 ≤ 15
  · exact sound_C m c t (by omega) h2
  · exact sound_D m c t (by omega)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat m c) (defs₀ (F := F)) Variants.none () Set.univ := fun t => by
  rw [bigSep_W1, bigSep_W1, defs₀_row]
  exact triple_restated (sound_body m c t) rfl .rfl fun _ => .rfl

end Cert.Kernel.Qkv

end
-- ==== Proof.Bits.DownRuns.lean ====
/-
  The first pallas_call (`down`, pipeline 0 of @main): what the run of its body is stated over — the windows' blocks at the
  region's entry, the body's branch conditions in closed form over the grid points, where a window is idle — and the run
  of the body in each of its two cases (first step of a row block, later step), by the executor over the printed skeleton.
  The text is the one generated for this pallas_call alone, stated over any contents at the region's entry.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered
variable (m : Dev nD → Valuation τ sig (Elt F))

/-- Core `c`'s buffers when the region is entered, by TensorCore reference. -/
abbrev V (c : Dev nD) (b : Ref sig .tc) : Buf (Elt F) ((c : Thread nD τ).loc b) := m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 448 := Nat.lt_of_lt_of_eq t.isLt N_0
    have e0 : (grid0.coords t 0).val = t.val / 14 % 32 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 14 :=
  (fun t => by
    have ht : t.val < 448 := Nat.lt_of_lt_of_eq t.isLt N_0
    have e0 : (grid0.coords t 0).val = t.val / 14 % 32 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ 1 ≤ t.val % 14)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x8002000800200080020008002000800200080020008002000800200080020008002000800200080020008002000800200080020008002000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cond0_1 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S512x512 .bf16 := (Memref.whole cc0_stg4_0 : Memref sig .tc .vmem S512x512 .bf16).view
/-- One staging buffer of output window 5, through which its contents are stated (`View.read_writes_of_cover`: the
    choice does not matter). -/
abbrev VO0_5 : View sig .tc .vmem S512x128 .f32 := (Memref.whole cc0_stg5_0 : Memref sig .tc .vmem S512x128 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x18432 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S18432x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 14, … 434: 32 of 448), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) :
    Σ' (L4 : List (View.Piece (Elt F) S512x512 .bf16)), { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 447: 416 of 448), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) :
    Σ' (L4 : List (View.Piece (Elt F) S512x512 .bf16)), { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.Kernel.Down

end
-- ==== Proof.Bits.Down.lean ====
/-
  The first pallas_call (`down`, pipeline 0 of @main): what its outputs' staging buffers hold after each grid point
  (`outsAt0`), the pipeline's proof data over any contents at the region's entry (`dat`), and the body obligation
  (`body_obligation`). The text is the one generated for this pallas_call alone, stated over any contents at the entry.
-/
module

public import proofs.«01_k».proof.Proof.Bits.DownRuns
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core `c`'s buffers when the region is entered
variable (m : Dev nD → Valuation τ sig (Elt F))

/-- Case A's pieces for output 4 tile its block (1 store of `S512x512`, checked by the kernel's evaluation, Lib/Ring.lean `Piece.tiledL`), so they cover it. -/
theorem cover0_A_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) (y : S512x512.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S512x512.size (by sl_kernel_rfl) y

/-- What case A leaves in output 4's staging buffer: its pieces read back over junk. -/
def out0_A_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) : Vec F S512x512 .bf16 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for output 5 tile its block (1 store of `S512x128`, checked by the kernel's evaluation, Lib/Ring.lean `Piece.tiledL`), so they cover it. -/
theorem cover0_A_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) (y : S512x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x128.size (by sl_kernel_rfl) y

/-- What case A leaves in output 5's staging buffer: its pieces read back over junk. -/
def out0_A_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) : Vec F S512x128 .f32 :=
  VO0_5.read (Elt F) (VO0_5.writes (Elt F) VO0_5.junk (kernelRun0_A c i arg2 harg2 arg3 harg3 arg4 harg4 arg5 harg5 arg6 harg6 arg7 harg7 hc0 hc1 x0 x1 x2 x3).2.1)

/-- Case B's pieces for output 4 tile its block (1 store of `S512x512`, checked by the kernel's evaluation, Lib/Ring.lean `Piece.tiledL`), so they cover it. -/
theorem cover0_B_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) (y : S512x512.Idx) :
    ∃ pc ∈ (kernelRun0_B c i arg2 harg2 arg3 harg3 arg4 harg4 arg5 harg5 arg6 harg6 arg7 harg7 hc0 hc1 x0 x1 x2 x3 xo5).1, y ∈ pc.1.set :=
  View.cover_of_tiledL (kernelRun0_B c i arg2 harg2 arg3 harg3 arg4 harg4 arg5 harg5 arg6 harg6 arg7 harg7 hc0 hc1 x0 x1 x2 x3 xo5).1 S512x512.size (by sl_kernel_rfl) y

/-- What case B leaves in output 4's staging buffer: its pieces read back over junk. -/
def out0_B_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) : Vec F S512x512 .bf16 :=
  VO0_4.read (Elt F) (VO0_4.writes (Elt F) VO0_4.junk (kernelRun0_B c i arg2 harg2 arg3 harg3 arg4 harg4 arg5 harg5 arg6 harg6 arg7 harg7 hc0 hc1 x0 x1 x2 x3 xo5).1)

/-- Case B's pieces for output 5 tile its block (1 store of `S512x128`, checked by the kernel's evaluation, Lib/Ring.lean `Piece.tiledL`), so they cover it. -/
theorem cover0_B_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) (y : S512x128.Idx) :
    ∃ pc ∈ (kernelRun0_B c i arg2 harg2 arg3 harg3 arg4 harg4 arg5 harg5 arg6 harg6 arg7 harg7 hc0 hc1 x0 x1 x2 x3 xo5).2.1, y ∈ pc.1.set :=
  View.cover_of_tiledL (kernelRun0_B c i arg2 harg2 arg3 harg3 arg4 harg4 arg5 harg5 arg6 harg6 arg7 harg7 hc0 hc1 x0 x1 x2 x3 xo5).2.1 S512x128.size (by sl_kernel_rfl) y

/-- What case B leaves in output 5's staging buffer: its pieces read back over junk. -/
def out0_B_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) : Vec F S512x128 .f32 :=
  VO0_5.read (Elt F) (VO0_5.writes (Elt F) VO0_5.junk (kernelRun0_B c i arg2 harg2 arg3 harg3 arg4 harg4 arg5 harg5 arg6 harg6 arg7 harg7 hc0 hc1 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x512 .bf16 × Vec F S512x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 14 = 0 then
      if h1 : 1 ≤ (n + 1) % 14 then
        False.elim (by have hN : n + 1 < 448 := lt_of_lt_of_eq hn (show cfg0.N = 448 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : 1 ≤ (n + 1) % 14 then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        False.elim (by have hN : n + 1 < 448 := lt_of_lt_of_eq hn (show cfg0.N = 448 from N_0); omega)

/-- `outsAt0` at a point of case A: that case's contents. -/
theorem outsAt0_A (c : Dev nD) (t : Fin cfg0.N) (h0 : t.val % 14 = 0) (h1 : ¬1 ≤ t.val % 14) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 14 = 0) (h1 : 1 ≤ t.val % 14) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the region on core `c`: the arrays as the region finds them (`V`); after the body at
    point `t` each input's buffer at its block and the outputs' at `outsAt0`; the invariant the scoped buffers the
    pipeline does not stage; nothing owed; full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.scopedRest (Ix := Unit) (Name := ℕ) (U := UR sig nD τ) (Lvl := ℕ) (Val := Elt F) spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat m c).A w = V m c (Pipeline.arrRef spec0 w) := by
  dsimp only [dat]

/-- What the body leaves, window by window (the proof data's `match` reduced by `dsimp`). -/
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = (outsAt0 m c t.val t.isLt).1 := by dsimp only [dat]
theorem after0_5 (c : Dev nD) (t : Fin cfg0.N) : (dat m c).after 5 t = (outsAt0 m c t.val t.isLt).2 := by dsimp only [dat]

/-- Each input's current staging buffer holds its block at every point, fetched there or not (`beforeK_W_of`). -/
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dat m c).after 5 t = (dat m c).after 5 ⟨t.val - 1, by omega⟩ := by
  intro t _ hi _
  have hN : t.val < 448 := lt_of_lt_of_eq t.isLt (show cfg0.N = 448 from N_0)
  rw [after0_5, after0_5]
  by_cases h0 : t.val % 14 = 0
  · by_cases h1 : 1 ≤ t.val % 14
    · exfalso; omega
    · rw [liveAt0_5_A t ((hcond0_0 t).mpr h0) (fun h => h1 ((hcond0_1 t).mp h))] at hi
      exact absurd hi Bool.false_ne_true
  · by_cases h1 : 1 ≤ t.val % 14
    · rw [liveAt0_5_B t (fun h => h0 ((hcond0_0 t).mp h)) ((hcond0_1 t).mpr h1)] at hi
      exact absurd hi Bool.false_ne_true
    · exfalso; omega
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 14 = 0) (h1 : 1 ≤ t.val % 14) (d) :
    (dat m c).before 5 t d = (outsAt0 m c (t.val - 1) (Nat.lt_of_le_of_lt (Nat.sub_le _ _) t.isLt)).2 := by
  rw [Dat.before_out_traj _ 5 rfl (fun _ _ => rfl) (hcarry0_5 m c) t.val t rfl d,
    if_neg (by rw [notFresh0_5_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat m c).Φ t.succ = (dat m c).Φ t.castSucc from rfl,
    show (dat m c).owesAt () t.succ = (dat m c).owesAt () t.castSucc from rfl]
  have hN : t.val < 448 := lt_of_lt_of_eq t.isLt (show cfg0.N = 448 from N_0)
  by_cases h0 : t.val % 14 = 0
  · by_cases h1 : 1 ≤ t.val % 14
    · exfalso; omega
    · rw [show (dat m c).leavesExact 0 t = owns (c : Thread nD τ) (ms0_0 t) fullShare ((dat m c).after 0 t) from by
      unfold Dat.leavesExact; rw [liveAt0_0 t], after0_0]
      rw [show (dat m c).leavesExact 1 t = owns (c : Thread nD τ) (ms0_1 t) fullShare ((dat m c).after 1 t) from by
      unfold Dat.leavesExact; rw [liveAt0_1 t], after0_1]
      rw [show (dat m c).leavesExact 2 t = owns (c : Thread nD τ) (ms0_2 t) fullShare ((dat m c).after 2 t) from by
      unfold Dat.leavesExact; rw [liveAt0_2 t], after0_2]
      rw [show (dat m c).leavesExact 3 t = owns (c : Thread nD τ) (ms0_3 t) fullShare ((dat m c).after 3 t) from by
      unfold Dat.leavesExact; rw [liveAt0_3 t], after0_3]
      rw [show (dat m c).leavesExact 4 t = owns (c : Thread nD τ) (ms0_4 t) fullShare ((dat m c).after 4 t) from by
      unfold Dat.leavesExact; rw [liveAt0_4 t], after0_4]
      rw [show (dat m c).leavesExact 5 t = owns (c : Thread nD τ) (ms0_5 t) fullShare ((dat m c).after 5 t) from by
      unfold Dat.leavesExact; rw [liveAt0_5_A t ((hcond0_0 t).mpr h0) (fun h => h1 ((hcond0_1 t).mp h))], after0_5]
      rw [outsAt0_A m c t h0 h1]
      unfold out0_A_4 out0_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _)
  · by_cases h1 : 1 ≤ t.val % 14
    · rw [show (dat m c).leavesExact 0 t = owns (c : Thread nD τ) (ms0_0 t) fullShare ((dat m c).after 0 t) from by
      unfold Dat.leavesExact; rw [liveAt0_0 t], after0_0]
      rw [show (dat m c).leavesExact 1 t = owns (c : Thread nD τ) (ms0_1 t) fullShare ((dat m c).after 1 t) from by
      unfold Dat.leavesExact; rw [liveAt0_1 t], after0_1]
      rw [show (dat m c).leavesExact 2 t = owns (c : Thread nD τ) (ms0_2 t) fullShare ((dat m c).after 2 t) from by
      unfold Dat.leavesExact; rw [liveAt0_2 t], after0_2]
      rw [show (dat m c).leavesExact 3 t = owns (c : Thread nD τ) (ms0_3 t) fullShare ((dat m c).after 3 t) from by
      unfold Dat.leavesExact; rw [liveAt0_3 t], after0_3]
      rw [show (dat m c).leavesExact 4 t = owns (c : Thread nD τ) (ms0_4 t) fullShare ((dat m c).after 4 t) from by
      unfold Dat.leavesExact; rw [liveAt0_4 t], after0_4]
      rw [show (dat m c).leavesExact 5 t = owns (c : Thread nD τ) (ms0_5 t) fullShare ((dat m c).after 5 t) from by
      unfold Dat.leavesExact; rw [liveAt0_5_B t (fun h => h0 ((hcond0_0 t).mp h)) ((hcond0_1 t).mpr h1)], after0_5]
      rw [outsAt0_B m c t h0 h1]
      simp only [before0_5_B m c t h0 h1]
      unfold out0_B_4 out0_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat m c) (defs₀ (F := F)) Variants.none () Set.univ := fun t => by
  rw [bigSep_W0, bigSep_W0, defs₀_row]
  exact triple_restated (sound_body m c t) rfl .rfl fun _ => .rfl

end Cert.Kernel.Down

end
-- ==== Proof.Bits.Run.lean ====
/-
  The run of the whole program: two pallas_calls with host operations around them.

  Between two items every unscoped buffer of a core is held at a valuation: `W1` after the first host stretch, `W2` after the first
  pallas_call, `W3` after the second stretch, `W4` after the second pallas_call, `W5` at the end. The library's kit for several regions
  (Lib/Pipeline/Regions.lean) is run with one record per region over these valuations (Lib/Pipeline/RegionArraysS.lean).
-/
module

public import proofs.«01_k».proof.Proof.Bits.Down
public import proofs.«01_k».proof.Proof.Gen.Kernel.Regions
public import Idealize.ShloMosaic.Lib.Pipeline.RegionArraysS
public import Idealize.ShloMosaic.Lib.Pipeline.FrameTail
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

/-- The proof data of the second pallas_call with what the run needs of them, over any contents at the region's entry. -/
structure SecondRegion where
  dat : (m : Dev nD → Valuation τ sig (Elt F)) → (c : Dev nD) → Dat τ (Elt F) Unit ℕ (UR sig nD τ) ℕ cfg1 c
  A_eq : ∀ m c w, (dat m c).A w = m c (Proc.devRef .tc (Pipeline.arrRef spec1 w))
  body : ∀ m c, BodyObligation (dat m c) (defs₀ (F := F)) Variants.none () Set.univ
  share : ∀ m c w, (dat m c).share w = fullShare
  owed : ∀ m c t, (dat m c).owed t = 0
  recorded : ∀ m c, (dat m c).recorded 0 = Set.univ
  start : ∀ m c, (Pipeline.scopedRest spec1 c : sProp 𝕄) ⊢ (dat m c).Φ 0
  finish : ∀ m c, (dat m c).Φ (Fin.last cfg1.N) ⊢ (Pipeline.scopedRest spec1 c : sProp 𝕄)

variable (D : SecondRegion (F := F))
variable (m : (ℓ : Loc nD τ sig) → Buf (Elt F) ℓ) (ρ : Dev nD → PrngReg)

/-! ## The contents between items -/

/-- A core's buffers at the launch, -/
abbrev W0 (c : Dev nD) : Valuation τ sig (Elt F) := fun b => m (c, b)
/-- after the first host stretch, -/
abbrev W1 (c : Dev nD) : Valuation τ sig (Elt F) := StableHlo.after hostOps0 (W0 m c)
/-- after the first pallas_call, -/
abbrev W2 (c : Dev nD) : Valuation τ sig (Elt F) := Pipeline.afterRegion (Down.dat (W1 m) c) (W1 m c)
/-- after the second host stretch, -/
abbrev W3 (c : Dev nD) : Valuation τ sig (Elt F) := StableHlo.after hostOps1 (W2 m c)
/-- after the second pallas_call, -/
abbrev W4 (c : Dev nD) : Valuation τ sig (Elt F) := Pipeline.afterRegion (D.dat (W3 m) c) (W3 m c)
/-- at the end. -/
abbrev W5 (c : Dev nD) : Valuation τ sig (Elt F) := StableHlo.after hostOps2 (W4 D m c)

/-- The proof data of the two regions. -/
def pdats : (p : Fin 2) → (c : Dev nD) → Dat τ (Elt F) Unit ℕ (UR sig nD τ) ℕ (cfgs p) c
  | 0 => fun c => Down.dat (W1 m) c
  | 1 => fun c => D.dat (W3 m) c

/-! ## The records -/

/-- The staging waits' index is assigned at every TensorCore cell, at one level. -/
abbrev L : GSem nD τ sig → Finset Unit := fun g => if g.1.2 = .tc then {()} else ∅
abbrev lv : GSem nD τ sig → Unit → ℕ := fun _ _ => 0

/-- What rides beside the buffers: the core owes nothing. -/
abbrev E : Fin 3 → Dev nD → sProp 𝕄 := fun _ c => iprop(∃ W, owes (c : Thread nD τ) (0 : CellTallies nD τ sig Unit) W)

theorem cut (p : Fin 2) : Pipeline.LevelCut (pcfgs (F := F)) adm () L lv p (0 : Dev nD → CellTallies nD τ sig Unit) (fun _ => 0) where
  hι _ _ _ := by simp [L]
  hιb _ _ _ := le_refl _
  hD _ _ _ h := absurd h (lt_irrefl _)

theorem unscoped0 : ∀ w, (Pipeline.arrRef spec0 w).isScoped = false := by decide
theorem unscoped1 : ∀ w, (Pipeline.arrRef spec1 w).isScoped = false := by decide

theorem in0 (c : Dev nD) : iprop(Pipeline.scopedRest spec0 c ∗ (BI.emp : sProp 𝕄)) ⊢ (pdats D m 0 c).Φ 0 := by
  rw [show (pdats D m 0 c).Φ 0 = Pipeline.scopedRest spec0 c from rfl]; exact BI.sep_emp.1
theorem out0 (c : Dev nD) : (pdats D m 0 c).Φ (Fin.last cfg0.N) ⊢ iprop(Pipeline.scopedRest spec0 c ∗ (BI.emp : sProp 𝕄)) := by
  rw [show (pdats D m 0 c).Φ (Fin.last cfg0.N) = Pipeline.scopedRest spec0 c from rfl]; exact BI.sep_emp.2
theorem in1 (c : Dev nD) : iprop(Pipeline.scopedRest spec1 c ∗ (BI.emp : sProp 𝕄)) ⊢ (pdats D m 1 c).Φ 0 := BI.sep_emp.1.trans (D.start (W3 m) c)
theorem out1 (c : Dev nD) : (pdats D m 1 c).Φ (Fin.last cfg1.N) ⊢ iprop(Pipeline.scopedRest spec1 c ∗ (BI.emp : sProp 𝕄)) := (D.finish (W3 m) c).trans BI.sep_emp.2

theorem sub0 : Pipeline.arrRefs (τ := τ) (pcfgs (F := F) 0).spec ⊆ Pipeline.ucRefs τ sig := Pipeline.arrRefs_sub_ucRefs spec0 unscoped0
theorem sub1 : Pipeline.arrRefs (τ := τ) (pcfgs (F := F) 1).spec ⊆ Pipeline.ucRefs τ sig := Pipeline.arrRefs_sub_ucRefs spec1 unscoped1

def R0 : RegionSeg (pcfgs (F := F)) adm (pdats D m) () defs₀ Variants.none L lv 0 :=
  Pipeline.RegionSeg.ofHeldIn (pcfgs (F := F)) adm (pdats D m) () defs₀ Variants.none L lv 0 (0 : Dev nD → CellTallies nD τ sig Unit) (Pipeline.ucRefs τ sig)
    (fun _ => (BI.emp : sProp 𝕄)) (fun _ => (BI.emp : sProp 𝕄)) launch0.toP rfl (fun c => (Down.body_obligation (W1 m) c).loose) (fun _ _ => rfl) (fun _ => rfl) (fun c w => Pipeline.Dat.share_full (Down.dat (W1 m) c) (fun _ => rfl) w)
    (in0 D m) (out0 D m) (fun _ => 0) (cut 0) (fun _ => (BI.emp : sProp 𝕄)) (W1 m) (fun c w => Down.A_eq (W1 m) c w)

def R1 : RegionSeg (pcfgs (F := F)) adm (pdats D m) () defs₀ Variants.none L lv 1 :=
  Pipeline.RegionSeg.ofHeldIn (pcfgs (F := F)) adm (pdats D m) () defs₀ Variants.none L lv 1 (0 : Dev nD → CellTallies nD τ sig Unit) (Pipeline.ucRefs τ sig)
    (fun _ => (BI.emp : sProp 𝕄)) (fun _ => (BI.emp : sProp 𝕄)) launch1.toP rfl (fun c => (D.body (W3 m) c).loose) (fun c => D.owed (W3 m) c) (fun c => D.recorded (W3 m) c) (fun c => D.share (W3 m) c)
    (in1 D m) (out1 D m) (fun _ => 0) (cut 1) (fun _ => (BI.emp : sProp 𝕄)) (W3 m) (fun c w => D.A_eq (W3 m) c w)

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E 0)
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (E 1)
def seg4 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 D m) (E 2)

/-- @main's items as the kit's segments. -/
abbrev segs (c : Dev nD) : List (Seg (pcfgs (F := F)) adm (pdats D m) () defs₀ Variants.none L lv) :=
  [.host (seg0 m), .region (R0 D m), .host (seg2 m), .region (R1 D m), .host (seg4 D m)]

/-! ## The links between the items -/

theorem pre0 (c : Dev nD) : iprop(StableHlo.held (c : Thread nD τ) (Pipeline.ucRefs τ sig) (W1 m c) ∗ (E 0 c : sProp 𝕄)) ⊢ (R0 D m).pre c := by
  unfold R0
  refine .trans ?_ (Pipeline.RegionSeg.ofHeldIn_pre (pcs := pcfgs (F := F)) (p := 0) (hS := sub0) c)
  iintro ⟨H, HO⟩
  isplitl [H]; · iexact H
  isplitl [HO]; · iexact HO
  isplitr <;> iempintro

theorem post0 (c : Dev nD) : (R0 D m).post c ⊢ iprop(StableHlo.held (c : Thread nD τ) (Pipeline.ucRefs τ sig) (W2 m c) ∗ (E 1 c : sProp 𝕄)) := by
  unfold R0
  refine (Pipeline.RegionSeg.ofHeldIn_post (pcs := pcfgs (F := F)) (p := 0) (hS := sub0) c).trans ?_
  iintro ⟨H, HO, -, -⟩
  isplitl [H]; · iexact H
  iexact HO

theorem pre1 (c : Dev nD) : iprop(StableHlo.held (c : Thread nD τ) (Pipeline.ucRefs τ sig) (W3 m c) ∗ (E 1 c : sProp 𝕄)) ⊢ (R1 D m).pre c := by
  unfold R1
  refine .trans ?_ (Pipeline.RegionSeg.ofHeldIn_pre (pcs := pcfgs (F := F)) (p := 1) (hS := sub1) c)
  iintro ⟨H, HO⟩
  isplitl [H]; · iexact H
  isplitl [HO]; · iexact HO
  isplitr <;> iempintro

theorem post1 (c : Dev nD) : (R1 D m).post c ⊢ iprop(StableHlo.held (c : Thread nD τ) (Pipeline.ucRefs τ sig) (W4 D m c) ∗ (E 2 c : sProp 𝕄)) := by
  unfold R1
  refine (Pipeline.RegionSeg.ofHeldIn_post (pcs := pcfgs (F := F)) (p := 1) (hS := sub1) c).trans ?_
  iintro ⟨H, HO, -, -⟩
  isplitl [H]; · iexact H
  iexact HO

/-! ## The run -/

-- the kit's implicit arguments are found by unifying its conclusion with this one, which takes unfolding plain definitions in a metavariable's type
set_option backward.isDefEq.respectTransparency.types false in
/-- Every weakly fair execution of @main terminates with every unscoped buffer of a core at `W5` and every semaphore counter at zero. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = W5 D m c b) ∧ r.2.sem = fun _ => 0) := by
  refine Pipeline.θ_run_regions_kit_dev_sems (pcfgs (F := F)) adm (pdats D m) () cellOf_inj emb₁ defs₀ Variants.none L lv m ρ main
    (segs D m)
    (fun c Q => by
      rewrite [main_chain c, Seg.run_eq_chain,
        show (segs D m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E 0 c))
    (Tₙ := fun c => StableHlo.held (c : Thread nD τ) (Pipeline.ucRefs τ sig) (W5 D m c))
    (hch := fun c => ⟨.rfl, pre0 D m c, post0 D m c, pre1 D m c, post1 D m c, .rfl⟩)
    (hinit := ?_) (QY := fun c s => ∀ b ∈ Pipeline.ucRefs τ sig, s.mem ((c.tc : Thread nD τ).1, b) = W5 D m c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (W0 m c)
        from Pipeline.unscopedBufs_held (Ix := Unit) (Name := ℕ) (U := UR sig nD τ) (Lvl := ℕ) c (W0 m c)]
    iintro ⟨⟨Hh, -, HO, -, Hp, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (W5 D m c) s') $$ [Hh HSI]
    · isplitl [Hh] <;> iassumption
    imodintro; iexact Hr

/-! ## No item writes an argument -/

/-- A buffer that no host stretch writes and no pallas_call has among its results ends as launched. -/
theorem W5_arg (c : Dev nD) (r : Ref sig .tc) (h0 : r ∉ hostOps0_W) (h1 : r ∉ hostOps1_W) (h2 : r ∉ hostOps2_W)
    (k0 : ∀ w, Pipeline.arrRef spec0 w = r → (cfg0.win w).isOut = false) (k1 : ∀ w, Pipeline.arrRef spec1 w = r → (cfg1.win w).isOut = false) :
    W5 D m c (Proc.devRef .tc r) = m ((c : Thread nD τ).loc r) :=
  (StableHlo.after_of_writes_sub hostOps2 _ hostOps2_writes h2).trans <|
  (Pipeline.afterRegion_keeps (D.dat (W3 m) c) (W3 m c) launch1.win.arr_inj (D.A_eq (W3 m) c) r k1).trans <|
  (StableHlo.after_of_writes_sub hostOps1 _ hostOps1_writes h1).trans <|
  (Pipeline.afterRegion_keeps (Down.dat (W1 m) c) (W1 m c) launch0.win.arr_inj (Down.A_eq (W1 m) c) r k0).trans <|
  (StableHlo.after_of_writes_sub hostOps0 _ hostOps0_writes h0).trans rfl

/-- A TensorCore buffer outside the kernels' scopes is among those the run speaks of. -/
theorem mem_ucRefs (b : Ref sig .tc) (hb : b.isScoped = false) : (Proc.devRef .tc b : DevRef τ sig) ∈ Pipeline.ucRefs τ sig := Pipeline.devRef_mem_ucRefs hb

end Cert.Kernel.Run

end
-- ==== Proof.Bits.Frame.lean ====
/-
  The frame of the whole program: the second pallas_call's proof data handed to the run of all items, and the ten arguments read off the
  final contents.
-/
module

public import proofs.«01_k».proof.Proof.Bits.Qkv
public import proofs.«01_k».proof.Proof.Bits.Run

@[expose] public section

set_option maxRecDepth 16384

noncomputable section

namespace Cert.Kernel.Run

open Cert.Kernel Cert.Kernel.Gen
open Idealize.ShloMosaic Idealize.ShloMosaic.TcCoe
open Idealize.SL Idealize.SL.RA Idealize.SL.BI Idealize.SL.Sem
open Idealize.ShloMosaic.Pipeline (Dat Cfg Window BodyObligation)

variable {F : FTy → Type} [FloatOps F]

/-- The second pallas_call's record. -/
def qkv : SecondRegion (F := F) where
  dat m c := Qkv.dat m c
  A_eq m c w := Qkv.A_eq m c w
  body m c := Qkv.body_obligation m c
  share m c w := Pipeline.Dat.share_full (Qkv.dat m c) (fun _ => rfl) w
  owed _ _ _ := rfl
  recorded _ _ := rfl
  start m c := Qkv.start m c
  finish m c := Qkv.finish m c

variable (m : (ℓ : Loc nD τ sig) → Buf (Elt F) ℓ) (ρ : Dev nD → PrngReg)

/-- The final contents. -/
abbrev Wend (c : Dev nD) : Valuation τ sig (Elt F) := W5 qkv m c

/-- Each argument ends as launched. -/
theorem end_arg0 (c : Dev nD) : Wend m c (Proc.devRef .tc main_arg0) = m ((c.tc : Thread nD τ).loc main_arg0) :=
  W5_arg qkv m c main_arg0 (by decide) (by decide) (by decide) (by decide) (by decide)
theorem end_arg1 (c : Dev nD) : Wend m c (Proc.devRef .tc main_arg1) = m ((c.tc : Thread nD τ).loc main_arg1) :=
  W5_arg qkv m c main_arg1 (by decide) (by decide) (by decide) (by decide) (by decide)
theorem end_arg2 (c : Dev nD) : Wend m c (Proc.devRef .tc main_arg2) = m ((c.tc : Thread nD τ).loc main_arg2) :=
  W5_arg qkv m c main_arg2 (by decide) (by decide) (by decide) (by decide) (by decide)
theorem end_arg3 (c : Dev nD) : Wend m c (Proc.devRef .tc main_arg3) = m ((c.tc : Thread nD τ).loc main_arg3) :=
  W5_arg qkv m c main_arg3 (by decide) (by decide) (by decide) (by decide) (by decide)
theorem end_arg4 (c : Dev nD) : Wend m c (Proc.devRef .tc main_arg4) = m ((c.tc : Thread nD τ).loc main_arg4) :=
  W5_arg qkv m c main_arg4 (by decide) (by decide) (by decide) (by decide) (by decide)
theorem end_arg5 (c : Dev nD) : Wend m c (Proc.devRef .tc main_arg5) = m ((c.tc : Thread nD τ).loc main_arg5) :=
  W5_arg qkv m c main_arg5 (by decide) (by decide) (by decide) (by decide) (by decide)
theorem end_arg6 (c : Dev nD) : Wend m c (Proc.devRef .tc main_arg6) = m ((c.tc : Thread nD τ).loc main_arg6) :=
  W5_arg qkv m c main_arg6 (by decide) (by decide) (by decide) (by decide) (by decide)
theorem end_arg7 (c : Dev nD) : Wend m c (Proc.devRef .tc main_arg7) = m ((c.tc : Thread nD τ).loc main_arg7) :=
  W5_arg qkv m c main_arg7 (by decide) (by decide) (by decide) (by decide) (by decide)
theorem end_arg8 (c : Dev nD) : Wend m c (Proc.devRef .tc main_arg8) = m ((c.tc : Thread nD τ).loc main_arg8) :=
  W5_arg qkv m c main_arg8 (by decide) (by decide) (by decide) (by decide) (by decide)
theorem end_arg9 (c : Dev nD) : Wend m c (Proc.devRef .tc main_arg9) = m ((c.tc : Thread nD τ).loc main_arg9) :=
  W5_arg qkv m c main_arg9 (by decide) (by decide) (by decide) (by decide) (by decide)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨
    (h.1 c _ (mem_ucRefs main_arg0 rfl)).trans (end_arg0 m c),
    (h.1 c _ (mem_ucRefs main_arg1 rfl)).trans (end_arg1 m c),
    (h.1 c _ (mem_ucRefs main_arg2 rfl)).trans (end_arg2 m c),
    (h.1 c _ (mem_ucRefs main_arg3 rfl)).trans (end_arg3 m c),
    (h.1 c _ (mem_ucRefs main_arg4 rfl)).trans (end_arg4 m c),
    (h.1 c _ (mem_ucRefs main_arg5 rfl)).trans (end_arg5 m c),
    (h.1 c _ (mem_ucRefs main_arg6 rfl)).trans (end_arg6 m c),
    (h.1 c _ (mem_ucRefs main_arg7 rfl)).trans (end_arg7 m c),
    (h.1 c _ (mem_ucRefs main_arg8 rfl)).trans (end_arg8 m c),
    (h.1 c _ (mem_ucRefs main_arg9 rfl)).trans (end_arg9 m c)⟩, h.2⟩) (run_main qkv m ρ)

end Cert.Kernel.Run

end
-- ==== Proof.Ideal.QkvBase.lean ====
/-
  The second pallas_call (`qkv`, pipeline 1 of @main): what the runs of its body are stated over — the windows' blocks at
  the region's entry, the body's branch conditions in closed form over the grid points, where a window is idle.
  The text is the one generated for this pallas_call alone, stated over any contents at the region's entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of core `c`'s buffers when the region is entered
variable (m : Dev nD → Valuation τ sig (Elt F))

/-- Core `c`'s buffers when the region is entered, by TensorCore reference. -/
abbrev V (c : Dev nD) (b : Ref sig .tc) : Buf (Elt F) ((c : Thread nD τ).loc b) := m c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 18) — by arithmetic of the point. -/
theorem hcond1_0 : ∀ t : Fin cfg1.N, cond1_0 (grid1.coords t) ↔ t.val % 18 = 0 :=
  (fun t => by
    have ht : t.val < 576 := Nat.lt_of_lt_of_eq t.isLt N_1
    have e0 : (grid1.coords t 0).val = t.val / 18 % 32 := Pipeline.Grid.coords_val t 0 (by decide) rfl
    have e1 : (grid1.coords t 1).val = t.val / 1 % 18 := Pipeline.Grid.coords_val t 1 (by decide) rfl
    simp only [cond1_0, k1_cond1, e0, e1]
    word_cmp
   : ∀ t : Fin grid1.N, cond1_0 (grid1.coords t) ↔ t.val % 18 = 0)

/-- The condition of the body's `scf.if` 1 (`k1_h2`), from the grid coordinates (the skeleton's scalar
    chain substituted). -/
abbrev cond1_1 (i : grid1.Coords) : Prop := k1_cond2 i = 1#1
/-- It holds at the points whose coordinates have i1 ≤ 13 — decided over the grid. -/
theorem hcond1_1 : ∀ t : Fin cfg1.N, cond1_1 (grid1.coords t) ↔ t.val % 18 ≤ 13 :=
  (by decide +kernel : ∀ t : Fin grid1.N, cond1_1 (grid1.coords t) ↔ t.val % 18 ≤ 13)

/-- The condition of the body's `scf.if` 2 (`k1_h3`), from the grid coordinates (the skeleton's scalar
    chain substituted). -/
abbrev cond1_2 (i : grid1.Coords) : Prop := k1_cond3 i = 1#1
/-- It holds at the points whose coordinates have 14 ≤ i1 and i1 ≤ 15 — decided over the grid. -/
theorem hcond1_2 : ∀ t : Fin cfg1.N, cond1_2 (grid1.coords t) ↔ (14 ≤ t.val % 18 ∧ t.val % 18 ≤ 15) :=
  (by decide +kernel : ∀ t : Fin grid1.N, cond1_2 (grid1.coords t) ↔ (14 ≤ t.val % 18 ∧ t.val % 18 ≤ 15))

/-- The condition of the body's `scf.if` 3 (`k1_h4`), from the grid coordinates (the skeleton's scalar
    chain substituted). -/
abbrev cond1_3 (i : grid1.Coords) : Prop := k1_cond4 i = 1#1
/-- It holds at the points whose coordinates have 16 ≤ i1 — decided over the grid. -/
theorem hcond1_3 : ∀ t : Fin cfg1.N, cond1_3 (grid1.coords t) ↔ 16 ≤ t.val % 18 :=
  (by decide +kernel : ∀ t : Fin grid1.N, cond1_3 (grid1.coords t) ↔ 16 ≤ t.val % 18)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-! ## The kernel body on any staging memrefs: a subtype the run finds -/

/-- Each window's current staging memref at point `t`, spelled as the pipeline passes it (`bodyAt1`), and its wholeness. -/
abbrev ms1_0 (t : Fin cfg1.N) : Memref sig .tc .smem S2 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x7168 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x7168 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S7168x512 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x7168 .fp8e4m3 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x4x128 .f32 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S512x128 .f32 := Memref.whole cc1_scratch0
abbrev scM1_1 : Memref sig .tc .vmem S512x128 .f32 := Memref.whole cc1_scratch1

end Cert.KernelIdeal.Qkv

end
-- ==== Proof.Ideal.QkvRunB.lean ====
/-
  The run of the second pallas_call's body at a point of case B: the other q tiles.
-/
module

public import proofs.«01_k».proof.Proof.Ideal.QkvBase
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case B (the other q tiles), with the proof that on whole
    staging memrefs the body runs to the continuation holding every other buffer as it was and these with their pieces written. The printed functions are
    their skeletons, which `sl_exec` runs, each branch decided by the case's hypotheses; the pieces are the witness that run finds. -/
noncomputable def kernelRun1_B (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : ¬cond1_0 i) (hc1 : cond1_1 i) (hc2 : ¬cond1_2 i) (hc3 : ¬cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) (x11 : Vec F S512x7168 .fp8e4m3) (xs0 : Vec F S512x128 .f32) (xs1 : Vec F S512x128 .f32) :
    { L8 : List (View.Piece (Elt F) S512x512 .bf16) //
      ∀ (x9 : Vec F S512x512 .bf16) (x10 : Vec F S512x512 .bf16) (x12 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun x9 x10 x12 E K => ?run⟩
  case run =>
    simp only [cc1_qkv_eq_skeleton]; unfold cc1_qkv_skel
    simp only [k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, HS0⟩, ⟨%f14, %hf14, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; isplitr; · ipureintro; exact harg15.read_unread _
      iexact HS0
    iexists _; isplitr; · ipureintro; exact harg16.read_unread _
    iexact HS1

end Cert.KernelIdeal.Qkv

end
-- ==== Proof.Ideal.QkvRunC.lean ====
/-
  The run of the second pallas_call's body at a point of case C: the k tiles.
-/
module

public import proofs.«01_k».proof.Proof.Ideal.QkvRunB
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case C (the k tiles), with the proof that on whole
    staging memrefs the body runs to the continuation holding every other buffer as it was and these with their pieces written. The printed functions are
    their skeletons, which `sl_exec` runs, each branch decided by the case's hypotheses; the pieces are the witness that run finds. -/
noncomputable def kernelRun1_C (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : ¬cond1_0 i) (hc1 : ¬cond1_1 i) (hc2 : cond1_2 i) (hc3 : ¬cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) (x11 : Vec F S512x7168 .fp8e4m3) (xs0 : Vec F S512x128 .f32) (xs1 : Vec F S512x128 .f32) :
    { L9 : List (View.Piece (Elt F) S512x512 .bf16) //
      ∀ (x8 : Vec F S512x512 .bf16) (x10 : Vec F S512x512 .bf16) (x12 : Vec F S1x4x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare x10 ∗ owns (c : Thread nD τ) arg13 fullShare x11 ∗ owns (c : Thread nD τ) arg14 fullShare x12 ∗ owns (c : Thread nD τ) arg15 fullShare xs0 ∗ owns (c : Thread nD τ) arg16 fullShare xs1) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun x8 x10 x12 E K => ?run⟩
  case run =>
    simp only [cc1_qkv_eq_skeleton]; unfold cc1_qkv_skel
    simp only [k1_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, HS0⟩, ⟨%f14, %hf14, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]
    · iexists _; isplitr; · ipureintro; exact harg15.read_unread _
      iexact HS0
    iexists _; isplitr; · ipureintro; exact harg16.read_unread _
    iexact HS1

end Cert.KernelIdeal.Qkv

end
-- ==== Proof.Ideal.QkvRunD.lean ====
/-
  The run of the second pallas_call's body at a point of case D: the v tiles.
-/
module

public import proofs.«01_k».proof.Proof.Ideal.QkvRunC
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case D (the v tiles), with the proof that on whole
    staging memrefs the body runs to the continuation holding every other buffer as it was and these with their pieces written. The printed functions are
    their skeletons, which `sl_exec` runs, each branch decided by the case's hypotheses; the pieces are the witness that run finds. -/
noncomputable def kernelRun1_D (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : ¬cond1_0 i) (hc1 : ¬cond1_1 i) (hc2 : ¬cond1_2 i) (hc3 : cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) (x11 : Vec F S512x7168 .fp8e4m3) :
    { L10 : List (View.Piece (Elt F) S512x512 .bf16) //
      ∀ (x8 : Vec F S512x512 .bf16) (x9 : Vec F S512x512 .bf16) (x12 : Vec F S1x4x128 .f32) (xs0 : Vec F S512x128 .f32) (xs1 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare x11 ∗ owns (c : Thread nD τ) arg14 fullShare x12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare x11 ∗ owns (c : Thread nD τ) arg14 fullShare x12 ∗ owns (c : Thread nD τ) arg15 fullShare xs0 ∗ owns (c : Thread nD τ) arg16 fullShare xs1) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun x8 x9 x12 xs0 xs1 E K => ?run⟩
  case run =>
    simp only [cc1_qkv_eq_skeleton]; unfold cc1_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, HS0⟩, ⟨%f14, %hf14, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [H12]
    · iexists _; isplitr; · ipureintro; exact harg14.read_unread _
      iexact H12
    isplitl [HS0]
    · iexists _; isplitr; · ipureintro; exact harg15.read_unread _
      iexact HS0
    iexists _; isplitr; · ipureintro; exact harg16.read_unread _
    iexact HS1

end Cert.KernelIdeal.Qkv

end
-- ==== Proof.Ideal.QkvRunA.lean ====
/-
  The run of the second pallas_call's body at a point of case A: the first point of a row of blocks: the activations are normalised and encoded, the rotation angles computed, and a q tile made.
-/
module

public import proofs.«01_k».proof.Proof.Ideal.QkvRunD
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: checking it walks past the default budget)
set_option maxHeartbeats 4000000 in
/-- What the body's stores leave in the buffers it stores into, as pieces (last first), at a point of case A (the first point of a row of blocks: the activations are normalised and encoded, the rotation angles computed, and a q tile made), with the proof that on whole
    staging memrefs the body runs to the continuation holding every other buffer as it was and these with their pieces written. The printed functions are
    their skeletons, which `sl_exec` runs, each branch decided by the case's hypotheses; the pieces are the witness that run finds. -/
noncomputable def kernelRun1_A (c : Dev nD) (i : grid1.Coords) (arg2 : Memref sig .tc .smem S2 .f32) (harg2 : arg2.IsWhole) (arg3 : Memref sig .tc .vmem S512x7168 .bf16) (harg3 : arg3.IsWhole) (arg4 : Memref sig .tc .vmem S512x128 .f32) (harg4 : arg4.IsWhole) (arg5 : Memref sig .tc .vmem S1x7168 .f32) (harg5 : arg5.IsWhole) (arg6 : Memref sig .tc .vmem S1x4x128 .i32) (harg6 : arg6.IsWhole) (arg7 : Memref sig .tc .vmem S1x128 .f32) (harg7 : arg7.IsWhole) (arg8 : Memref sig .tc .vmem S1x128 .f32) (harg8 : arg8.IsWhole) (arg9 : Memref sig .tc .vmem S7168x512 .fp8e4m3) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x7168 .fp8e4m3) (harg13 : arg13.IsWhole) (arg14 : Memref sig .tc .vmem S1x4x128 .f32) (harg14 : arg14.IsWhole) (arg15 : Memref sig .tc .vmem S512x128 .f32) (harg15 : arg15.IsWhole) (arg16 : Memref sig .tc .vmem S512x128 .f32) (harg16 : arg16.IsWhole) (hc0 : cond1_0 i) (hc1 : cond1_1 i) (hc2 : ¬cond1_2 i) (hc3 : ¬cond1_3 i)
    (x0 : Vec F S2 .f32) (x1 : Vec F S512x7168 .bf16) (x2 : Vec F S512x128 .f32) (x3 : Vec F S1x7168 .f32) (x4 : Vec F S1x4x128 .i32) (x5 : Vec F S1x128 .f32) (x6 : Vec F S1x128 .f32) (x7 : Vec F S7168x512 .fp8e4m3) :
    Σ' (L8 : List (View.Piece (Elt F) S512x512 .bf16)), Σ' (L11 : List (View.Piece (Elt F) S512x7168 .fp8e4m3)), Σ' (L12 : List (View.Piece (Elt F) S1x4x128 .f32)), Σ' (Ls0 : List (View.Piece (Elt F) S512x128 .f32)), { Ls1 : List (View.Piece (Elt F) S512x128 .f32) //
      ∀ (x9 : Vec F S512x512 .bf16) (x10 : Vec F S512x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f Ls0) ∗ (∃ f, arg16.view.loc (c : Thread nD τ) ↦[arg16.view.set]{fullShare} arg16.view.writes (Elt F) f Ls1)) -∗ K ⟨⟩))
          ⊢ wp frame (wpE (defs₀ (F := F)) Variants.none c none) E (cc1_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun x9 x10 E K => ?run⟩
  case run =>
    simp only [cc1_qkv_eq_skeleton]; unfold cc1_qkv_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%d13, %f13, -, HS0⟩, ⟨%d14, %f14, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [HS0]; · iexists _; iexact HS0
    iexists _; iexact HS1

end Cert.KernelIdeal.Qkv

end
-- ==== Proof.Ideal.Qkv.lean ====
/-
  The second pallas_call (`qkv`): what each buffer holds after each grid point, the pipeline's proof data over any contents at the region's
  entry, and the body obligation.

  A row of blocks is 18 points. Its first point encodes the activations (`codesAt`), their row maxima (`amaxAt`), and the rotation
  angles' cosines and signed sines (`cosAt`, `sinAt`: scratch, carried to the row's other points by the invariant). The points 0..13 make the q
  tiles, 14 and 15 the k tiles, 16 and 17 the v tiles. A window's buffer that a point does not store into holds what the last storing point left.
-/
module

public import proofs.«01_k».proof.Proof.Ideal.QkvRunA
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of core `c`'s buffers when the region is entered
variable (m : Dev nD → Valuation τ sig (Elt F))

/-! ## Closed forms over the points -/

/-- Window 8: the points that leave it idle, -/
theorem idle1_8 : ∀ t : Fin cfg1.N, cfg1.idle 8 (grid1.coords t) = decide (14 ≤ t.val % 18) := by decide +kernel
/-- the points that write it back, -/
theorem flushes1_8 : ∀ t : Fin cfg1.N, (cfg1.win 8).flush t = decide (t.val % 18 ≤ 12 ∨ t.val % 18 = 17) := by
  intro t; rw [Pipeline.Window.flush_eq_flushF]; revert t; decide +kernel
/-- the positions where nothing is stored in it since the last write-back. -/
theorem fresh1_8 (t : Fin cfg1.N) : cfg1.fresh 8 t.val = decide (t.val % 18 ≤ 13) :=
  Pipeline.Cfg.fresh_tab cfg1 8 (fun n => decide (n % 18 ≤ 13)) rfl (fun t => by
    show decide ((t.val + 1) % 18 ≤ 13) = ((cfg1.win 8).flush t || (cfg1.idle 8 (grid1.coords t) && decide (t.val % 18 ≤ 13)))
    rw [flushes1_8, idle1_8, ← Bool.decide_and, ← Bool.decide_or, decide_eq_decide]; omega) t.val (Nat.le_of_lt t.isLt)
/-- Window 9: the points that leave it idle, -/
theorem idle1_9 : ∀ t : Fin cfg1.N, cfg1.idle 9 (grid1.coords t) = decide (t.val % 18 ≤ 13 ∨ 16 ≤ t.val % 18) := by decide +kernel
/-- the points that write it back, -/
theorem flushes1_9 : ∀ t : Fin cfg1.N, (cfg1.win 9).flush t = decide (t.val % 18 = 14 ∨ t.val % 18 = 17) := by
  intro t; rw [Pipeline.Window.flush_eq_flushF]; revert t; decide +kernel
/-- the positions where nothing is stored in it since the last write-back. -/
theorem fresh1_9 (t : Fin cfg1.N) : cfg1.fresh 9 t.val = decide (t.val % 18 ≤ 15) :=
  Pipeline.Cfg.fresh_tab cfg1 9 (fun n => decide (n % 18 ≤ 15)) rfl (fun t => by
    show decide ((t.val + 1) % 18 ≤ 15) = ((cfg1.win 9).flush t || (cfg1.idle 9 (grid1.coords t) && decide (t.val % 18 ≤ 15)))
    rw [flushes1_9, idle1_9, ← Bool.decide_and, ← Bool.decide_or, decide_eq_decide]; omega) t.val (Nat.le_of_lt t.isLt)
/-- Window 10: the points that leave it idle, -/
theorem idle1_10 : ∀ t : Fin cfg1.N, cfg1.idle 10 (grid1.coords t) = decide (t.val % 18 ≤ 15) := by decide +kernel
/-- the points that write it back. -/
theorem flushes1_10 : ∀ t : Fin cfg1.N, (cfg1.win 10).flush t = decide (16 ≤ t.val % 18) := by
  intro t; rw [Pipeline.Window.flush_eq_flushF]; revert t; decide +kernel
/-- Window 11: the points that leave it idle, -/
theorem idle1_11 : ∀ t : Fin cfg1.N, cfg1.idle 11 (grid1.coords t) = decide (t.val % 18 ≠ 0) := by decide +kernel
/-- the points that write it back, -/
theorem flushes1_11 : ∀ t : Fin cfg1.N, (cfg1.win 11).flush t = decide (t.val % 18 = 17) := by
  intro t; rw [Pipeline.Window.flush_eq_flushF]; revert t; decide +kernel
/-- the positions where nothing is stored in it since the last write-back. -/
theorem fresh1_11 (t : Fin cfg1.N) : cfg1.fresh 11 t.val = decide (t.val % 18 = 0) :=
  Pipeline.Cfg.fresh_tab cfg1 11 (fun n => decide (n % 18 = 0)) rfl (fun t => by
    show decide ((t.val + 1) % 18 = 0) = ((cfg1.win 11).flush t || (cfg1.idle 11 (grid1.coords t) && decide (t.val % 18 = 0)))
    rw [flushes1_11, idle1_11, ← Bool.decide_and, ← Bool.decide_or, decide_eq_decide]; omega) t.val (Nat.le_of_lt t.isLt)
/-- Window 12: the points that leave it idle, -/
theorem idle1_12 : ∀ t : Fin cfg1.N, cfg1.idle 12 (grid1.coords t) = decide (t.val % 18 ≠ 0) := by decide +kernel
/-- the points that write it back, -/
theorem flushes1_12 : ∀ t : Fin cfg1.N, (cfg1.win 12).flush t = decide (t.val % 18 = 17) := by
  intro t; rw [Pipeline.Window.flush_eq_flushF]; revert t; decide +kernel
/-- the positions where nothing is stored in it since the last write-back. -/
theorem fresh1_12 (t : Fin cfg1.N) : cfg1.fresh 12 t.val = decide (t.val % 18 = 0) :=
  Pipeline.Cfg.fresh_tab cfg1 12 (fun n => decide (n % 18 = 0)) rfl (fun t => by
    show decide ((t.val + 1) % 18 = 0) = ((cfg1.win 12).flush t || (cfg1.idle 12 (grid1.coords t) && decide (t.val % 18 = 0)))
    rw [flushes1_12, idle1_12, ← Bool.decide_and, ← Bool.decide_or, decide_eq_decide]; omega) t.val (Nat.le_of_lt t.isLt)

/-- The first point of the row of `t`. -/
def row (t : Fin cfg1.N) : Fin cfg1.N := ⟨t.val - t.val % 18, Nat.lt_of_le_of_lt (Nat.sub_le _ _) t.isLt⟩
theorem row_mod (t : Fin cfg1.N) : (row t).val % 18 = 0 := by show (t.val - t.val % 18) % 18 = 0; omega
theorem row_eq {t u : Fin cfg1.N} (h : t.val / 18 = u.val / 18) : row t = row u := Fin.ext (by show t.val - t.val % 18 = u.val - u.val % 18; omega)
theorem row_self {t : Fin cfg1.N} (h : t.val % 18 = 0) : row t = t := Fin.ext (by show t.val - t.val % 18 = t.val; omega)

/-! ## The runs at a point -/

/-- Buffers through which an output's contents are stated (the choice does not matter, `View.read_writes_of_cover`). -/
abbrev VO1_8 : View sig .tc .vmem S512x512 .bf16 := (Memref.whole cc1_stg8_0 : Memref sig .tc .vmem S512x512 .bf16).view
abbrev VO1_9 : View sig .tc .vmem S512x512 .bf16 := (Memref.whole cc1_stg9_0 : Memref sig .tc .vmem S512x512 .bf16).view
abbrev VO1_10 : View sig .tc .vmem S512x512 .bf16 := (Memref.whole cc1_stg10_0 : Memref sig .tc .vmem S512x512 .bf16).view
abbrev VO1_11 : View sig .tc .vmem S512x7168 .fp8e4m3 := (Memref.whole cc1_stg11_0 : Memref sig .tc .vmem S512x7168 .fp8e4m3).view
abbrev VO1_12 : View sig .tc .vmem S1x4x128 .f32 := (Memref.whole cc1_stg12_0 : Memref sig .tc .vmem S1x4x128 .f32).view
abbrev VS1_0 : View sig .tc .vmem S512x128 .f32 := scM1_0.view
abbrev VS1_1 : View sig .tc .vmem S512x128 .f32 := scM1_1.view

/-- The run of case A at a point, on the point's buffers and blocks. -/
def runA (c : Dev nD) (t : Fin cfg1.N) (h0 : t.val % 18 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcond1_0 t).mpr h0) ((hcond1_1 t).mpr (by omega)) (fun h => absurd ((hcond1_2 t).mp h) (by omega)) (fun h => absurd ((hcond1_3 t).mp h) (by omega)) (iblk m c 0 t) (iblk m c 1 t) (iblk m c 2 t) (iblk m c 3 t) (iblk m c 4 t) (iblk m c 5 t) (iblk m c 6 t) (iblk m c 7 t)
/-- The run of case B at a point, on the point's buffers and blocks. -/
def runB (c : Dev nD) (t : Fin cfg1.N) (h0 : ¬t.val % 18 = 0) (h1 : t.val % 18 ≤ 13) (x11 : Vec F S512x7168 .fp8e4m3) (xs0 xs1 : Vec F S512x128 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => h0 ((hcond1_0 t).mp h)) ((hcond1_1 t).mpr h1) (fun h => absurd ((hcond1_2 t).mp h) (by omega)) (fun h => absurd ((hcond1_3 t).mp h) (by omega)) (iblk m c 0 t) (iblk m c 1 t) (iblk m c 2 t) (iblk m c 3 t) (iblk m c 4 t) (iblk m c 5 t) (iblk m c 6 t) (iblk m c 7 t) x11 xs0 xs1
/-- The run of case C at a point, on the point's buffers and blocks. -/
def runC (c : Dev nD) (t : Fin cfg1.N) (h0 : 14 ≤ t.val % 18) (h1 : t.val % 18 ≤ 15) (x11 : Vec F S512x7168 .fp8e4m3) (xs0 xs1 : Vec F S512x128 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => absurd ((hcond1_0 t).mp h) (by omega)) (fun h => absurd ((hcond1_1 t).mp h) (by omega)) ((hcond1_2 t).mpr ⟨h0, h1⟩) (fun h => absurd ((hcond1_3 t).mp h) (by omega)) (iblk m c 0 t) (iblk m c 1 t) (iblk m c 2 t) (iblk m c 3 t) (iblk m c 4 t) (iblk m c 5 t) (iblk m c 6 t) (iblk m c 7 t) x11 xs0 xs1
/-- The run of case D at a point, on the point's buffers and blocks. -/
def runD (c : Dev nD) (t : Fin cfg1.N) (h0 : 16 ≤ t.val % 18) (x11 : Vec F S512x7168 .fp8e4m3) :=
  kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => absurd ((hcond1_0 t).mp h) (by omega)) (fun h => absurd ((hcond1_1 t).mp h) (by omega)) (fun h => absurd ((hcond1_2 t).mp h) (by omega)) ((hcond1_3 t).mpr h0) (iblk m c 0 t) (iblk m c 1 t) (iblk m c 2 t) (iblk m c 3 t) (iblk m c 4 t) (iblk m c 5 t) (iblk m c 6 t) (iblk m c 7 t) x11
/-- What case A leaves there: its pieces read back over junk, -/
def qAtA (c : Dev nD) (t : Fin cfg1.N) (h0 : t.val % 18 = 0) : Vec F S512x512 .bf16 :=
  VO1_8.read (Elt F) (VO1_8.writes (Elt F) VO1_8.junk (runA m c t h0).1)
/-- which tile the buffer. -/
theorem cover_qAtA (c : Dev nD) (t : Fin cfg1.N) (h0 : t.val % 18 = 0) (y : Shape.Idx S512x512) : ∃ pc ∈ (runA m c t h0).1, y ∈ pc.1.set :=
  View.cover_of_tiledL (runA m c t h0).1 S512x128.size (by sl_kernel_rfl) y
/-- What case A leaves there: its pieces read back over junk, -/
def codesA (c : Dev nD) (t : Fin cfg1.N) (h0 : t.val % 18 = 0) : Vec F S512x7168 .fp8e4m3 :=
  VO1_11.read (Elt F) (VO1_11.writes (Elt F) VO1_11.junk (runA m c t h0).2.1)
/-- which tile the buffer. -/
theorem cover_codesA (c : Dev nD) (t : Fin cfg1.N) (h0 : t.val % 18 = 0) (y : Shape.Idx S512x7168) : ∃ pc ∈ (runA m c t h0).2.1, y ∈ pc.1.set :=
  View.cover_of_tiledL (runA m c t h0).2.1 S512x128.size (by sl_kernel_rfl) y
/-- What case A leaves there: its pieces read back over junk, -/
def amaxA (c : Dev nD) (t : Fin cfg1.N) (h0 : t.val % 18 = 0) : Vec F S1x4x128 .f32 :=
  VO1_12.read (Elt F) (VO1_12.writes (Elt F) VO1_12.junk (runA m c t h0).2.2.1)
/-- which tile the buffer. -/
theorem cover_amaxA (c : Dev nD) (t : Fin cfg1.N) (h0 : t.val % 18 = 0) (y : Shape.Idx S1x4x128) : ∃ pc ∈ (runA m c t h0).2.2.1, y ∈ pc.1.set :=
  View.cover_of_tiledL (runA m c t h0).2.2.1 S1x1x128.size (by sl_kernel_rfl) y
/-- What case A leaves there: its pieces read back over junk, -/
def cosA (c : Dev nD) (t : Fin cfg1.N) (h0 : t.val % 18 = 0) : Vec F S512x128 .f32 :=
  VS1_0.read (Elt F) (VS1_0.writes (Elt F) VS1_0.junk (runA m c t h0).2.2.2.1)
/-- which tile the buffer. -/
theorem cover_cosA (c : Dev nD) (t : Fin cfg1.N) (h0 : t.val % 18 = 0) (y : Shape.Idx S512x128) : ∃ pc ∈ (runA m c t h0).2.2.2.1, y ∈ pc.1.set :=
  View.cover_of_tiledL (runA m c t h0).2.2.2.1 S128x128.size (by sl_kernel_rfl) y
/-- What case A leaves there: its pieces read back over junk, -/
def sinA (c : Dev nD) (t : Fin cfg1.N) (h0 : t.val % 18 = 0) : Vec F S512x128 .f32 :=
  VS1_1.read (Elt F) (VS1_1.writes (Elt F) VS1_1.junk (runA m c t h0).2.2.2.2.1)
/-- which tile the buffer. -/
theorem cover_sinA (c : Dev nD) (t : Fin cfg1.N) (h0 : t.val % 18 = 0) (y : Shape.Idx S512x128) : ∃ pc ∈ (runA m c t h0).2.2.2.2.1, y ∈ pc.1.set :=
  View.cover_of_tiledL (runA m c t h0).2.2.2.2.1 S128x128.size (by sl_kernel_rfl) y
/-- What case B leaves there: its pieces read back over junk, -/
def qAtB (c : Dev nD) (t : Fin cfg1.N) (h0 : ¬t.val % 18 = 0) (h1 : t.val % 18 ≤ 13) (x11 : Vec F S512x7168 .fp8e4m3) (xs0 xs1 : Vec F S512x128 .f32) : Vec F S512x512 .bf16 :=
  VO1_8.read (Elt F) (VO1_8.writes (Elt F) VO1_8.junk (runB m c t h0 h1 x11 xs0 xs1).1)
/-- which tile the buffer. -/
theorem cover_qAtB (c : Dev nD) (t : Fin cfg1.N) (h0 : ¬t.val % 18 = 0) (h1 : t.val % 18 ≤ 13) (x11 : Vec F S512x7168 .fp8e4m3) (xs0 xs1 : Vec F S512x128 .f32) (y : Shape.Idx S512x512) : ∃ pc ∈ (runB m c t h0 h1 x11 xs0 xs1).1, y ∈ pc.1.set :=
  View.cover_of_tiledL (runB m c t h0 h1 x11 xs0 xs1).1 S512x128.size (by sl_kernel_rfl) y
/-- What case C leaves there: its pieces read back over junk, -/
def kAtC (c : Dev nD) (t : Fin cfg1.N) (h0 : 14 ≤ t.val % 18) (h1 : t.val % 18 ≤ 15) (x11 : Vec F S512x7168 .fp8e4m3) (xs0 xs1 : Vec F S512x128 .f32) : Vec F S512x512 .bf16 :=
  VO1_9.read (Elt F) (VO1_9.writes (Elt F) VO1_9.junk (runC m c t h0 h1 x11 xs0 xs1).1)
/-- which tile the buffer. -/
theorem cover_kAtC (c : Dev nD) (t : Fin cfg1.N) (h0 : 14 ≤ t.val % 18) (h1 : t.val % 18 ≤ 15) (x11 : Vec F S512x7168 .fp8e4m3) (xs0 xs1 : Vec F S512x128 .f32) (y : Shape.Idx S512x512) : ∃ pc ∈ (runC m c t h0 h1 x11 xs0 xs1).1, y ∈ pc.1.set :=
  View.cover_of_tiledL (runC m c t h0 h1 x11 xs0 xs1).1 S512x128.size (by sl_kernel_rfl) y
/-- What case D leaves there: its pieces read back over junk, -/
def vAtD (c : Dev nD) (t : Fin cfg1.N) (h0 : 16 ≤ t.val % 18) (x11 : Vec F S512x7168 .fp8e4m3) : Vec F S512x512 .bf16 :=
  VO1_10.read (Elt F) (VO1_10.writes (Elt F) VO1_10.junk (runD m c t h0 x11).1)
/-- which tile the buffer. -/
theorem cover_vAtD (c : Dev nD) (t : Fin cfg1.N) (h0 : 16 ≤ t.val % 18) (x11 : Vec F S512x7168 .fp8e4m3) (y : Shape.Idx S512x512) : ∃ pc ∈ (runD m c t h0 x11).1, y ∈ pc.1.set :=
  View.cover_of_tiledL (runD m c t h0 x11).1 S512x512.size (by sl_kernel_rfl) y

/-! ## What the buffers hold after each point -/

/-- The codes, the row maxima and the angles of the row of `t`. -/
def codesAt (c : Dev nD) (t : Fin cfg1.N) : Vec F S512x7168 .fp8e4m3 := codesA m c (row t) (row_mod t)
def amaxAt (c : Dev nD) (t : Fin cfg1.N) : Vec F S1x4x128 .f32 := amaxA m c (row t) (row_mod t)
def cosAt (c : Dev nD) (t : Fin cfg1.N) : Vec F S512x128 .f32 := cosA m c (row t) (row_mod t)
def sinAt (c : Dev nD) (t : Fin cfg1.N) : Vec F S512x128 .f32 := sinA m c (row t) (row_mod t)

theorem codesAt_congr (c : Dev nD) {t u : Fin cfg1.N} (e : row t = row u) : codesAt m c t = codesAt m c u := by
  have : ∀ (a b : Fin cfg1.N) (h h'), a = b → codesA m c a h = codesA m c b h' := fun a b h h' e => by subst e; rfl
  exact this _ _ _ _ e
theorem amaxAt_congr (c : Dev nD) {t u : Fin cfg1.N} (e : row t = row u) : amaxAt m c t = amaxAt m c u := by
  have : ∀ (a b : Fin cfg1.N) (h h'), a = b → amaxA m c a h = amaxA m c b h' := fun a b h h' e => by subst e; rfl
  exact this _ _ _ _ e
theorem cosAt_congr (c : Dev nD) {t u : Fin cfg1.N} (e : row t = row u) : cosAt m c t = cosAt m c u := by
  have : ∀ (a b : Fin cfg1.N) (h h'), a = b → cosA m c a h = cosA m c b h' := fun a b h h' e => by subst e; rfl
  exact this _ _ _ _ e
theorem sinAt_congr (c : Dev nD) {t u : Fin cfg1.N} (e : row t = row u) : sinAt m c t = sinAt m c u := by
  have : ∀ (a b : Fin cfg1.N) (h h'), a = b → sinA m c a h = sinA m c b h' := fun a b h h' e => by subst e; rfl
  exact this _ _ _ _ e

/-- The q tile made at a point, -/
def qAt (c : Dev nD) (t : Fin cfg1.N) : Vec F S512x512 .bf16 :=
  if h0 : t.val % 18 = 0 then qAtA m c t h0
  else if h1 : t.val % 18 ≤ 13 then qAtB m c t h0 h1 (codesAt m c t) (cosAt m c t) (sinAt m c t)
  else VO1_8.read (Elt F) VO1_8.junk
/-- the k tile, -/
def kAt (c : Dev nD) (t : Fin cfg1.N) : Vec F S512x512 .bf16 :=
  if h : 14 ≤ t.val % 18 ∧ t.val % 18 ≤ 15 then kAtC m c t h.1 h.2 (codesAt m c t) (cosAt m c t) (sinAt m c t)
  else VO1_9.read (Elt F) VO1_9.junk
/-- the v tile. -/
def vAt (c : Dev nD) (t : Fin cfg1.N) : Vec F S512x512 .bf16 :=
  if h : 16 ≤ t.val % 18 then vAtD m c t h (codesAt m c t)
  else VO1_10.read (Elt F) VO1_10.junk

theorem row_bound (t : Fin cfg1.N) (j : ℕ) (hj : j < 18) : t.val - t.val % 18 + j < cfg1.N := by
  have hN : t.val < 576 := lt_of_lt_of_eq t.isLt (show cfg1.N = 576 from N_1)
  exact lt_of_lt_of_eq (show _ < 576 by omega) (show cfg1.N = 576 from N_1).symm

/-- The last point up to `t` in its row that makes a q tile, -/
def qpt (t : Fin cfg1.N) : Fin cfg1.N := ⟨t.val - t.val % 18 + min (t.val % 18) 13, row_bound t _ (by omega)⟩
/-- a k tile (before the first, the first), -/
def kpt (t : Fin cfg1.N) : Fin cfg1.N := ⟨t.val - t.val % 18 + max 14 (min (t.val % 18) 15), row_bound t _ (by omega)⟩
/-- a v tile. -/
def vpt (t : Fin cfg1.N) : Fin cfg1.N := ⟨t.val - t.val % 18 + max 16 (t.val % 18), row_bound t _ (by have := Nat.mod_lt t.val (show 0 < 18 by omega); omega)⟩

theorem qpt_self {t : Fin cfg1.N} (h : t.val % 18 ≤ 13) : qpt t = t := Fin.ext (by show t.val - t.val % 18 + min (t.val % 18) 13 = t.val; omega)
theorem kpt_self {t : Fin cfg1.N} (h : 14 ≤ t.val % 18) (h' : t.val % 18 ≤ 15) : kpt t = t := Fin.ext (by show t.val - t.val % 18 + max 14 (min (t.val % 18) 15) = t.val; omega)
theorem vpt_self {t : Fin cfg1.N} (h : 16 ≤ t.val % 18) : vpt t = t := Fin.ext (by show t.val - t.val % 18 + max 16 (t.val % 18) = t.val; omega)

/-- The scoped buffers that are neither staging buffers nor this kernel's scratch, each at some contents: -/
def others (c : Dev nD) : sProp 𝕄 := iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg0_0), ((c : Thread nD τ).loc cc0_stg0_0) ↦{fullShare} f))

/-- The invariant before position `n`: those buffers, and the scratch at the row's angles inside a row, at anything between rows. -/
def Phi (c : Dev nD) (n : Fin (cfg1.N + 1)) : sProp 𝕄 :=
  if h : n.val % 18 = 0 then iprop(others c ∗ (∃ d, owns (c : Thread nD τ) scM1_0 fullShare d) ∗ (∃ d, owns (c : Thread nD τ) scM1_1 fullShare d))
  else iprop(others c ∗ owns (c : Thread nD τ) scM1_0 fullShare (cosAt m c ⟨n.val, by have h1 : cfg1.N = 576 := N_1; have h2 := n.isLt; omega⟩)
    ∗ owns (c : Thread nD τ) scM1_1 fullShare (sinAt m c ⟨n.val, by have h1 : cfg1.N = 576 := N_1; have h2 := n.isLt; omega⟩))

theorem Phi_row (c : Dev nD) (t : Fin cfg1.N) (h : t.val % 18 = 0) :
    Phi m c t.castSucc = iprop(others c ∗ (∃ d, owns (c : Thread nD τ) scM1_0 fullShare d) ∗ (∃ d, owns (c : Thread nD τ) scM1_1 fullShare d)) := dif_pos h
theorem Phi_inside (c : Dev nD) (t : Fin cfg1.N) (h : ¬t.val % 18 = 0) :
    Phi m c t.castSucc = iprop(others c ∗ owns (c : Thread nD τ) scM1_0 fullShare (cosAt m c t) ∗ owns (c : Thread nD τ) scM1_1 fullShare (sinAt m c t)) := dif_neg h
theorem Phi_succ (c : Dev nD) (t : Fin cfg1.N) :
    iprop(others c ∗ owns (c : Thread nD τ) scM1_0 fullShare (cosAt m c t) ∗ owns (c : Thread nD τ) scM1_1 fullShare (sinAt m c t)) ⊢ (Phi m c t.succ : sProp 𝕄) := by
  unfold Phi
  by_cases h : t.succ.val % 18 = 0
  · rw [dif_pos h]
    iintro ⟨H, H0, H1⟩
    isplitl [H]; · iexact H
    isplitl [H0]; · iexists _; iexact H0
    iexists _; iexact H1
  · rw [dif_neg h]
    have e : ∀ h', row (⟨t.succ.val, h'⟩ : Fin cfg1.N) = row t := fun h' => row_eq (by
      show (t.val + 1) / 18 = t.val / 18
      have h2 : ¬(t.val + 1) % 18 = 0 := h
      omega)
    rw [cosAt_congr m c (e _), sinAt_congr m c (e _)]

theorem start (c : Dev nD) : (Pipeline.scopedRest spec1 c : sProp 𝕄) ⊢ Phi m c 0 := by
  rw [scopedRest1_eq, show Phi m c 0 = iprop(others c ∗ (∃ d, owns (c : Thread nD τ) scM1_0 fullShare d) ∗ (∃ d, owns (c : Thread nD τ) scM1_1 fullShare d)) from dif_pos rfl]
  unfold others
  simp only [owns_whole]
  iintro ⟨H0, H1, H2, H3, H4, H5, H6, H7, H8, H9, S0, S1, R⟩
  isplitr [S0 S1]
  · (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9)
    iexact R
  isplitl [S0]; · iexact S0
  iexact S1
theorem finish (c : Dev nD) : Phi m c (Fin.last cfg1.N) ⊢ (Pipeline.scopedRest spec1 c : sProp 𝕄) := by
  rw [scopedRest1_eq, show Phi m c (Fin.last cfg1.N) = iprop(others c ∗ (∃ d, owns (c : Thread nD τ) scM1_0 fullShare d) ∗ (∃ d, owns (c : Thread nD τ) scM1_1 fullShare d)) from
    dif_pos (by show cfg1.N % 18 = 0; rw [show cfg1.N = 576 from N_1])]
  unfold others
  simp only [owns_whole]
  iintro ⟨⟨H0, H1, H2, H3, H4, H5, H6, H7, H8, H9, R⟩, S0, S1⟩
  (isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9)
  isplitl [S0]; · iexact S0
  isplitl [S1]; · iexact S1
  iexact R

/-- The proof data of the region on core `c`. -/
def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qAt m c (qpt t)
    | ⟨9, _⟩ => kAt m c (kpt t)
    | ⟨10, _⟩ => vAt m c (vpt t)
    | ⟨11, _⟩ => codesAt m c t
    | ⟨12, _⟩ => amaxAt m c t
  Φ n := Phi m c n
  q _ := fullShare
  owed _ := 0

theorem A_eq (c : Dev nD) (w : Fin cfg1.W) : (dat m c).A w = V m c (Pipeline.arrRef spec1 w) := by
  dsimp only [dat]

theorem after1_0 (c : Dev nD) (t : Fin cfg1.N) : (dat m c).after 0 t = iblk m c 0 t := by dsimp only [dat]
theorem after1_1 (c : Dev nD) (t : Fin cfg1.N) : (dat m c).after 1 t = iblk m c 1 t := by dsimp only [dat]
theorem after1_2 (c : Dev nD) (t : Fin cfg1.N) : (dat m c).after 2 t = iblk m c 2 t := by dsimp only [dat]
theorem after1_3 (c : Dev nD) (t : Fin cfg1.N) : (dat m c).after 3 t = iblk m c 3 t := by dsimp only [dat]
theorem after1_4 (c : Dev nD) (t : Fin cfg1.N) : (dat m c).after 4 t = iblk m c 4 t := by dsimp only [dat]
theorem after1_5 (c : Dev nD) (t : Fin cfg1.N) : (dat m c).after 5 t = iblk m c 5 t := by dsimp only [dat]
theorem after1_6 (c : Dev nD) (t : Fin cfg1.N) : (dat m c).after 6 t = iblk m c 6 t := by dsimp only [dat]
theorem after1_7 (c : Dev nD) (t : Fin cfg1.N) : (dat m c).after 7 t = iblk m c 7 t := by dsimp only [dat]
theorem after1_8 (c : Dev nD) (t : Fin cfg1.N) : (dat m c).after 8 t = qAt m c (qpt t) := by dsimp only [dat]
theorem after1_9 (c : Dev nD) (t : Fin cfg1.N) : (dat m c).after 9 t = kAt m c (kpt t) := by dsimp only [dat]
theorem after1_10 (c : Dev nD) (t : Fin cfg1.N) : (dat m c).after 10 t = vAt m c (vpt t) := by dsimp only [dat]
theorem after1_11 (c : Dev nD) (t : Fin cfg1.N) : (dat m c).after 11 t = codesAt m c t := by dsimp only [dat]
theorem after1_12 (c : Dev nD) (t : Fin cfg1.N) : (dat m c).after 12 t = amaxAt m c t := by dsimp only [dat]
theorem before1_0 (c : Dev nD) (t : Fin cfg1.N) (d) : (dat m c).before 0 t d = iblk m c 0 t :=
  before1_0_of m (dat m c) (by dsimp only [dat]) (fun t => by dsimp only [dat]) t d
theorem before1_1 (c : Dev nD) (t : Fin cfg1.N) (d) : (dat m c).before 1 t d = iblk m c 1 t :=
  before1_1_of m (dat m c) (by dsimp only [dat]) (fun t => by dsimp only [dat]) t d
theorem before1_2 (c : Dev nD) (t : Fin cfg1.N) (d) : (dat m c).before 2 t d = iblk m c 2 t :=
  before1_2_of m (dat m c) (by dsimp only [dat]) (fun t => by dsimp only [dat]) t d
theorem before1_3 (c : Dev nD) (t : Fin cfg1.N) (d) : (dat m c).before 3 t d = iblk m c 3 t :=
  before1_3_of m (dat m c) (by dsimp only [dat]) (fun t => by dsimp only [dat]) t d
theorem before1_4 (c : Dev nD) (t : Fin cfg1.N) (d) : (dat m c).before 4 t d = iblk m c 4 t :=
  before1_4_of m (dat m c) (by dsimp only [dat]) (fun t => by dsimp only [dat]) t d
theorem before1_5 (c : Dev nD) (t : Fin cfg1.N) (d) : (dat m c).before 5 t d = iblk m c 5 t :=
  before1_5_of m (dat m c) (by dsimp only [dat]) (fun t => by dsimp only [dat]) t d
theorem before1_6 (c : Dev nD) (t : Fin cfg1.N) (d) : (dat m c).before 6 t d = iblk m c 6 t :=
  before1_6_of m (dat m c) (by dsimp only [dat]) (fun t => by dsimp only [dat]) t d
theorem before1_7 (c : Dev nD) (t : Fin cfg1.N) (d) : (dat m c).before 7 t d = iblk m c 7 t :=
  before1_7_of m (dat m c) (by dsimp only [dat]) (fun t => by dsimp only [dat]) t d
theorem carry1_8 (c : Dev nD) (t : Fin cfg1.N) (h0 : t.val ≠ 0) (hi : cfg1.idle 8 (grid1.coords t) = true) (hf : cfg1.fresh 8 t.val = false) :
    (dat m c).after 8 t = (dat m c).after 8 ⟨t.val - 1, by omega⟩ := by
  rw [idle1_8, decide_eq_true_eq] at hi
  rw [fresh1_8, decide_eq_false_iff_not] at hf
  rw [after1_8, after1_8]
  rw [show qpt t = qpt ⟨t.val - 1, by omega⟩ from Fin.ext (by show t.val - t.val % 18 + min (t.val % 18) 13 = t.val - 1 - (t.val - 1) % 18 + min ((t.val - 1) % 18) 13; omega)]
/-- Where something is stored since the last write-back, an idle point finds what the last storing point left. -/
theorem before1_8 (c : Dev nD) (t : Fin cfg1.N) (hi : 14 ≤ t.val % 18) (hf : ¬(t.val % 18 ≤ 13)) (d) : (dat m c).before 8 t d = (dat m c).after 8 t := by
  have hi' : cfg1.idle 8 (grid1.coords t) = true := by rw [idle1_8]; exact decide_eq_true hi
  have hf' : cfg1.fresh 8 t.val = false := by rw [fresh1_8]; exact decide_eq_false hf
  rw [Dat.before_out_traj _ 8 rfl (fun _ _ => rfl) (carry1_8 m c) t.val t rfl d, hf', if_neg Bool.false_ne_true,
    carry1_8 m c t (fun h => by rw [h] at hf; omega) hi' hf']
theorem carry1_9 (c : Dev nD) (t : Fin cfg1.N) (h0 : t.val ≠ 0) (hi : cfg1.idle 9 (grid1.coords t) = true) (hf : cfg1.fresh 9 t.val = false) :
    (dat m c).after 9 t = (dat m c).after 9 ⟨t.val - 1, by omega⟩ := by
  rw [idle1_9, decide_eq_true_eq] at hi
  rw [fresh1_9, decide_eq_false_iff_not] at hf
  rw [after1_9, after1_9]
  rw [show kpt t = kpt ⟨t.val - 1, by omega⟩ from Fin.ext (by show t.val - t.val % 18 + max 14 (min (t.val % 18) 15) = t.val - 1 - (t.val - 1) % 18 + max 14 (min ((t.val - 1) % 18) 15); omega)]
/-- Where something is stored since the last write-back, an idle point finds what the last storing point left. -/
theorem before1_9 (c : Dev nD) (t : Fin cfg1.N) (hi : t.val % 18 ≤ 13 ∨ 16 ≤ t.val % 18) (hf : ¬(t.val % 18 ≤ 15)) (d) : (dat m c).before 9 t d = (dat m c).after 9 t := by
  have hi' : cfg1.idle 9 (grid1.coords t) = true := by rw [idle1_9]; exact decide_eq_true hi
  have hf' : cfg1.fresh 9 t.val = false := by rw [fresh1_9]; exact decide_eq_false hf
  rw [Dat.before_out_traj _ 9 rfl (fun _ _ => rfl) (carry1_9 m c) t.val t rfl d, hf', if_neg Bool.false_ne_true,
    carry1_9 m c t (fun h => by rw [h] at hf; omega) hi' hf']
theorem carry1_11 (c : Dev nD) (t : Fin cfg1.N) (h0 : t.val ≠ 0) (hi : cfg1.idle 11 (grid1.coords t) = true) (hf : cfg1.fresh 11 t.val = false) :
    (dat m c).after 11 t = (dat m c).after 11 ⟨t.val - 1, by omega⟩ := by
  rw [idle1_11, decide_eq_true_eq] at hi
  rw [fresh1_11, decide_eq_false_iff_not] at hf
  rw [after1_11, after1_11]
  exact codesAt_congr m c (row_eq (by show t.val / 18 = (t.val - 1) / 18; omega))
/-- Where something is stored since the last write-back, an idle point finds what the last storing point left. -/
theorem before1_11 (c : Dev nD) (t : Fin cfg1.N) (hi : t.val % 18 ≠ 0) (hf : ¬(t.val % 18 = 0)) (d) : (dat m c).before 11 t d = (dat m c).after 11 t := by
  have hi' : cfg1.idle 11 (grid1.coords t) = true := by rw [idle1_11]; exact decide_eq_true hi
  have hf' : cfg1.fresh 11 t.val = false := by rw [fresh1_11]; exact decide_eq_false hf
  rw [Dat.before_out_traj _ 11 rfl (fun _ _ => rfl) (carry1_11 m c) t.val t rfl d, hf', if_neg Bool.false_ne_true,
    carry1_11 m c t (fun h => by rw [h] at hf; omega) hi' hf']
theorem carry1_12 (c : Dev nD) (t : Fin cfg1.N) (h0 : t.val ≠ 0) (hi : cfg1.idle 12 (grid1.coords t) = true) (hf : cfg1.fresh 12 t.val = false) :
    (dat m c).after 12 t = (dat m c).after 12 ⟨t.val - 1, by omega⟩ := by
  rw [idle1_12, decide_eq_true_eq] at hi
  rw [fresh1_12, decide_eq_false_iff_not] at hf
  rw [after1_12, after1_12]
  exact amaxAt_congr m c (row_eq (by show t.val / 18 = (t.val - 1) / 18; omega))
/-- Where something is stored since the last write-back, an idle point finds what the last storing point left. -/
theorem before1_12 (c : Dev nD) (t : Fin cfg1.N) (hi : t.val % 18 ≠ 0) (hf : ¬(t.val % 18 = 0)) (d) : (dat m c).before 12 t d = (dat m c).after 12 t := by
  have hi' : cfg1.idle 12 (grid1.coords t) = true := by rw [idle1_12]; exact decide_eq_true hi
  have hf' : cfg1.fresh 12 t.val = false := by rw [fresh1_12]; exact decide_eq_false hf
  rw [Dat.before_out_traj _ 12 rfl (fun _ _ => rfl) (carry1_12 m c) t.val t rfl d, hf', if_neg Bool.false_ne_true,
    carry1_12 m c t (fun h => by rw [h] at hf; omega) hi' hf']

/-! ## The body obligation, at a generic point -/

theorem leaves1_0 (c : Dev nD) (t : Fin cfg1.N) : (dat m c).leavesExact 0 t = owns (c : Thread nD τ) (ms1_0 t) fullShare (iblk m c 0 t) := by
  unfold Dat.leavesExact; rw [liveAt1_0 t, after1_0]
theorem leaves1_1 (c : Dev nD) (t : Fin cfg1.N) : (dat m c).leavesExact 1 t = owns (c : Thread nD τ) (ms1_1 t) fullShare (iblk m c 1 t) := by
  unfold Dat.leavesExact; rw [liveAt1_1 t, after1_1]
theorem leaves1_2 (c : Dev nD) (t : Fin cfg1.N) : (dat m c).leavesExact 2 t = owns (c : Thread nD τ) (ms1_2 t) fullShare (iblk m c 2 t) := by
  unfold Dat.leavesExact; rw [liveAt1_2 t, after1_2]
theorem leaves1_3 (c : Dev nD) (t : Fin cfg1.N) : (dat m c).leavesExact 3 t = owns (c : Thread nD τ) (ms1_3 t) fullShare (iblk m c 3 t) := by
  unfold Dat.leavesExact; rw [liveAt1_3 t, after1_3]
theorem leaves1_4 (c : Dev nD) (t : Fin cfg1.N) : (dat m c).leavesExact 4 t = owns (c : Thread nD τ) (ms1_4 t) fullShare (iblk m c 4 t) := by
  unfold Dat.leavesExact; rw [liveAt1_4 t, after1_4]
theorem leaves1_5 (c : Dev nD) (t : Fin cfg1.N) : (dat m c).leavesExact 5 t = owns (c : Thread nD τ) (ms1_5 t) fullShare (iblk m c 5 t) := by
  unfold Dat.leavesExact; rw [liveAt1_5 t, after1_5]
theorem leaves1_6 (c : Dev nD) (t : Fin cfg1.N) : (dat m c).leavesExact 6 t = owns (c : Thread nD τ) (ms1_6 t) fullShare (iblk m c 6 t) := by
  unfold Dat.leavesExact; rw [liveAt1_6 t, after1_6]
theorem leaves1_7 (c : Dev nD) (t : Fin cfg1.N) : (dat m c).leavesExact 7 t = owns (c : Thread nD τ) (ms1_7 t) fullShare (iblk m c 7 t) := by
  unfold Dat.leavesExact; rw [liveAt1_7 t, after1_7]
theorem leaves1_8 (c : Dev nD) (t : Fin cfg1.N) (h : ¬(14 ≤ t.val % 18)) : (dat m c).leavesExact 8 t = owns (c : Thread nD τ) (ms1_8 t) fullShare ((dat m c).after 8 t) := by
  unfold Dat.leavesExact; rw [show cfg1.idle 8 (cfg1.grid.coords t) = false from (idle1_8 t).trans (decide_eq_false h)]
/-- A buffer the point does not store into is handed back as found. -/
theorem pass1_8 (c : Dev nD) (t : Fin cfg1.N) (h : 14 ≤ t.val % 18) (d) : owns (c : Thread nD τ) (ms1_8 t) fullShare ((dat m c).before 8 t d) ⊢ (dat m c).leavesExact 8 t := by
  by_cases hf : (t.val % 18 ≤ 12 ∨ t.val % 18 = 17)
  · rw [before1_8 m c t h (by omega) d]
    unfold Dat.leavesExact
    rw [show cfg1.idle 8 (cfg1.grid.coords t) = true from (idle1_8 t).trans (decide_eq_true h), (flushes1_8 t).trans (decide_eq_true hf)]
  · rw [(dat m c).leavesExact_idle 8 t ((idle1_8 t).trans (decide_eq_true h)) ((flushes1_8 t).trans (decide_eq_false hf))]
    iintro H; iexists d; iexact H
theorem leaves1_9 (c : Dev nD) (t : Fin cfg1.N) (h : ¬(t.val % 18 ≤ 13 ∨ 16 ≤ t.val % 18)) : (dat m c).leavesExact 9 t = owns (c : Thread nD τ) (ms1_9 t) fullShare ((dat m c).after 9 t) := by
  unfold Dat.leavesExact; rw [show cfg1.idle 9 (cfg1.grid.coords t) = false from (idle1_9 t).trans (decide_eq_false h)]
/-- A buffer the point does not store into is handed back as found. -/
theorem pass1_9 (c : Dev nD) (t : Fin cfg1.N) (h : t.val % 18 ≤ 13 ∨ 16 ≤ t.val % 18) (d) : owns (c : Thread nD τ) (ms1_9 t) fullShare ((dat m c).before 9 t d) ⊢ (dat m c).leavesExact 9 t := by
  by_cases hf : (t.val % 18 = 14 ∨ t.val % 18 = 17)
  · rw [before1_9 m c t h (by omega) d]
    unfold Dat.leavesExact
    rw [show cfg1.idle 9 (cfg1.grid.coords t) = true from (idle1_9 t).trans (decide_eq_true h), (flushes1_9 t).trans (decide_eq_true hf)]
  · rw [(dat m c).leavesExact_idle 9 t ((idle1_9 t).trans (decide_eq_true h)) ((flushes1_9 t).trans (decide_eq_false hf))]
    iintro H; iexists d; iexact H
theorem leaves1_10 (c : Dev nD) (t : Fin cfg1.N) (h : ¬(t.val % 18 ≤ 15)) : (dat m c).leavesExact 10 t = owns (c : Thread nD τ) (ms1_10 t) fullShare ((dat m c).after 10 t) := by
  unfold Dat.leavesExact; rw [show cfg1.idle 10 (cfg1.grid.coords t) = false from (idle1_10 t).trans (decide_eq_false h)]
/-- A buffer the point does not store into is handed back as found. -/
theorem pass1_10 (c : Dev nD) (t : Fin cfg1.N) (h : t.val % 18 ≤ 15) (d) : owns (c : Thread nD τ) (ms1_10 t) fullShare ((dat m c).before 10 t d) ⊢ (dat m c).leavesExact 10 t := by
  by_cases hf : (16 ≤ t.val % 18)
  · exfalso; omega
  · rw [(dat m c).leavesExact_idle 10 t ((idle1_10 t).trans (decide_eq_true h)) ((flushes1_10 t).trans (decide_eq_false hf))]
    iintro H; iexists d; iexact H
theorem leaves1_11 (c : Dev nD) (t : Fin cfg1.N) (h : ¬(t.val % 18 ≠ 0)) : (dat m c).leavesExact 11 t = owns (c : Thread nD τ) (ms1_11 t) fullShare ((dat m c).after 11 t) := by
  unfold Dat.leavesExact; rw [show cfg1.idle 11 (cfg1.grid.coords t) = false from (idle1_11 t).trans (decide_eq_false h)]
/-- A buffer the point does not store into is handed back as found. -/
theorem pass1_11 (c : Dev nD) (t : Fin cfg1.N) (h : t.val % 18 ≠ 0) (d) : owns (c : Thread nD τ) (ms1_11 t) fullShare ((dat m c).before 11 t d) ⊢ (dat m c).leavesExact 11 t := by
  by_cases hf : (t.val % 18 = 17)
  · rw [before1_11 m c t h (by omega) d]
    unfold Dat.leavesExact
    rw [show cfg1.idle 11 (cfg1.grid.coords t) = true from (idle1_11 t).trans (decide_eq_true h), (flushes1_11 t).trans (decide_eq_true hf)]
  · rw [(dat m c).leavesExact_idle 11 t ((idle1_11 t).trans (decide_eq_true h)) ((flushes1_11 t).trans (decide_eq_false hf))]
    iintro H; iexists d; iexact H
theorem leaves1_12 (c : Dev nD) (t : Fin cfg1.N) (h : ¬(t.val % 18 ≠ 0)) : (dat m c).leavesExact 12 t = owns (c : Thread nD τ) (ms1_12 t) fullShare ((dat m c).after 12 t) := by
  unfold Dat.leavesExact; rw [show cfg1.idle 12 (cfg1.grid.coords t) = false from (idle1_12 t).trans (decide_eq_false h)]
/-- A buffer the point does not store into is handed back as found. -/
theorem pass1_12 (c : Dev nD) (t : Fin cfg1.N) (h : t.val % 18 ≠ 0) (d) : owns (c : Thread nD τ) (ms1_12 t) fullShare ((dat m c).before 12 t d) ⊢ (dat m c).leavesExact 12 t := by
  by_cases hf : (t.val % 18 = 17)
  · rw [before1_12 m c t h (by omega) d]
    unfold Dat.leavesExact
    rw [show cfg1.idle 12 (cfg1.grid.coords t) = true from (idle1_12 t).trans (decide_eq_true h), (flushes1_12 t).trans (decide_eq_true hf)]
  · rw [(dat m c).leavesExact_idle 12 t ((idle1_12 t).trans (decide_eq_true h)) ((flushes1_12 t).trans (decide_eq_false hf))]
    iintro H; iexists d; iexact H

/-- What the body is called with at point `t`, the windows one by one, -/
def bodyPre (c : Dev nD) (t : Fin cfg1.N) : sProp 𝕄 :=
  iprop((dat m c).Φ t.castSucc ∗ (dat m c).owesAt () t.castSucc
    ∗ (∃ d, owns (c : Thread nD τ) (ms1_0 t) fullShare ((dat m c).before 0 t d))
    ∗ (∃ d, owns (c : Thread nD τ) (ms1_1 t) fullShare ((dat m c).before 1 t d))
    ∗ (∃ d, owns (c : Thread nD τ) (ms1_2 t) fullShare ((dat m c).before 2 t d))
    ∗ (∃ d, owns (c : Thread nD τ) (ms1_3 t) fullShare ((dat m c).before 3 t d))
    ∗ (∃ d, owns (c : Thread nD τ) (ms1_4 t) fullShare ((dat m c).before 4 t d))
    ∗ (∃ d, owns (c : Thread nD τ) (ms1_5 t) fullShare ((dat m c).before 5 t d))
    ∗ (∃ d, owns (c : Thread nD τ) (ms1_6 t) fullShare ((dat m c).before 6 t d))
    ∗ (∃ d, owns (c : Thread nD τ) (ms1_7 t) fullShare ((dat m c).before 7 t d))
    ∗ (∃ d, owns (c : Thread nD τ) (ms1_8 t) fullShare ((dat m c).before 8 t d))
    ∗ (∃ d, owns (c : Thread nD τ) (ms1_9 t) fullShare ((dat m c).before 9 t d))
    ∗ (∃ d, owns (c : Thread nD τ) (ms1_10 t) fullShare ((dat m c).before 10 t d))
    ∗ (∃ d, owns (c : Thread nD τ) (ms1_11 t) fullShare ((dat m c).before 11 t d))
    ∗ (∃ d, owns (c : Thread nD τ) (ms1_12 t) fullShare ((dat m c).before 12 t d)))

/-- and what it returns. -/
def bodyPost (c : Dev nD) (t : Fin cfg1.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t
    ∗ (dat m c).leavesExact 6 t
    ∗ (dat m c).leavesExact 7 t
    ∗ (dat m c).leavesExact 8 t
    ∗ (dat m c).leavesExact 9 t
    ∗ (dat m c).leavesExact 10 t
    ∗ (dat m c).leavesExact 11 t
    ∗ (dat m c).leavesExact 12 t)

set_option maxHeartbeats 1600000 in
theorem sound_A (c : Dev nD) (t : Fin cfg1.N) (h0 : t.val % 18 = 0) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_row m c t h0]
  rw [leaves1_0, leaves1_1, leaves1_2, leaves1_3, leaves1_4, leaves1_5, leaves1_6, leaves1_7, leaves1_8 m c t (by omega), after1_8, leaves1_11 m c t (by omega), after1_11, leaves1_12 m c t (by omega), after1_12]
  rw [qpt_self (by omega)]
  rw [show qAt m c t = qAtA m c t h0 from dif_pos h0]
  have er := row_self h0
  have cA : ∀ (a : Fin cfg1.N) (h), a = t → codesA m c a h = codesA m c t h0 := fun a h e => by subst e; rfl
  have mA : ∀ (a : Fin cfg1.N) (h), a = t → amaxA m c a h = amaxA m c t h0 := fun a h e => by subst e; rfl
  have xA : ∀ (a : Fin cfg1.N) (h), a = t → cosA m c a h = cosA m c t h0 := fun a h e => by subst e; rfl
  have yA : ∀ (a : Fin cfg1.N) (h), a = t → sinA m c a h = sinA m c t h0 := fun a h e => by subst e; rfl
  have e_codesAt : codesAt m c t = codesA m c t h0 := cA _ _ er
  have e_amaxAt : amaxAt m c t = amaxA m c t h0 := mA _ _ er
  have e_cosAt : cosAt m c t = cosA m c t h0 := xA _ _ er
  have e_sinAt : sinAt m c t = sinA m c t h0 := yA _ _ er
  rw [e_codesAt, e_amaxAt]
  iintro ⟨⟨HΦ, ⟨%ds0, S0⟩, ⟨%ds1, S1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA m c t h0).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexists _; iexact H11
  isplitl [H12]; · iexists _; iexact H12
  isplitl [S0]; · iexists _; iexact S0
  isplitl [S1]; · iexists _; iexact S1
  iintro ⟨H0, H1, H2, H3, H4, H5, H6, H7, ⟨%e8, H8⟩, H9, H10, ⟨%e11, H11⟩, ⟨%e12, H12⟩, ⟨%es0, S0⟩, ⟨%es1, S1⟩⟩
  isplitl [HΦ S0 S1]
  · iapply (Phi_succ m c t)
    isplitl [HΦ]; · iexact HΦ
    rw [e_cosAt, e_sinAt]
    isplitl [S0]
    · unfold cosA owns; iexists _; isplitr
      swap; · iexact S0
      ipureintro; exact View.read_writes_of_cover _ _ _ _ _ (cover_cosA m c t h0)
    unfold sinA owns; iexists _; isplitr
    swap; · iexact S1
    ipureintro; exact View.read_writes_of_cover _ _ _ _ _ (cover_sinA m c t h0)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold qAtA owns; iexists _; isplitr
    swap; · iexact H8
    ipureintro; exact View.read_writes_of_cover _ _ _ _ _ (cover_qAtA m c t h0)
  isplitl [H9]; · iapply (pass1_9 m c t (by omega) d9); iexact H9
  isplitl [H10]; · iapply (pass1_10 m c t (by omega) d10); iexact H10
  isplitl [H11]
  · unfold codesA owns; iexists _; isplitr
    swap; · iexact H11
    ipureintro; exact View.read_writes_of_cover _ _ _ _ _ (cover_codesA m c t h0)
  unfold amaxA owns; iexists _; isplitr
  swap; · iexact H12
  ipureintro; exact View.read_writes_of_cover _ _ _ _ _ (cover_amaxA m c t h0)

set_option maxHeartbeats 1600000 in
theorem sound_B (c : Dev nD) (t : Fin cfg1.N) (h0 : ¬t.val % 18 = 0) (h1 : t.val % 18 ≤ 13) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_inside m c t (by omega)]
  rw [leaves1_0, leaves1_1, leaves1_2, leaves1_3, leaves1_4, leaves1_5, leaves1_6, leaves1_7, leaves1_8 m c t (by omega), after1_8]
  rw [qpt_self (by omega)]
  simp only [before1_11 m c t (by omega) (by omega), after1_11]
  rw [show qAt m c t = qAtB m c t h0 h1 (codesAt m c t) (cosAt m c t) (sinAt m c t) from (dif_neg h0).trans (dif_pos h1)]
  iintro ⟨⟨HΦ, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB m c t h0 h1 (codesAt m c t) (cosAt m c t) (sinAt m c t)).2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  isplitl [S0]; · iexact S0
  isplitl [S1]; · iexact S1
  iintro ⟨H0, H1, H2, H3, H4, H5, H6, H7, ⟨%e8, H8⟩, H9, H10, H11, H12, S0, S1⟩
  isplitl [HΦ S0 S1]
  · iapply (Phi_succ m c t)
    isplitl [HΦ]; · iexact HΦ
    isplitl [S0]; · iexact S0
    iexact S1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold qAtB owns; iexists _; isplitr
    swap; · iexact H8
    ipureintro; exact View.read_writes_of_cover _ _ _ _ _ (cover_qAtB m c t h0 h1 (codesAt m c t) (cosAt m c t) (sinAt m c t))
  isplitl [H9]; · iapply (pass1_9 m c t (by omega) d9); iexact H9
  isplitl [H10]; · iapply (pass1_10 m c t (by omega) d10); iexact H10
  isplitl [H11]
  · iapply (pass1_11 m c t (by omega) d11)
    rw [before1_11 m c t (by omega) (by omega), after1_11]; iexact H11
  iapply (pass1_12 m c t (by omega) d12); iexact H12

set_option maxHeartbeats 1600000 in
theorem sound_C (c : Dev nD) (t : Fin cfg1.N) (h0 : 14 ≤ t.val % 18) (h1 : t.val % 18 ≤ 15) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_inside m c t (by omega)]
  rw [leaves1_0, leaves1_1, leaves1_2, leaves1_3, leaves1_4, leaves1_5, leaves1_6, leaves1_7, leaves1_9 m c t (by omega), after1_9]
  rw [kpt_self h0 h1]
  simp only [before1_11 m c t (by omega) (by omega), after1_11]
  rw [show kAt m c t = kAtC m c t h0 h1 (codesAt m c t) (cosAt m c t) (sinAt m c t) from dif_pos ⟨h0, h1⟩]
  iintro ⟨⟨HΦ, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC m c t h0 h1 (codesAt m c t) (cosAt m c t) (sinAt m c t)).2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [S0]; · iexact S0
  isplitl [S1]; · iexact S1
  iintro ⟨H0, H1, H2, H3, H4, H5, H6, H7, H8, ⟨%e9, H9⟩, H10, H11, H12, S0, S1⟩
  isplitl [HΦ S0 S1]
  · iapply (Phi_succ m c t)
    isplitl [HΦ]; · iexact HΦ
    isplitl [S0]; · iexact S0
    iexact S1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass1_8 m c t (by omega) d8); iexact H8
  isplitl [H9]
  · unfold kAtC owns; iexists _; isplitr
    swap; · iexact H9
    ipureintro; exact View.read_writes_of_cover _ _ _ _ _ (cover_kAtC m c t h0 h1 (codesAt m c t) (cosAt m c t) (sinAt m c t))
  isplitl [H10]; · iapply (pass1_10 m c t (by omega) d10); iexact H10
  isplitl [H11]
  · iapply (pass1_11 m c t (by omega) d11)
    rw [before1_11 m c t (by omega) (by omega), after1_11]; iexact H11
  iapply (pass1_12 m c t (by omega) d12); iexact H12

set_option maxHeartbeats 1600000 in
theorem sound_D (c : Dev nD) (t : Fin cfg1.N) (h0 : 16 ≤ t.val % 18) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5, before1_6, before1_7]
  rw [show (dat m c).Φ t.castSucc = Phi m c t.castSucc from rfl, show (dat m c).Φ t.succ = Phi m c t.succ from rfl,
    show (dat m c).owesAt () t.succ = (dat m c).owesAt () t.castSucc from rfl, Phi_inside m c t (by omega)]
  rw [leaves1_0, leaves1_1, leaves1_2, leaves1_3, leaves1_4, leaves1_5, leaves1_6, leaves1_7, leaves1_10 m c t (by omega), after1_10]
  rw [vpt_self h0]
  simp only [before1_11 m c t (by omega) (by omega), after1_11]
  rw [show vAt m c t = vAtD m c t h0 (codesAt m c t) from dif_pos h0]
  iintro ⟨⟨HΦ, S0, S1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runD m c t h0 (codesAt m c t)).2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [S0]; · iexact S0
  isplitl [S1]; · iexact S1
  iintro ⟨H0, H1, H2, H3, H4, H5, H6, H7, H8, H9, ⟨%e10, H10⟩, H11, H12, S0, S1⟩
  isplitl [HΦ S0 S1]
  · iapply (Phi_succ m c t)
    isplitl [HΦ]; · iexact HΦ
    isplitl [S0]; · iexact S0
    iexact S1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (pass1_8 m c t (by omega) d8); iexact H8
  isplitl [H9]; · iapply (pass1_9 m c t (by omega) d9); iexact H9
  isplitl [H10]
  · unfold vAtD owns; iexists _; isplitr
    swap; · iexact H10
    ipureintro; exact View.read_writes_of_cover _ _ _ _ _ (cover_vAtD m c t h0 (codesAt m c t))
  isplitl [H11]
  · iapply (pass1_11 m c t (by omega) d11)
    rw [before1_11 m c t (by omega) (by omega), after1_11]; iexact H11
  iapply (pass1_12 m c t (by omega) d12); iexact H12

theorem sound_body (c : Dev nD) (t : Fin cfg1.N) :
    bodyPre m c t ⊢ wp frame (wpE (defs₀ (F := F)) Variants.none c none) Set.univ (bodyAt1 t) (fun _ => bodyPost m c t) := by
  by_cases h0 : t.val % 18 = 0
  · exact sound_A m c t h0
  by_cases h1 : t.val % 18 ≤ 13
  · exact sound_B m c t h0 h1
  by_cases h2 : t.val % 18 ≤ 15
  · exact sound_C m c t (by omega) h2
  · exact sound_D m c t (by omega)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat m c) (defs₀ (F := F)) Variants.none () Set.univ := fun t => by
  rw [bigSep_W1, bigSep_W1, defs₀_row]
  exact triple_restated (sound_body m c t) rfl .rfl fun _ => .rfl

end Cert.KernelIdeal.Qkv

end
-- ==== Proof.Ideal.DownRuns.lean ====
/-
  The first pallas_call (`down`, pipeline 0 of @main): what the run of its body is stated over — the windows' blocks at the
  region's entry, the body's branch conditions in closed form over the grid points, where a window is idle — and the run
  of the body in each of its two cases (first step of a row block, later step), by the executor over the printed skeleton.
  The text is the one generated for this pallas_call alone, stated over any contents at the region's entry.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of core `c`'s buffers when the region is entered
variable (m : Dev nD → Valuation τ sig (Elt F))

/-- Core `c`'s buffers when the region is entered, by TensorCore reference. -/
abbrev V (c : Dev nD) (b : Ref sig .tc) : Buf (Elt F) ((c : Thread nD τ).loc b) := m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 448 := Nat.lt_of_lt_of_eq t.isLt N_0
    have e0 : (grid0.coords t 0).val = t.val / 14 % 32 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 14 :=
  (fun t => by
    have ht : t.val < 448 := Nat.lt_of_lt_of_eq t.isLt N_0
    have e0 : (grid0.coords t 0).val = t.val / 14 % 32 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ 1 ≤ t.val % 14)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x8002000800200080020008002000800200080020008002000800200080020008002000800200080020008002000800200080020008002000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cond0_1 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S512x512 .bf16 := (Memref.whole cc0_stg4_0 : Memref sig .tc .vmem S512x512 .bf16).view
/-- One staging buffer of output window 5, through which its contents are stated (`View.read_writes_of_cover`: the
    choice does not matter). -/
abbrev VO0_5 : View sig .tc .vmem S512x128 .f32 := (Memref.whole cc0_stg5_0 : Memref sig .tc .vmem S512x128 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x18432 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S18432x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 14, … 434: 32 of 448), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) :
    Σ' (L4 : List (View.Piece (Elt F) S512x512 .bf16)), { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 447: 416 of 448), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) :
    Σ' (L4 : List (View.Piece (Elt F) S512x512 .bf16)), { L5 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

end Cert.KernelIdeal.Down

end
-- ==== Proof.Ideal.Down.lean ====
/-
  The first pallas_call (`down`, pipeline 0 of @main): what its outputs' staging buffers hold after each grid point
  (`outsAt0`), the pipeline's proof data over any contents at the region's entry (`dat`), and the body obligation
  (`body_obligation`). The text is the one generated for this pallas_call alone, stated over any contents at the entry.
-/
module

public import proofs.«01_k».proof.Proof.Ideal.DownRuns
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of core `c`'s buffers when the region is entered
variable (m : Dev nD → Valuation τ sig (Elt F))

/-- Case A's pieces for output 4 tile its block (1 store of `S512x512`, checked by the kernel's evaluation, Lib/Ring.lean `Piece.tiledL`), so they cover it. -/
theorem cover0_A_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) (y : S512x512.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S512x512.size (by sl_kernel_rfl) y

/-- What case A leaves in output 4's staging buffer: its pieces read back over junk. -/
def out0_A_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) : Vec F S512x512 .bf16 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for output 5 tile its block (1 store of `S512x128`, checked by the kernel's evaluation, Lib/Ring.lean `Piece.tiledL`), so they cover it. -/
theorem cover0_A_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) (y : S512x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S512x128.size (by sl_kernel_rfl) y

/-- What case A leaves in output 5's staging buffer: its pieces read back over junk. -/
def out0_A_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : cond0_0 i) (hc1 : ¬cond0_1 i)
    (x0 : Vec F S1 .f32) (x1 : Vec F S512x18432 .fp8e4m3) (x2 : Vec F S18432x512 .fp8e4m3) (x3 : Vec F S512x512 .bf16) : Vec F S512x128 .f32 :=
  VO0_5.read (Elt F) (VO0_5.writes (Elt F) VO0_5.junk (kernelRun0_A c i arg2 harg2 arg3 harg3 arg4 harg4 arg5 harg5 arg6 harg6 arg7 harg7 hc0 hc1 x0 x1 x2 x3).2.1)

/-- Case B's pieces for output 4 tile its block (1 store of `S512x512`, checked by the kernel's evaluation, Lib/Ring.lean `Piece.tiledL`), so they cover it. -/
theorem cover0_B_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) (y : S512x512.Idx) :
    ∃ pc ∈ (kernelRun0_B c i arg2 harg2 arg3 harg3 arg4 harg4 arg5 harg5 arg6 harg6 arg7 harg7 hc0 hc1 x0 x1 x2 x3 xo5).1, y ∈ pc.1.set :=
  View.cover_of_tiledL (kernelRun0_B c i arg2 harg2 arg3 harg3 arg4 harg4 arg5 harg5 arg6 harg6 arg7 harg7 hc0 hc1 x0 x1 x2 x3 xo5).1 S512x512.size (by sl_kernel_rfl) y

/-- What case B leaves in output 4's staging buffer: its pieces read back over junk. -/
def out0_B_4 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) : Vec F S512x512 .bf16 :=
  VO0_4.read (Elt F) (VO0_4.writes (Elt F) VO0_4.junk (kernelRun0_B c i arg2 harg2 arg3 harg3 arg4 harg4 arg5 harg5 arg6 harg6 arg7 harg7 hc0 hc1 x0 x1 x2 x3 xo5).1)

/-- Case B's pieces for output 5 tile its block (1 store of `S512x128`, checked by the kernel's evaluation, Lib/Ring.lean `Piece.tiledL`), so they cover it. -/
theorem cover0_B_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) (y : S512x128.Idx) :
    ∃ pc ∈ (kernelRun0_B c i arg2 harg2 arg3 harg3 arg4 harg4 arg5 harg5 arg6 harg6 arg7 harg7 hc0 hc1 x0 x1 x2 x3 xo5).2.1, y ∈ pc.1.set :=
  View.cover_of_tiledL (kernelRun0_B c i arg2 harg2 arg3 harg3 arg4 harg4 arg5 harg5 arg6 harg6 arg7 harg7 hc0 hc1 x0 x1 x2 x3 xo5).2.1 S512x128.size (by sl_kernel_rfl) y

/-- What case B leaves in output 5's staging buffer: its pieces read back over junk. -/
def out0_B_5 (c : Dev nD) (i : grid0.Coords) (arg2 : Memref sig .tc .smem S1 .f32) (harg2 : arg2.IsWhole) (arg3 : Memref sig .tc .vmem S512x18432 .fp8e4m3) (harg3 : arg3.IsWhole) (arg4 : Memref sig .tc .vmem S18432x512 .fp8e4m3) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (hc0 : ¬cond0_0 i) (hc1 : cond0_1 i)
    (x0 : Vec F S1 .f32) (x1 : Vec F S512x18432 .fp8e4m3) (x2 : Vec F S18432x512 .fp8e4m3) (x3 : Vec F S512x512 .bf16) (xo5 : Vec F S512x128 .f32) : Vec F S512x128 .f32 :=
  VO0_5.read (Elt F) (VO0_5.writes (Elt F) VO0_5.junk (kernelRun0_B c i arg2 harg2 arg3 harg3 arg4 harg4 arg5 harg5 arg6 harg6 arg7 harg7 hc0 hc1 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x512 .bf16 × Vec F S512x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 14 = 0 then
      if h1 : 1 ≤ (n + 1) % 14 then
        False.elim (by have hN : n + 1 < 448 := lt_of_lt_of_eq hn (show cfg0.N = 448 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : 1 ≤ (n + 1) % 14 then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        False.elim (by have hN : n + 1 < 448 := lt_of_lt_of_eq hn (show cfg0.N = 448 from N_0); omega)

/-- `outsAt0` at a point of case A: that case's contents. -/
theorem outsAt0_A (c : Dev nD) (t : Fin cfg0.N) (h0 : t.val % 14 = 0) (h1 : ¬1 ≤ t.val % 14) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 14 = 0) (h1 : 1 ≤ t.val % 14) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the region on core `c`: the arrays as the region finds them (`V`); after the body at
    point `t` each input's buffer at its block and the outputs' at `outsAt0`; the invariant the scoped buffers the
    pipeline does not stage; nothing owed; full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2
  Φ _ := Pipeline.scopedRest (Ix := Unit) (Name := ℕ) (U := UR sig nD τ) (Lvl := ℕ) (Val := Elt F) spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat m c).A w = V m c (Pipeline.arrRef spec0 w) := by
  dsimp only [dat]

/-- What the body leaves, window by window (the proof data's `match` reduced by `dsimp`). -/
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = (outsAt0 m c t.val t.isLt).1 := by dsimp only [dat]
theorem after0_5 (c : Dev nD) (t : Fin cfg0.N) : (dat m c).after 5 t = (outsAt0 m c t.val t.isLt).2 := by dsimp only [dat]

/-- Each input's current staging buffer holds its block at every point, fetched there or not (`beforeK_W_of`). -/
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dat m c).after 5 t = (dat m c).after 5 ⟨t.val - 1, by omega⟩ := by
  intro t _ hi _
  have hN : t.val < 448 := lt_of_lt_of_eq t.isLt (show cfg0.N = 448 from N_0)
  rw [after0_5, after0_5]
  by_cases h0 : t.val % 14 = 0
  · by_cases h1 : 1 ≤ t.val % 14
    · exfalso; omega
    · rw [liveAt0_5_A t ((hcond0_0 t).mpr h0) (fun h => h1 ((hcond0_1 t).mp h))] at hi
      exact absurd hi Bool.false_ne_true
  · by_cases h1 : 1 ≤ t.val % 14
    · rw [liveAt0_5_B t (fun h => h0 ((hcond0_0 t).mp h)) ((hcond0_1 t).mpr h1)] at hi
      exact absurd hi Bool.false_ne_true
    · exfalso; omega
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 14 = 0) (h1 : 1 ≤ t.val % 14) (d) :
    (dat m c).before 5 t d = (outsAt0 m c (t.val - 1) (Nat.lt_of_le_of_lt (Nat.sub_le _ _) t.isLt)).2 := by
  rw [Dat.before_out_traj _ 5 rfl (fun _ _ => rfl) (hcarry0_5 m c) t.val t rfl d,
    if_neg (by rw [notFresh0_5_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t
    ∗ (dat m c).leavesExact 5 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dat m c).Φ t.succ = (dat m c).Φ t.castSucc from rfl,
    show (dat m c).owesAt () t.succ = (dat m c).owesAt () t.castSucc from rfl]
  have hN : t.val < 448 := lt_of_lt_of_eq t.isLt (show cfg0.N = 448 from N_0)
  by_cases h0 : t.val % 14 = 0
  · by_cases h1 : 1 ≤ t.val % 14
    · exfalso; omega
    · rw [show (dat m c).leavesExact 0 t = owns (c : Thread nD τ) (ms0_0 t) fullShare ((dat m c).after 0 t) from by
      unfold Dat.leavesExact; rw [liveAt0_0 t], after0_0]
      rw [show (dat m c).leavesExact 1 t = owns (c : Thread nD τ) (ms0_1 t) fullShare ((dat m c).after 1 t) from by
      unfold Dat.leavesExact; rw [liveAt0_1 t], after0_1]
      rw [show (dat m c).leavesExact 2 t = owns (c : Thread nD τ) (ms0_2 t) fullShare ((dat m c).after 2 t) from by
      unfold Dat.leavesExact; rw [liveAt0_2 t], after0_2]
      rw [show (dat m c).leavesExact 3 t = owns (c : Thread nD τ) (ms0_3 t) fullShare ((dat m c).after 3 t) from by
      unfold Dat.leavesExact; rw [liveAt0_3 t], after0_3]
      rw [show (dat m c).leavesExact 4 t = owns (c : Thread nD τ) (ms0_4 t) fullShare ((dat m c).after 4 t) from by
      unfold Dat.leavesExact; rw [liveAt0_4 t], after0_4]
      rw [show (dat m c).leavesExact 5 t = owns (c : Thread nD τ) (ms0_5 t) fullShare ((dat m c).after 5 t) from by
      unfold Dat.leavesExact; rw [liveAt0_5_A t ((hcond0_0 t).mpr h0) (fun h => h1 ((hcond0_1 t).mp h))], after0_5]
      rw [outsAt0_A m c t h0 h1]
      unfold out0_A_4 out0_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _)
  · by_cases h1 : 1 ≤ t.val % 14
    · rw [show (dat m c).leavesExact 0 t = owns (c : Thread nD τ) (ms0_0 t) fullShare ((dat m c).after 0 t) from by
      unfold Dat.leavesExact; rw [liveAt0_0 t], after0_0]
      rw [show (dat m c).leavesExact 1 t = owns (c : Thread nD τ) (ms0_1 t) fullShare ((dat m c).after 1 t) from by
      unfold Dat.leavesExact; rw [liveAt0_1 t], after0_1]
      rw [show (dat m c).leavesExact 2 t = owns (c : Thread nD τ) (ms0_2 t) fullShare ((dat m c).after 2 t) from by
      unfold Dat.leavesExact; rw [liveAt0_2 t], after0_2]
      rw [show (dat m c).leavesExact 3 t = owns (c : Thread nD τ) (ms0_3 t) fullShare ((dat m c).after 3 t) from by
      unfold Dat.leavesExact; rw [liveAt0_3 t], after0_3]
      rw [show (dat m c).leavesExact 4 t = owns (c : Thread nD τ) (ms0_4 t) fullShare ((dat m c).after 4 t) from by
      unfold Dat.leavesExact; rw [liveAt0_4 t], after0_4]
      rw [show (dat m c).leavesExact 5 t = owns (c : Thread nD τ) (ms0_5 t) fullShare ((dat m c).after 5 t) from by
      unfold Dat.leavesExact; rw [liveAt0_5_B t (fun h => h0 ((hcond0_0 t).mp h)) ((hcond0_1 t).mpr h1)], after0_5]
      rw [outsAt0_B m c t h0 h1]
      simp only [before0_5_B m c t h0 h1]
      unfold out0_B_4 out0_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat m c) (defs₀ (F := F)) Variants.none () Set.univ := fun t => by
  rw [bigSep_W0, bigSep_W0, defs₀_row]
  exact triple_restated (sound_body m c t) rfl .rfl fun _ => .rfl

end Cert.KernelIdeal.Down

end
-- ==== Proof.Ideal.Run.lean ====
/-
  The run of the whole program: two pallas_calls with host operations around them.

  Between two items every unscoped buffer of a core is held at a valuation: `W1` after the first host stretch, `W2` after the first
  pallas_call, `W3` after the second stretch, `W4` after the second pallas_call, `W5` at the end. The library's kit for several regions
  (Lib/Pipeline/Regions.lean) is run with one record per region over these valuations (Lib/Pipeline/RegionArraysS.lean).
-/
module

public import proofs.«01_k».proof.Proof.Ideal.Down
public import proofs.«01_k».proof.Proof.Gen.KernelIdeal.Regions
public import Idealize.ShloMosaic.Lib.Pipeline.RegionArraysS
public import Idealize.ShloMosaic.Lib.Pipeline.FrameTail
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents: the elaborator's structural look recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F] [Named F]

local notation "𝕄" => MT nD τ sig Unit (Elt F) ℕ (UR sig nD τ) ℕ

/-- The proof data of the second pallas_call with what the run needs of them, over any contents at the region's entry. -/
structure SecondRegion where
  dat : (m : Dev nD → Valuation τ sig (Elt F)) → (c : Dev nD) → Dat τ (Elt F) Unit ℕ (UR sig nD τ) ℕ cfg1 c
  A_eq : ∀ m c w, (dat m c).A w = m c (Proc.devRef .tc (Pipeline.arrRef spec1 w))
  body : ∀ m c, BodyObligation (dat m c) (defs₀ (F := F)) Variants.none () Set.univ
  share : ∀ m c w, (dat m c).share w = fullShare
  owed : ∀ m c t, (dat m c).owed t = 0
  recorded : ∀ m c, (dat m c).recorded 0 = Set.univ
  start : ∀ m c, (Pipeline.scopedRest spec1 c : sProp 𝕄) ⊢ (dat m c).Φ 0
  finish : ∀ m c, (dat m c).Φ (Fin.last cfg1.N) ⊢ (Pipeline.scopedRest spec1 c : sProp 𝕄)

variable (D : SecondRegion (F := F))
variable (m : (ℓ : Loc nD τ sig) → Buf (Elt F) ℓ) (ρ : Dev nD → PrngReg)

/-! ## The contents between items -/

/-- A core's buffers at the launch, -/
abbrev W0 (c : Dev nD) : Valuation τ sig (Elt F) := fun b => m (c, b)
/-- after the first host stretch, -/
abbrev W1 (c : Dev nD) : Valuation τ sig (Elt F) := StableHlo.after hostOps0 (W0 m c)
/-- after the first pallas_call, -/
abbrev W2 (c : Dev nD) : Valuation τ sig (Elt F) := Pipeline.afterRegion (Down.dat (W1 m) c) (W1 m c)
/-- after the second host stretch, -/
abbrev W3 (c : Dev nD) : Valuation τ sig (Elt F) := StableHlo.after hostOps1 (W2 m c)
/-- after the second pallas_call, -/
abbrev W4 (c : Dev nD) : Valuation τ sig (Elt F) := Pipeline.afterRegion (D.dat (W3 m) c) (W3 m c)
/-- at the end. -/
abbrev W5 (c : Dev nD) : Valuation τ sig (Elt F) := StableHlo.after hostOps2 (W4 D m c)

/-- The proof data of the two regions. -/
def pdats : (p : Fin 2) → (c : Dev nD) → Dat τ (Elt F) Unit ℕ (UR sig nD τ) ℕ (cfgs p) c
  | 0 => fun c => Down.dat (W1 m) c
  | 1 => fun c => D.dat (W3 m) c

/-! ## The records -/

/-- The staging waits' index is assigned at every TensorCore cell, at one level. -/
abbrev L : GSem nD τ sig → Finset Unit := fun g => if g.1.2 = .tc then {()} else ∅
abbrev lv : GSem nD τ sig → Unit → ℕ := fun _ _ => 0

/-- What rides beside the buffers: the core owes nothing. -/
abbrev E : Fin 3 → Dev nD → sProp 𝕄 := fun _ c => iprop(∃ W, owes (c : Thread nD τ) (0 : CellTallies nD τ sig Unit) W)

theorem cut (p : Fin 2) : Pipeline.LevelCut (pcfgs (F := F)) adm () L lv p (0 : Dev nD → CellTallies nD τ sig Unit) (fun _ => 0) where
  hι _ _ _ := by simp [L]
  hιb _ _ _ := le_refl _
  hD _ _ _ h := absurd h (lt_irrefl _)

theorem unscoped0 : ∀ w, (Pipeline.arrRef spec0 w).isScoped = false := by decide
theorem unscoped1 : ∀ w, (Pipeline.arrRef spec1 w).isScoped = false := by decide

theorem in0 (c : Dev nD) : iprop(Pipeline.scopedRest spec0 c ∗ (BI.emp : sProp 𝕄)) ⊢ (pdats D m 0 c).Φ 0 := by
  rw [show (pdats D m 0 c).Φ 0 = Pipeline.scopedRest spec0 c from rfl]; exact BI.sep_emp.1
theorem out0 (c : Dev nD) : (pdats D m 0 c).Φ (Fin.last cfg0.N) ⊢ iprop(Pipeline.scopedRest spec0 c ∗ (BI.emp : sProp 𝕄)) := by
  rw [show (pdats D m 0 c).Φ (Fin.last cfg0.N) = Pipeline.scopedRest spec0 c from rfl]; exact BI.sep_emp.2
theorem in1 (c : Dev nD) : iprop(Pipeline.scopedRest spec1 c ∗ (BI.emp : sProp 𝕄)) ⊢ (pdats D m 1 c).Φ 0 := BI.sep_emp.1.trans (D.start (W3 m) c)
theorem out1 (c : Dev nD) : (pdats D m 1 c).Φ (Fin.last cfg1.N) ⊢ iprop(Pipeline.scopedRest spec1 c ∗ (BI.emp : sProp 𝕄)) := (D.finish (W3 m) c).trans BI.sep_emp.2

theorem sub0 : Pipeline.arrRefs (τ := τ) (pcfgs (F := F) 0).spec ⊆ Pipeline.ucRefs τ sig := Pipeline.arrRefs_sub_ucRefs spec0 unscoped0
theorem sub1 : Pipeline.arrRefs (τ := τ) (pcfgs (F := F) 1).spec ⊆ Pipeline.ucRefs τ sig := Pipeline.arrRefs_sub_ucRefs spec1 unscoped1

def R0 : RegionSeg (pcfgs (F := F)) adm (pdats D m) () defs₀ Variants.none L lv 0 :=
  Pipeline.RegionSeg.ofHeldIn (pcfgs (F := F)) adm (pdats D m) () defs₀ Variants.none L lv 0 (0 : Dev nD → CellTallies nD τ sig Unit) (Pipeline.ucRefs τ sig)
    (fun _ => (BI.emp : sProp 𝕄)) (fun _ => (BI.emp : sProp 𝕄)) launch0.toP rfl (fun c => (Down.body_obligation (W1 m) c).loose) (fun _ _ => rfl) (fun _ => rfl) (fun c w => Pipeline.Dat.share_full (Down.dat (W1 m) c) (fun _ => rfl) w)
    (in0 D m) (out0 D m) (fun _ => 0) (cut 0) (fun _ => (BI.emp : sProp 𝕄)) (W1 m) (fun c w => Down.A_eq (W1 m) c w)

def R1 : RegionSeg (pcfgs (F := F)) adm (pdats D m) () defs₀ Variants.none L lv 1 :=
  Pipeline.RegionSeg.ofHeldIn (pcfgs (F := F)) adm (pdats D m) () defs₀ Variants.none L lv 1 (0 : Dev nD → CellTallies nD τ sig Unit) (Pipeline.ucRefs τ sig)
    (fun _ => (BI.emp : sProp 𝕄)) (fun _ => (BI.emp : sProp 𝕄)) launch1.toP rfl (fun c => (D.body (W3 m) c).loose) (fun c => D.owed (W3 m) c) (fun c => D.recorded (W3 m) c) (fun c => D.share (W3 m) c)
    (in1 D m) (out1 D m) (fun _ => 0) (cut 1) (fun _ => (BI.emp : sProp 𝕄)) (W3 m) (fun c w => D.A_eq (W3 m) c w)

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E 0)
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (E 1)
def seg4 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 D m) (E 2)

/-- @main's items as the kit's segments. -/
abbrev segs (c : Dev nD) : List (Seg (pcfgs (F := F)) adm (pdats D m) () defs₀ Variants.none L lv) :=
  [.host (seg0 m), .region (R0 D m), .host (seg2 m), .region (R1 D m), .host (seg4 D m)]

/-! ## The links between the items -/

theorem pre0 (c : Dev nD) : iprop(StableHlo.held (c : Thread nD τ) (Pipeline.ucRefs τ sig) (W1 m c) ∗ (E 0 c : sProp 𝕄)) ⊢ (R0 D m).pre c := by
  unfold R0
  refine .trans ?_ (Pipeline.RegionSeg.ofHeldIn_pre (pcs := pcfgs (F := F)) (p := 0) (hS := sub0) c)
  iintro ⟨H, HO⟩
  isplitl [H]; · iexact H
  isplitl [HO]; · iexact HO
  isplitr <;> iempintro

theorem post0 (c : Dev nD) : (R0 D m).post c ⊢ iprop(StableHlo.held (c : Thread nD τ) (Pipeline.ucRefs τ sig) (W2 m c) ∗ (E 1 c : sProp 𝕄)) := by
  unfold R0
  refine (Pipeline.RegionSeg.ofHeldIn_post (pcs := pcfgs (F := F)) (p := 0) (hS := sub0) c).trans ?_
  iintro ⟨H, HO, -, -⟩
  isplitl [H]; · iexact H
  iexact HO

theorem pre1 (c : Dev nD) : iprop(StableHlo.held (c : Thread nD τ) (Pipeline.ucRefs τ sig) (W3 m c) ∗ (E 1 c : sProp 𝕄)) ⊢ (R1 D m).pre c := by
  unfold R1
  refine .trans ?_ (Pipeline.RegionSeg.ofHeldIn_pre (pcs := pcfgs (F := F)) (p := 1) (hS := sub1) c)
  iintro ⟨H, HO⟩
  isplitl [H]; · iexact H
  isplitl [HO]; · iexact HO
  isplitr <;> iempintro

theorem post1 (c : Dev nD) : (R1 D m).post c ⊢ iprop(StableHlo.held (c : Thread nD τ) (Pipeline.ucRefs τ sig) (W4 D m c) ∗ (E 2 c : sProp 𝕄)) := by
  unfold R1
  refine (Pipeline.RegionSeg.ofHeldIn_post (pcs := pcfgs (F := F)) (p := 1) (hS := sub1) c).trans ?_
  iintro ⟨H, HO, -, -⟩
  isplitl [H]; · iexact H
  iexact HO

/-! ## The run -/

-- the kit's implicit arguments are found by unifying its conclusion with this one, which takes unfolding plain definitions in a metavariable's type
set_option backward.isDefEq.respectTransparency.types false in
/-- Every weakly fair execution of @main terminates with every unscoped buffer of a core at `W5` and every semaphore counter at zero. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = W5 D m c b) ∧ r.2.sem = fun _ => 0) := by
  refine Pipeline.θ_run_regions_kit_dev_sems (pcfgs (F := F)) adm (pdats D m) () cellOf_inj emb₁ defs₀ Variants.none L lv m ρ main
    (segs D m)
    (fun c Q => by
      rewrite [main_chain c, Seg.run_eq_chain,
        show (segs D m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E 0 c))
    (Tₙ := fun c => StableHlo.held (c : Thread nD τ) (Pipeline.ucRefs τ sig) (W5 D m c))
    (hch := fun c => ⟨.rfl, pre0 D m c, post0 D m c, pre1 D m c, post1 D m c, .rfl⟩)
    (hinit := ?_) (QY := fun c s => ∀ b ∈ Pipeline.ucRefs τ sig, s.mem ((c.tc : Thread nD τ).1, b) = W5 D m c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (W0 m c)
        from Pipeline.unscopedBufs_held (Ix := Unit) (Name := ℕ) (U := UR sig nD τ) (Lvl := ℕ) c (W0 m c)]
    iintro ⟨⟨Hh, -, HO, -, Hp, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (W5 D m c) s') $$ [Hh HSI]
    · isplitl [Hh] <;> iassumption
    imodintro; iexact Hr

/-! ## No item writes an argument -/

/-- A buffer that no host stretch writes and no pallas_call has among its results ends as launched. -/
theorem W5_arg (c : Dev nD) (r : Ref sig .tc) (h0 : r ∉ hostOps0_W) (h1 : r ∉ hostOps1_W) (h2 : r ∉ hostOps2_W)
    (k0 : ∀ w, Pipeline.arrRef spec0 w = r → (cfg0.win w).isOut = false) (k1 : ∀ w, Pipeline.arrRef spec1 w = r → (cfg1.win w).isOut = false) :
    W5 D m c (Proc.devRef .tc r) = m ((c : Thread nD τ).loc r) :=
  (StableHlo.after_of_writes_sub hostOps2 _ hostOps2_writes h2).trans <|
  (Pipeline.afterRegion_keeps (D.dat (W3 m) c) (W3 m c) launch1.win.arr_inj (D.A_eq (W3 m) c) r k1).trans <|
  (StableHlo.after_of_writes_sub hostOps1 _ hostOps1_writes h1).trans <|
  (Pipeline.afterRegion_keeps (Down.dat (W1 m) c) (W1 m c) launch0.win.arr_inj (Down.A_eq (W1 m) c) r k0).trans <|
  (StableHlo.after_of_writes_sub hostOps0 _ hostOps0_writes h0).trans rfl

/-- A TensorCore buffer outside the kernels' scopes is among those the run speaks of. -/
theorem mem_ucRefs (b : Ref sig .tc) (hb : b.isScoped = false) : (Proc.devRef .tc b : DevRef τ sig) ∈ Pipeline.ucRefs τ sig := Pipeline.devRef_mem_ucRefs hb

end Cert.KernelIdeal.Run

end
-- ==== Proof.Ideal.Frame.lean ====
/-
  The frame of the whole program: the second pallas_call's proof data handed to the run of all items, and the ten arguments read off the
  final contents.
-/
module

public import proofs.«01_k».proof.Proof.Ideal.Qkv
public import proofs.«01_k».proof.Proof.Ideal.Run

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window BodyObligation)

variable {F : FTy → Type} [FloatOps F] [Named F]

/-- The second pallas_call's record. -/
def qkv : SecondRegion (F := F) where
  dat m c := Qkv.dat m c
  A_eq m c w := Qkv.A_eq m c w
  body m c := Qkv.body_obligation m c
  share m c w := Pipeline.Dat.share_full (Qkv.dat m c) (fun _ => rfl) w
  owed _ _ _ := rfl
  recorded _ _ := rfl
  start m c := Qkv.start m c
  finish m c := Qkv.finish m c

variable (m : (ℓ : Loc nD τ sig) → Buf (Elt F) ℓ) (ρ : Dev nD → PrngReg)

/-- The final contents. -/
abbrev Wend (c : Dev nD) : Valuation τ sig (Elt F) := W5 qkv m c

/-- Each argument ends as launched. -/
theorem end_arg0 (c : Dev nD) : Wend m c (Proc.devRef .tc main_arg0) = m ((c.tc : Thread nD τ).loc main_arg0) :=
  W5_arg qkv m c main_arg0 (by decide) (by decide) (by decide) (by decide) (by decide)
theorem end_arg1 (c : Dev nD) : Wend m c (Proc.devRef .tc main_arg1) = m ((c.tc : Thread nD τ).loc main_arg1) :=
  W5_arg qkv m c main_arg1 (by decide) (by decide) (by decide) (by decide) (by decide)
theorem end_arg2 (c : Dev nD) : Wend m c (Proc.devRef .tc main_arg2) = m ((c.tc : Thread nD τ).loc main_arg2) :=
  W5_arg qkv m c main_arg2 (by decide) (by decide) (by decide) (by decide) (by decide)
theorem end_arg3 (c : Dev nD) : Wend m c (Proc.devRef .tc main_arg3) = m ((c.tc : Thread nD τ).loc main_arg3) :=
  W5_arg qkv m c main_arg3 (by decide) (by decide) (by decide) (by decide) (by decide)
theorem end_arg4 (c : Dev nD) : Wend m c (Proc.devRef .tc main_arg4) = m ((c.tc : Thread nD τ).loc main_arg4) :=
  W5_arg qkv m c main_arg4 (by decide) (by decide) (by decide) (by decide) (by decide)
theorem end_arg5 (c : Dev nD) : Wend m c (Proc.devRef .tc main_arg5) = m ((c.tc : Thread nD τ).loc main_arg5) :=
  W5_arg qkv m c main_arg5 (by decide) (by decide) (by decide) (by decide) (by decide)
theorem end_arg6 (c : Dev nD) : Wend m c (Proc.devRef .tc main_arg6) = m ((c.tc : Thread nD τ).loc main_arg6) :=
  W5_arg qkv m c main_arg6 (by decide) (by decide) (by decide) (by decide) (by decide)
theorem end_arg7 (c : Dev nD) : Wend m c (Proc.devRef .tc main_arg7) = m ((c.tc : Thread nD τ).loc main_arg7) :=
  W5_arg qkv m c main_arg7 (by decide) (by decide) (by decide) (by decide) (by decide)
theorem end_arg8 (c : Dev nD) : Wend m c (Proc.devRef .tc main_arg8) = m ((c.tc : Thread nD τ).loc main_arg8) :=
  W5_arg qkv m c main_arg8 (by decide) (by decide) (by decide) (by decide) (by decide)
theorem end_arg9 (c : Dev nD) : Wend m c (Proc.devRef .tc main_arg9) = m ((c.tc : Thread nD τ).loc main_arg9) :=
  W5_arg qkv m c main_arg9 (by decide) (by decide) (by decide) (by decide) (by decide)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨
    (h.1 c _ (mem_ucRefs main_arg0 rfl)).trans (end_arg0 m c),
    (h.1 c _ (mem_ucRefs main_arg1 rfl)).trans (end_arg1 m c),
    (h.1 c _ (mem_ucRefs main_arg2 rfl)).trans (end_arg2 m c),
    (h.1 c _ (mem_ucRefs main_arg3 rfl)).trans (end_arg3 m c),
    (h.1 c _ (mem_ucRefs main_arg4 rfl)).trans (end_arg4 m c),
    (h.1 c _ (mem_ucRefs main_arg5 rfl)).trans (end_arg5 m c),
    (h.1 c _ (mem_ucRefs main_arg6 rfl)).trans (end_arg6 m c),
    (h.1 c _ (mem_ucRefs main_arg7 rfl)).trans (end_arg7 m c),
    (h.1 c _ (mem_ucRefs main_arg8 rfl)).trans (end_arg8 m c),
    (h.1 c _ (mem_ucRefs main_arg9 rfl)).trans (end_arg9 m c)⟩, h.2⟩) (run_main qkv m ρ)

end Cert.KernelIdeal.Run

end
-- ==== Proof.Value.Down.lean ====
/-
  What the first pallas_call leaves in its two result arrays, over the extended reals and over any contents at its entry: the residual sum
  `res + (h · w) · scale`, and per row and lane the sum of its squares over the columns at that lane.
-/
module

public import proofs.«01_k».proof.Proof.Ideal.Down
public import Idealize.ShloMosaic.Lib.Pipeline.ValueKit

@[expose] public section

set_option maxRecDepth 16384

noncomputable section

namespace Cert.KernelIdeal.Down

open Cert.KernelIdeal Cert.KernelIdeal.Gen
open Idealize.ShloMosaic Idealize.ShloMosaic.TcCoe Idealize.SL.Sem
open Idealize.ShloMosaic.Pipeline (Dat)

variable (m : Dev nD → Valuation τ sig (Elt Ideal))

/-- The residual sum, over the region's four operand arrays. -/
def resid (sc : FVec Ideal S1 .f32) (h : FVec Ideal S16384x18432 .fp8e4m3) (w : FVec Ideal S18432x7168 .fp8e4m3)
    (res : FVec Ideal S16384x7168 .bf16) (r : Fin 16384) (d : Fin 7168) : EReal :=
  res (ix2 r d) + (∑ k : Fin 18432, h (ix2 r k) * w (ix2 k d)) * sc (ix1 0)

theorem idx : ∀ t : Fin cfg0.N, win0_0.index t = ![0] ∧ win0_1.index t = ![t.val / 14, 0] ∧ win0_2.index t = ![0, t.val % 14]
    ∧ win0_3.index t = ![t.val / 14, t.val % 14] ∧ win0_4.index t = ![t.val / 14, t.val % 14] ∧ win0_5.index t = ![t.val / 14, 0] :=
  (by decide +kernel : ∀ t : Fin grid0.N, _)

/-- What the body stores in the first result's block, at a symbolic point. -/
theorem point4 (c : Dev nD) (t : Fin cfg0.N) (y : S512x512.Idx) (r : Fin 16384) (d : Fin 7168) (hr : (r : ℕ) = t.val / 14 * 512 + y 0) (hd : (d : ℕ) = t.val % 14 * 512 + y 1) :
    k0_pay1 (F := Ideal) (iblk m c 1 t) (iblk m c 2 t) (iblk m c 3 t) (iblk m c 0 t (ix1 0)) y
      = resid (V m c main_v0) (V m c main_v1) (V m c main_arg2) (V m c main_v2) r d := by
  pointwise [k0_pay1, resid]
  blk_point [iblk, V, idx t]

/-- The scale as the body loads it. -/
theorem scale_load (B : Vec Ideal S1 .f32) (hn : 0 < (Rect.unit (s := S1) ![0] ![1] inb_S1_S1_0).shape.numel) :
    View.ld B (Rect.unit ![0] ![1] inb_S1_S1_0) (Shape.Idx.first hn) = B (ix1 0) := by pointwise

theorem final4 (c : Dev nD) : (dat m c).arrAt 4 cfg0.N
    = fun y => resid (V m c main_v0) (V m c main_v1) (V m c main_arg2) (V m c main_v2) (y 0) (y 1) := by
  refine (dat m c).arrAt_eq_of_covers 4 _ (by decide +kernel) fun t hf y => ?_
  blk_simp
  rw [after0_4]
  by_cases h0 : t.val % 14 = 0
  · rw [outsAt0_A m c t h0 (by omega)]; frame_out; rw [scale_load]
    exact point4 m c t y _ _ (by blk_simp [idx t]) (by blk_simp [idx t])
  · rw [outsAt0_B m c t h0 (by omega)]; frame_out; rw [scale_load]
    exact point4 m c t y _ _ (by blk_simp [idx t]) (by blk_simp [idx t])

/-- The sum of squares of a row at lane `l`: blocks of 512 columns, four chunks of 128 lanes each. -/
def ssq (sc : FVec Ideal S1 .f32) (h : FVec Ideal S16384x18432 .fp8e4m3) (w : FVec Ideal S18432x7168 .fp8e4m3)
    (res : FVec Ideal S16384x7168 .bf16) (r : Fin 16384) (l : Fin 128) : EReal :=
  ∑ s : Fin 14, ∑ g : Fin 4, resid sc h w res r ⟨s.val * 512 + 128 * g.val + l.val, by omega⟩ * resid sc h w res r ⟨s.val * 512 + 128 * g.val + l.val, by omega⟩

/-- A block's part of it. -/
theorem point5 (c : Dev nD) (t : Fin cfg0.N) (y : S512x128.Idx) (r : Fin 16384) (l : Fin 128) (s : Fin 14) (hr : (r : ℕ) = t.val / 14 * 512 + y 0) (hl : (l : ℕ) = y 1) (hs : (s : ℕ) = t.val % 14) :
    k0_pay2 (F := Ideal) (iblk m c 1 t) (iblk m c 2 t) (iblk m c 3 t) (iblk m c 0 t (ix1 0)) y
      = ∑ g : Fin 4, resid (V m c main_v0) (V m c main_v1) (V m c main_arg2) (V m c main_v2) r ⟨s.val * 512 + 128 * g.val + l.val, by omega⟩
        * resid (V m c main_v0) (V m c main_v1) (V m c main_arg2) (V m c main_v2) r ⟨s.val * 512 + 128 * g.val + l.val, by omega⟩ := by
  have e : ∀ (g : Fin 4) (z : S512x512.Idx) (h0 : (z 0 : ℕ) = y 0) (h1 : (z 1 : ℕ) = 128 * g.val + y 1),
      k0_pay1 (F := Ideal) (iblk m c 1 t) (iblk m c 2 t) (iblk m c 3 t) (iblk m c 0 t (ix1 0)) z
        = resid (V m c main_v0) (V m c main_v1) (V m c main_arg2) (V m c main_v2) r ⟨s.val * 512 + 128 * g.val + l.val, by omega⟩ :=
    fun g z h0 h1 => point4 m c t z _ _ (by omega) (by show s.val * 512 + 128 * g.val + l.val = _; omega)
  rw [Fin.sum_univ_four, ← e 0 (ix2 (y 0) ⟨(y 1).val, by omega⟩) rfl (by simp), ← e 1 (ix2 (y 0) ⟨128 + (y 1).val, by omega⟩) rfl rfl,
    ← e 2 (ix2 (y 0) ⟨256 + (y 1).val, by omega⟩) rfl rfl, ← e 3 (ix2 (y 0) ⟨384 + (y 1).val, by omega⟩) rfl rfl]
  pointwise [k0_pay2]

theorem final5 (c : Dev nD) : (dat m c).arrAt 5 cfg0.N
    = fun y => ssq (V m c main_v0) (V m c main_v1) (V m c main_arg2) (V m c main_v2) (y 0) (y 1) := by
  refine (dat m c).arrAt_eq_of_covers 5 _ (by decide +kernel) fun t hf y => ?_
  blk_simp
  have ht : t.val % 14 = 14 - 1 := (flush0_5 t).mp hf
  rw [after0_5, Pipeline.eq_sum_fin_of_reset_step_apply_of_flush (fun n h => (outsAt0 m c n h).2) 14 (fun _ => 0)
    (fun t y => k0_pay2 (F := Ideal) (iblk m c 1 t) (iblk m c 2 t) (iblk m c 3 t) (iblk m c 0 t (ix1 0)) y)
    (fun t h j => by rw [outsAt0_A m c t h (by omega)]; frame_out; rw [scale_load, zero_add])
    (fun t h j => by
      rw [outsAt0_B m c t h (by omega)]; frame_out; rw [scale_load]
      show k0_pay3 (F := Ideal) _ _ _ _ _ j = _
      pointwise [k0_pay3])
    t ht y, zero_add]
  unfold ssq
  refine Fin.sum_fin_congr fun s => ?_
  exact point5 m c ⟨14 * (t.val / 14) + s.val, Pipeline.run_point_lt_of_flush t ht s⟩ y _ _ s (by
    have e : (14 * (t.val / 14) + s.val) / 14 = t.val / 14 := by omega
    blk_simp [idx t]; rw [e]) (by blk_simp [idx t]) (by show s.val = (14 * (t.val / 14) + s.val) % 14; omega)

end Cert.KernelIdeal.Down

end
-- ==== Proof.Value.QkvCodes.lean ====
/-
  What the first point of a row of the second pallas_call leaves in the codes' block, over the extended reals: every element the clipped
  quotient of the normalised activation by the scale.
-/
module

public import proofs.«01_k».proof.Proof.Ideal.Qkv
public import Idealize.ShloMosaic.Lib.Pipeline.ValueKit

@[expose] public section

set_option maxRecDepth 16384

noncomputable section

namespace Cert.KernelIdeal.Qkv

open Cert.KernelIdeal Cert.KernelIdeal.Gen
open Idealize.ShloMosaic Idealize.ShloMosaic.TcCoe Idealize.SL.Sem
open Idealize.ShloMosaic.Pipeline (Dat)

variable (m : Dev nD → Valuation τ sig (Elt Ideal))

/-- The normalised activation of a block, from its residual, its sums of squares and the norm's weights. -/
def xval (r : Vec Ideal S512x7168 .bf16) (q : Vec Ideal S512x128 .f32) (w : Vec Ideal S1x7168 .f32) (p : Fin 512) (d : Fin 7168) : EReal :=
  r (ix2 p d) * k1_pay5 (F := Ideal) q (ix2 p 0) * w (ix2 0 d)

/-- The code of a normalised activation: its quotient by the scale, clipped. -/
def codeOf (x s : EReal) : EReal := min (Ideal.ofBits .f32 0x43E00000#32) (max (Ideal.ofBits .f32 0xC3E00000#32) (Ideal.div x s))

/-- The chunk of codes at column offset `o`, as the body stores it. -/
theorem chunk (r : Vec Ideal S512x7168 .bf16) (q : Vec Ideal S512x128 .f32) (w : Vec Ideal S1x7168 .f32) (sc : Vec Ideal S2 .f32) (o : ℕ)
    (h : ∀ a, (![0, o] : Fin 2 → ℕ) a + (![512, 128] : Fin 2 → ℕ) a ≤ S512x7168.size a) (h' : ∀ a, (![0, o] : Fin 2 → ℕ) a + (![1, 128] : Fin 2 → ℕ) a ≤ S1x7168.size a)
    (hn : 0 < (Rect.unit (s := S2) ![0] ![1] inb_S2_S1_0).shape.numel) (x : (Rect.unit (s := S512x7168) ![0, o] ![512, 128] h).shape.Idx) :
    truncf (F := Ideal) FTy.fp8e4m3
        (minimumf (broadcast S512x128 (FloatOps.ofBits FTy.f32 0x43E00000#32))
          (maximumf (broadcast S512x128 (FloatOps.ofBits FTy.f32 0xC3E00000#32))
            (divf
              (mulf
                (mulf
                  (extf FTy.f32 (shapeCast S512x128 (View.ld r (Rect.unit ![0, o] ![512, 128] h)) shapeCasts_S512x128_S512x128) bitsLt_bf16_f32)
                  (broadcastTo S512x128 (k1_pay5 q) broadcasts_S512x1_S512x128))
                (broadcastTo S512x128 (shapeCast S1x128 (View.ld w (Rect.unit ![0, o] ![1, 128] h')) shapeCasts_S1x128_S1x128) broadcasts_S1x128_S512x128))
              (broadcast S512x128 (View.ld sc (Rect.unit ![0] ![1] inb_S2_S1_0) (Shape.Idx.first hn))))))
        bitsLt_fp8e4m3_f32 x
      = (fun y : S512x7168.Idx => codeOf (xval r q w (y 0) (y 1)) (sc (ix1 0))) ((Rect.unit (s := S512x7168) ![0, o] ![512, 128] h).emb x) := by
  unfold codeOf xval
  pointwise
  blk_point []

set_option maxHeartbeats 1000000 in
theorem codesA_eq (c : Dev nD) (t : Fin cfg1.N) (h0 : t.val % 18 = 0) (y : S512x7168.Idx) :
    codesA m c t h0 y = codeOf (xval (iblk m c 1 t) (iblk m c 2 t) (iblk m c 3 t) (y 0) (y 1)) (iblk m c 0 t (ix1 0)) := by
  unfold codesA
  rw [View.read_writes_junk_eq_canon]
  refine View.canon_apply_of_pieces (Val := Elt Ideal) (S := S512x7168) (e := .fp8e4m3)
    (fun y => codeOf (xval (iblk m c 1 t) (iblk m c 2 t) (iblk m c 3 t) (y 0) (y 1)) (iblk m c 0 t (ix1 0))) _ ?_ y (cover_codesA m c t h0 y)
  unfold runA
  frame_out
  simp only [List.forall_mem_cons]
  iterate 56 refine ⟨fun x => chunk _ _ _ _ _ _ _ _ _, ?_⟩
  exact fun _ h => absurd h List.not_mem_nil
end Cert.KernelIdeal.Qkv

end
-- ==== Proof.Value.QkvTrig.lean ====
/-
  What the first point of a row of the second pallas_call leaves in its scratch, over the extended reals: the cosines of the rotation angles,
  and their sines times the sign of each lane.
-/
module

public import proofs.«01_k».proof.Proof.Ideal.Qkv
public import Idealize.ShloMosaic.Lib.Pipeline.ValueKit

@[expose] public section

set_option maxRecDepth 16384
set_option maxHeartbeats 1600000

noncomputable section

namespace Cert.KernelIdeal.Qkv

open Cert.KernelIdeal Cert.KernelIdeal.Gen
open Idealize.ShloMosaic Idealize.ShloMosaic.TcCoe Idealize.SL.Sem
open Idealize.ShloMosaic.Pipeline (Dat)

variable (m : Dev nD → Valuation τ sig (Elt Ideal))

/-- The rotation angle of a row of the block at a lane. -/
def angle (pos : Vec Ideal S1x4x128 .i32) (freq : Vec Ideal S1x128 .f32) (p : Fin 512) (l : Fin 128) : EReal :=
  (((pos (ix3 0 ⟨p.val / 128, by omega⟩ ⟨p.val % 128, by omega⟩) : BitVec 32).toInt : ℝ) : EReal) * freq (ix2 0 l)

theorem pos_at (pos : Vec Ideal S1x4x128 .i32) (i : Fin 4) (r : Fin 128) (o : Nat) (ho : o = 128 * i.val) (h1 : (o + r.val) / 128 < 4) (h2 : (o + r.val) % 128 < 128) :
    pos (ix3 0 i r) = pos (ix3 0 ⟨(o + r.val) / 128, h1⟩ ⟨(o + r.val) % 128, h2⟩) := by
  have e1 : i = ⟨(o + r.val) / 128, h1⟩ := Fin.ext (by simp only; omega)
  have e2 : r = ⟨(o + r.val) % 128, h2⟩ := Fin.ext (by simp only; omega)
  rw [← e1, ← e2]

/-- The product of a position and a frequency, both read at the row's own cell. -/
theorem angle_at (pos : Vec Ideal S1x4x128 .i32) (f : EReal) (i : Fin 4) (r : Fin 128) (o : Nat) (ho : o = 128 * i.val) (h1 : (o + r.val) / 128 < 4) (h2 : (o + r.val) % 128 < 128) :
    (FloatOps.sitofp (F := Ideal) FTy.f32 (pos (ix3 0 i r)) : EReal) * f
      = (((pos (ix3 0 ⟨(o + r.val) / 128, h1⟩ ⟨(o + r.val) % 128, h2⟩) : BitVec 32).toInt : ℝ) : EReal) * f :=
  congrArg (fun b : BitVec 32 => ((b.toInt : ℝ) : EReal) * f) (pos_at pos i r o ho h1 h2)

theorem angle_at0 (pos : Vec Ideal S1x4x128 .i32) (f : EReal) (r : Fin 128) (h1 : r.val / 128 < 4) (h2 : r.val % 128 < 128) :
    (FloatOps.sitofp (F := Ideal) FTy.f32 (pos (ix3 0 0 r)) : EReal) * f
      = (((pos (ix3 0 ⟨r.val / 128, h1⟩ ⟨r.val % 128, h2⟩) : BitVec 32).toInt : ℝ) : EReal) * f := by
  have e1 : (0 : Fin 4) = ⟨r.val / 128, h1⟩ := Fin.ext (Nat.div_eq_of_lt r.isLt).symm
  have e2 : r = ⟨r.val % 128, h2⟩ := Fin.ext (Nat.mod_eq_of_lt r.isLt).symm
  exact congrArg (fun b : BitVec 32 => ((b.toInt : ℝ) : EReal) * f) (by rw [← e1, ← e2])

theorem cosA_eq (c : Dev nD) (t : Fin cfg1.N) (h0 : t.val % 18 = 0) (y : S512x128.Idx) :
    cosA m c t h0 y = Ideal.cos (angle (iblk m c 4 t) (iblk m c 5 t) (y 0) (y 1)) := by
  unfold cosA
  rw [View.read_writes_junk_eq_canon]
  refine View.canon_apply_of_pieces (Val := Elt Ideal) (S := S512x128) (e := .f32)
    (fun y => Ideal.cos (angle (iblk m c 4 t) (iblk m c 5 t) (y 0) (y 1))) _ ?_ y (cover_cosA m c t h0 y)
  unfold runA
  frame_out
  simp only [List.forall_mem_cons]
  refine ⟨?_, ?_, ?_, ?_, fun _ h => absurd h List.not_mem_nil⟩
  · intro x
    unfold angle
    pointwise [k1_pay186, k1_pay185]
    blk_point []
    exact angle_at _ _ 3 (x 0) 384 rfl _ _
  · intro x
    unfold angle
    pointwise [k1_pay186, k1_pay185]
    blk_point []
    exact angle_at _ _ 2 (x 0) 256 rfl _ _
  · intro x
    unfold angle
    pointwise [k1_pay186, k1_pay185]
    blk_point []
    exact angle_at _ _ 1 (x 0) 128 rfl _ _
  · intro x
    unfold angle
    pointwise [k1_pay186, k1_pay185]
    blk_point []
    exact angle_at0 _ _ (x 0) _ _

theorem sinA_eq (c : Dev nD) (t : Fin cfg1.N) (h0 : t.val % 18 = 0) (y : S512x128.Idx) :
    sinA m c t h0 y = Ideal.sin (angle (iblk m c 4 t) (iblk m c 5 t) (y 0) (y 1)) * iblk m c 6 t (ix2 0 (y 1)) := by
  unfold sinA
  rw [View.read_writes_junk_eq_canon]
  refine View.canon_apply_of_pieces (Val := Elt Ideal) (S := S512x128) (e := .f32)
    (fun y => Ideal.sin (angle (iblk m c 4 t) (iblk m c 5 t) (y 0) (y 1)) * iblk m c 6 t (ix2 0 (y 1))) _ ?_ y (cover_sinA m c t h0 y)
  unfold runA
  frame_out
  simp only [List.forall_mem_cons]
  refine ⟨?_, ?_, ?_, ?_, fun _ h => absurd h List.not_mem_nil⟩
  · intro x
    unfold angle
    pointwise [k1_pay186, k1_pay185, k1_pay187]
    blk_point []
    exact angle_at _ _ 3 (x 0) 384 rfl _ _
  · intro x
    unfold angle
    pointwise [k1_pay186, k1_pay185, k1_pay187]
    blk_point []
    exact angle_at _ _ 2 (x 0) 256 rfl _ _
  · intro x
    unfold angle
    pointwise [k1_pay186, k1_pay185, k1_pay187]
    blk_point []
    exact angle_at _ _ 1 (x 0) 128 rfl _ _
  · intro x
    unfold angle
    pointwise [k1_pay186, k1_pay185, k1_pay187]
    blk_point []
    exact angle_at0 _ _ (x 0) _ _

end Cert.KernelIdeal.Qkv

end
-- ==== Proof.Value.QkvTiles.lean ====
/-
  What the tiles of the second pallas_call hold, over the extended reals, in terms of the codes, the cosines and the sines that the first point
  of a row leaves: a tile of queries or keys is the product of the codes and a block of weights, scaled, and rotated head by head; a tile of
  values is the scaled product alone.
-/
module

public import proofs.«01_k».proof.Proof.Value.QkvCodes

@[expose] public section

set_option maxRecDepth 16384
set_option maxHeartbeats 1600000

noncomputable section

namespace Cert.KernelIdeal.Qkv

open Cert.KernelIdeal Cert.KernelIdeal.Gen
open Idealize.ShloMosaic Idealize.ShloMosaic.TcCoe Idealize.SL.Sem
open Idealize.ShloMosaic.Pipeline (Dat)

variable (m : Dev nD → Valuation τ sig (Elt Ideal))

/-- The codes of a row of blocks, read back by the point that wrote them. -/
theorem v5_eq (c : Dev nD) (t : Fin cfg1.N) (h0 : t.val % 18 = 0) :
    kernelRun1_A.sl.v5 (F := Ideal) c (ms1_0 t) (hs1_0 t) (ms1_1 t) (hs1_1 t) (ms1_2 t) (hs1_2 t) (ms1_3 t) (hs1_3 t) (ms1_11 t) (iblk m c 0 t)
      (iblk m c 1 t) (iblk m c 2 t) (iblk m c 3 t) = codesA m c t h0 := by
  unfold kernelRun1_A.sl.v5 codesA
  rw [View.read_writes_junk_eq_canon]
  exact (View.readCov_eq_canon_ld _ _ _ (cover_codesA m c t h0)).trans (View.ld_unit_zero (by ext a; fin_cases a <;> rfl) _ _)

/-- The cosines, read back by the point that wrote them. -/
theorem v24_eq (c : Dev nD) (t : Fin cfg1.N) (h0 : t.val % 18 = 0) :
    kernelRun1_A.sl.v24 (F := Ideal) c (ms1_4 t) (hs1_4 t) (ms1_5 t) (hs1_5 t) scM1_0 (iblk m c 4 t) (iblk m c 5 t) = cosA m c t h0 := by
  unfold kernelRun1_A.sl.v24 cosA
  rw [View.read_writes_junk_eq_canon]
  exact (View.readCov_eq_canon_ld _ _ _ (cover_cosA m c t h0)).trans (View.ld_unit_zero (by ext a; fin_cases a <;> rfl) _ _)

/-- The signed sines, read back by the point that wrote them. -/
theorem v26_eq (c : Dev nD) (t : Fin cfg1.N) (h0 : t.val % 18 = 0) :
    kernelRun1_A.sl.v26 (F := Ideal) c (ms1_4 t) (hs1_4 t) (ms1_5 t) (hs1_5 t) (ms1_6 t) (hs1_6 t) scM1_1 (iblk m c 4 t) (iblk m c 5 t) (iblk m c 6 t)
      = sinA m c t h0 := by
  unfold kernelRun1_A.sl.v26 sinA
  rw [View.read_writes_junk_eq_canon]
  exact (View.readCov_eq_canon_ld _ _ _ (cover_sinA m c t h0)).trans (View.ld_unit_zero (by ext a; fin_cases a <;> rfl) _ _)

/-- The scaled product of a block of codes and a block of weights. -/
def acc (s : EReal) (C : S512x7168.Idx → EReal) (W : S7168x512.Idx → EReal) (p n : Fin 512) : EReal :=
  (∑ k : Fin 7168, C (ix2 p k) * W (ix2 k n)) * s

/-- The column that the rotation pairs with column n: the other half of the same head. -/
def swap (n : Fin 512) : Fin 512 := ⟨n.val / 128 * 128 + (n.val % 128 + 64) % 128, by omega⟩

/-- A rotated tile: head by head, the product times the cosine, plus the paired product times the signed sine. -/
def rope (s : EReal) (C : S512x7168.Idx → EReal) (W : S7168x512.Idx → EReal) (co si : S512x128.Idx → EReal) (p n : Fin 512) : EReal :=
  acc s C W p n * co (ix2 p ⟨n.val % 128, Nat.mod_lt _ (by decide)⟩) + acc s C W p (swap n) * si (ix2 p ⟨n.val % 128, Nat.mod_lt _ (by decide)⟩)

theorem pay1_at (s : EReal) (C : Vec Ideal S512x7168 .fp8e4m3) (W : Vec Ideal S7168x512 .fp8e4m3) (y : S512x512.Idx) :
    k1_pay1 (F := Ideal) s C W y = acc s C W (y 0) (y 1) := by
  unfold acc
  pointwise [k1_pay1]

theorem lane_lt (u : S512x128.Idx) (o : Nat) (ho : o + 128 ≤ 512) : o + (u 1).val < 512 := by have h : (u 1).val < 128 := (u 1).isLt; omega
theorem swap_lt (u : S512x128.Idx) (o : Nat) (ho : o + 128 ≤ 512) : o + ((u 1).val + 128 - 64) % 128 < 512 := by omega

/-- One head of a rotated tile, at lanes o to o + 127. -/
def head (X : S512x512.Idx → EReal) (co si : S512x128.Idx → EReal) (o : Nat) (ho : o + 128 ≤ 512) (u : S512x128.Idx) : EReal :=
  X (ix2 (u 0) ⟨o + (u 1).val, lane_lt u o ho⟩) * co u + X (ix2 (u 0) ⟨o + ((u 1).val + 128 - 64) % 128, swap_lt u o ho⟩) * si u

/-- A head is the part of the rotated tile that it covers. -/
theorem head_eq (s : EReal) (C : S512x7168.Idx → EReal) (W : S7168x512.Idx → EReal) (co si : S512x128.Idx → EReal) (X : S512x512.Idx → EReal)
    (hX : ∀ y, X y = acc s C W (y 0) (y 1)) (j o : Nat) (ho : o + 128 ≤ 512) (hj : o = 128 * j)
    (h : ∀ a, (![0, o] : Fin 2 → ℕ) a + (![512, 128] : Fin 2 → ℕ) a ≤ S512x512.size a) (u : S512x128.Idx) :
    head X co si o ho u = (fun y : S512x512.Idx => rope s C W co si (y 0) (y 1)) ((Rect.unit (s := S512x512) ![0, o] ![512, 128] h).emb u) := by
  have hu : (u 1).val < 128 := (u 1).isLt
  have hl := lane_lt u o ho
  have e0 : (Rect.unit (s := S512x512) ![0, o] ![512, 128] h).emb u 0 = (u 0 : Fin 512) := Fin.ext (by simp)
  have e1 : (Rect.unit (s := S512x512) ![0, o] ![512, 128] h).emb u 1 = (⟨o + (u 1).val, hl⟩ : Fin 512) := Fin.ext (by simp)
  have e2 : (⟨o + ((u 1).val + 128 - 64) % 128, swap_lt u o ho⟩ : Fin 512) = swap ⟨o + (u 1).val, hl⟩ :=
    Fin.ext (by simp only [swap]; omega)
  have e3 : (u 1 : Fin 128) = ⟨(o + (u 1).val) % 128, Nat.mod_lt _ (by decide)⟩ := Fin.ext (by simp only; omega)
  have e4 : u = (ix2 (u 0) ⟨(o + (u 1).val) % 128, Nat.mod_lt _ (by decide)⟩ : S512x128.Idx) :=
    (eq_ix2 u).trans (congrArg (fun z : Fin 128 => (ix2 (u 0) z : S512x128.Idx)) e3)
  refine Eq.trans ?_ (congrArg₂ (fun a b : Fin 512 => rope s C W co si a b) e0 e1).symm
  exact congrArg₂ (· + ·) (congrArg₂ (· * ·) (hX _) (congrArg co e4))
    (congrArg₂ (· * ·) ((hX _).trans (congrArg (acc s C W (u 0)) e2)) (congrArg si e4))

theorem pay188_eq (X : Vec Ideal S512x512 .f32) (co si : Vec Ideal S512x128 .f32) (u : S512x128.Idx) :
    k1_pay188 (F := Ideal) X co si u = head X co si 0 (by decide) u := by
  unfold head
  pointwise [k1_pay188]

theorem pay189_eq (X : Vec Ideal S512x512 .f32) (co si : Vec Ideal S512x128 .f32) (u : S512x128.Idx) :
    k1_pay189 (F := Ideal) X co si u = head X co si 128 (by decide) u := by
  unfold head
  pointwise [k1_pay189]

theorem pay190_eq (X : Vec Ideal S512x512 .f32) (co si : Vec Ideal S512x128 .f32) (u : S512x128.Idx) :
    k1_pay190 (F := Ideal) X co si u = head X co si 256 (by decide) u := by
  unfold head
  pointwise [k1_pay190]

theorem pay2_eq (X : Vec Ideal S512x512 .f32) (co si : Vec Ideal S512x128 .f32) (u : S512x128.Idx) :
    k1_pay2 (F := Ideal) (k1_pay192 X) (k1_pay193 X co) si u = head X co si 384 (by decide) u := by
  unfold head
  pointwise [k1_pay2, k1_pay192, k1_pay193, k1_pay191]

theorem pay194_eq (X : Vec Ideal S512x512 .f32) (co si : Vec Ideal S512x128 .f32) (u : S512x128.Idx) :
    k1_pay194 (F := Ideal) X co si u = head X co si 0 (by decide) u := by
  unfold head
  pointwise [k1_pay194]

theorem pay195_eq (X : Vec Ideal S512x512 .f32) (co si : Vec Ideal S512x128 .f32) (u : S512x128.Idx) :
    k1_pay195 (F := Ideal) X co si u = head X co si 128 (by decide) u := by
  unfold head
  pointwise [k1_pay195]

theorem pay196_eq (X : Vec Ideal S512x512 .f32) (co si : Vec Ideal S512x128 .f32) (u : S512x128.Idx) :
    k1_pay196 (F := Ideal) X co si u = head X co si 256 (by decide) u := by
  unfold head
  pointwise [k1_pay196]

theorem pay3_eq (X : Vec Ideal S512x512 .f32) (co si : Vec Ideal S512x128 .f32) (u : S512x128.Idx) :
    k1_pay3 (F := Ideal) (k1_pay198 X) (k1_pay199 X co) si u = head X co si 384 (by decide) u := by
  unfold head
  pointwise [k1_pay3, k1_pay198, k1_pay199, k1_pay197]

theorem scale1 (v : Vec Ideal S2 .f32) (hn : 0 < (Rect.unit (s := S2) ![1] ![1] inb_S2_S1_1).shape.numel) :
    View.ld v (Rect.unit (s := S2) ![1] ![1] inb_S2_S1_1) (Shape.Idx.first hn) = v (ix1 1) := by
  refine congrArg v ?_
  ext a; fin_cases a; rfl

/-- A head of the scaled product, with its operands as a point reads them. -/
theorem head_pay (s s' : EReal) (C C' : Vec Ideal S512x7168 .fp8e4m3) (W W' : Vec Ideal S7168x512 .fp8e4m3) (co co' si si' : Vec Ideal S512x128 .f32)
    (es : s' = s) (eC : C' = C) (eW : W' = W) (ec : co' = co) (ei : si' = si) (j o : Nat) (ho : o + 128 ≤ 512) (hj : o = 128 * j)
    (h : ∀ a, (![0, o] : Fin 2 → ℕ) a + (![512, 128] : Fin 2 → ℕ) a ≤ S512x512.size a) (u : S512x128.Idx) :
    head (k1_pay1 (F := Ideal) s' C' W') co' si' o ho u
      = (fun y : S512x512.Idx => rope s C W co si (y 0) (y 1)) ((Rect.unit (s := S512x512) ![0, o] ![512, 128] h).emb u) := by
  subst es eC eW ec ei
  exact head_eq s' C' W' co' si' _ (pay1_at s' C' W') j o ho hj h u

/-- What a value tile holds. -/
theorem vAtD_eq (c : Dev nD) (t : Fin cfg1.N) (h0 : 16 ≤ t.val % 18) (x11 : Vec Ideal S512x7168 .fp8e4m3) (y : S512x512.Idx) :
    vAtD m c t h0 x11 y = acc (iblk m c 0 t (ix1 1)) x11 (iblk m c 7 t) (y 0) (y 1) := by
  unfold vAtD
  rw [View.read_writes_junk_eq_canon]
  refine View.canon_apply_of_pieces (Val := Elt Ideal) (S := S512x512) (e := .bf16)
    (fun y => acc (iblk m c 0 t (ix1 1)) x11 (iblk m c 7 t) (y 0) (y 1)) _ ?_ y (cover_vAtD m c t h0 x11 y)
  unfold runD
  frame_out
  simp only [List.forall_mem_cons]
  refine ⟨fun x => ?_, fun _ h => absurd h List.not_mem_nil⟩
  rw [scale1]
  unfold k1_pay4
  have e0 : (Rect.unit (s := S512x512) ![0, 0] ![512, 512] inb_S512x512_S512x512_0_0).emb x 0 = (x 0 : Fin 512) := Fin.ext (by simp)
  have e1 : (Rect.unit (s := S512x512) ![0, 0] ![512, 512] inb_S512x512_S512x512_0_0).emb x 1 = (x 1 : Fin 512) := Fin.ext (by simp)
  exact (pay1_at _ _ _ x).trans (congrArg₂ (fun a b : Fin 512 => acc (iblk m c 0 t (ix1 1)) x11 (iblk m c 7 t) a b) e0 e1).symm

/-- What a tile of queries holds, past the first tile of a row. -/
theorem qAtB_eq (c : Dev nD) (t : Fin cfg1.N) (h0 : ¬t.val % 18 = 0) (h1 : t.val % 18 ≤ 13) (x11 : Vec Ideal S512x7168 .fp8e4m3) (xs0 xs1 : Vec Ideal S512x128 .f32) (y : S512x512.Idx) :
    qAtB m c t h0 h1 x11 xs0 xs1 y = rope (iblk m c 0 t (ix1 1)) x11 (iblk m c 7 t) xs0 xs1 (y 0) (y 1) := by
  unfold qAtB
  rw [View.read_writes_junk_eq_canon]
  refine View.canon_apply_of_pieces (Val := Elt Ideal) (S := S512x512) (e := .bf16)
    (fun y => rope (iblk m c 0 t (ix1 1)) x11 (iblk m c 7 t) xs0 xs1 (y 0) (y 1)) _ ?_ y (cover_qAtB m c t h0 h1 x11 xs0 xs1 y)
  unfold runB
  frame_out
  simp only [List.forall_mem_cons]
  refine ⟨fun x => (pay2_eq _ _ _ x).trans (head_pay _ _ _ _ _ _ _ _ _ _ (scale1 _ _) rfl rfl (Memref.IsWhole.read_unread _ _) (Memref.IsWhole.read_unread _ _) 3 384 (by decide) rfl _ x),
    fun x => (pay190_eq _ _ _ x).trans (head_pay _ _ _ _ _ _ _ _ _ _ (scale1 _ _) rfl rfl (Memref.IsWhole.read_unread _ _) (Memref.IsWhole.read_unread _ _) 2 256 (by decide) rfl _ x),
    fun x => (pay189_eq _ _ _ x).trans (head_pay _ _ _ _ _ _ _ _ _ _ (scale1 _ _) rfl rfl (Memref.IsWhole.read_unread _ _) (Memref.IsWhole.read_unread _ _) 1 128 (by decide) rfl _ x),
    fun x => (pay188_eq _ _ _ x).trans (head_pay _ _ _ _ _ _ _ _ _ _ (scale1 _ _) rfl rfl (Memref.IsWhole.read_unread _ _) (Memref.IsWhole.read_unread _ _) 0 0 (by decide) rfl _ x),
    fun _ h => absurd h List.not_mem_nil⟩

/-- What a tile of keys holds. -/
theorem kAtC_eq (c : Dev nD) (t : Fin cfg1.N) (h0 : 14 ≤ t.val % 18) (h1 : t.val % 18 ≤ 15) (x11 : Vec Ideal S512x7168 .fp8e4m3) (xs0 xs1 : Vec Ideal S512x128 .f32) (y : S512x512.Idx) :
    kAtC m c t h0 h1 x11 xs0 xs1 y = rope (iblk m c 0 t (ix1 1)) x11 (iblk m c 7 t) xs0 xs1 (y 0) (y 1) := by
  unfold kAtC
  rw [View.read_writes_junk_eq_canon]
  refine View.canon_apply_of_pieces (Val := Elt Ideal) (S := S512x512) (e := .bf16)
    (fun y => rope (iblk m c 0 t (ix1 1)) x11 (iblk m c 7 t) xs0 xs1 (y 0) (y 1)) _ ?_ y (cover_kAtC m c t h0 h1 x11 xs0 xs1 y)
  unfold runC
  frame_out
  simp only [List.forall_mem_cons]
  refine ⟨fun x => (pay3_eq _ _ _ x).trans (head_pay _ _ _ _ _ _ _ _ _ _ (scale1 _ _) rfl rfl (Memref.IsWhole.read_unread _ _) (Memref.IsWhole.read_unread _ _) 3 384 (by decide) rfl _ x),
    fun x => (pay196_eq _ _ _ x).trans (head_pay _ _ _ _ _ _ _ _ _ _ (scale1 _ _) rfl rfl (Memref.IsWhole.read_unread _ _) (Memref.IsWhole.read_unread _ _) 2 256 (by decide) rfl _ x),
    fun x => (pay195_eq _ _ _ x).trans (head_pay _ _ _ _ _ _ _ _ _ _ (scale1 _ _) rfl rfl (Memref.IsWhole.read_unread _ _) (Memref.IsWhole.read_unread _ _) 1 128 (by decide) rfl _ x),
    fun x => (pay194_eq _ _ _ x).trans (head_pay _ _ _ _ _ _ _ _ _ _ (scale1 _ _) rfl rfl (Memref.IsWhole.read_unread _ _) (Memref.IsWhole.read_unread _ _) 0 0 (by decide) rfl _ x),
    fun _ h => absurd h List.not_mem_nil⟩

/-- What the first tile of queries of a row holds. -/
theorem qAtA_eq (c : Dev nD) (t : Fin cfg1.N) (h0 : t.val % 18 = 0) (y : S512x512.Idx) :
    qAtA m c t h0 y = rope (iblk m c 0 t (ix1 1)) (codesA m c t h0) (iblk m c 7 t) (cosA m c t h0) (sinA m c t h0) (y 0) (y 1) := by
  unfold qAtA
  rw [View.read_writes_junk_eq_canon]
  refine View.canon_apply_of_pieces (Val := Elt Ideal) (S := S512x512) (e := .bf16)
    (fun y => rope (iblk m c 0 t (ix1 1)) (codesA m c t h0) (iblk m c 7 t) (cosA m c t h0) (sinA m c t h0) (y 0) (y 1)) _ ?_ y (cover_qAtA m c t h0 y)
  unfold runA kernelRun1_A
  dsimp only
  simp only [List.forall_mem_cons]
  unfold kernelRun1_A.sl.r_7 kernelRun1_A.sl.r_8
  have es : kernelRun1_A.sl.r_1 (F := Ideal) c (ms1_0 t) (hs1_0 t) (iblk m c 0 t) = iblk m c 0 t (ix1 1) := by frame_out; exact scale1 _ _
  have eW : View.readAt (Elt Ideal) (ms1_7 t).view (Rect.unit ![0, 0] ![7168, 512] inb_S7168x512_S7168x512_0_0).toLoadRect ((hs1_7 t).unread (iblk m c 7 t)) = iblk m c 7 t := by frame_out
  refine ⟨fun x => (pay2_eq _ _ _ x).trans (head_pay _ _ _ _ _ _ _ _ _ _ es (v5_eq m c t h0) eW (v24_eq m c t h0) (v26_eq m c t h0) 3 384 (by decide) rfl _ x),
    fun x => (pay190_eq _ _ _ x).trans (head_pay _ _ _ _ _ _ _ _ _ _ es (v5_eq m c t h0) eW (v24_eq m c t h0) (v26_eq m c t h0) 2 256 (by decide) rfl _ x),
    fun x => (pay189_eq _ _ _ x).trans (head_pay _ _ _ _ _ _ _ _ _ _ es (v5_eq m c t h0) eW (v24_eq m c t h0) (v26_eq m c t h0) 1 128 (by decide) rfl _ x),
    fun x => (pay188_eq _ _ _ x).trans (head_pay _ _ _ _ _ _ _ _ _ _ es (v5_eq m c t h0) eW (v24_eq m c t h0) (v26_eq m c t h0) 0 0 (by decide) rfl _ x),
    fun _ h => absurd h List.not_mem_nil⟩

end Cert.KernelIdeal.Qkv

end
-- ==== Proof.Value.QkvAmax.lean ====
/-
  What the largest absolute value of each row is, over the extended reals: the running maximum over 56 chunks of 128 lanes, then over the lanes,
  is the maximum over the 7168 columns.
-/
module

public import proofs.«01_k».proof.Proof.Value.QkvCodes

@[expose] public section

set_option maxRecDepth 16384
set_option maxHeartbeats 400000

noncomputable section

namespace Cert.KernelIdeal.Qkv

open Cert.KernelIdeal Cert.KernelIdeal.Gen
open Idealize.ShloMosaic Idealize.ShloMosaic.TcCoe Idealize.SL.Sem
open Idealize.ShloMosaic.Pipeline (Dat)

variable (m : Dev nD → Valuation τ sig (Elt Ideal))

/-- The absolute value of an element of a row. -/
def xabs (r : Vec Ideal S512x7168 .bf16) (q : Vec Ideal S512x128 .f32) (w : Vec Ideal S1x7168 .f32) (p : Fin 512) (d : Fin 7168) : EReal :=
  FloatOps.absf (F := Ideal) (φ := .f32) (xval r q w p d)

/-- The largest absolute value of the elements of a row. -/
def amaxOf (r : Vec Ideal S512x7168 .bf16) (q : Vec Ideal S512x128 .f32) (w : Vec Ideal S1x7168 .f32) (p : Fin 512) : EReal :=
  Finset.univ.fold max (Ideal.ofBits .f32 0xFF800000#32) (fun d : Fin 7168 => xabs r q w p d)

/-- A running maximum after n chunks: zero or one of the absolute values of the first n chunks, and at least each of them and zero. -/
def Chain (f : Fin 512 → Fin 7168 → EReal) (n : Nat) (A : S512x128.Idx → EReal) : Prop :=
  ∀ (p : Fin 512) (l : Fin 128), 0 ≤ A (ix2 p l) ∧ (∀ d : Fin 7168, d.val < 128 * n → d.val % 128 = l.val → f p d ≤ A (ix2 p l))
    ∧ (∀ b : EReal, 0 ≤ b → (∀ d : Fin 7168, f p d ≤ b) → A (ix2 p l) ≤ b)

theorem chain_zero (f : Fin 512 → Fin 7168 → EReal) : Chain f 0 (broadcast S512x128 (FloatOps.ofBits (F := Ideal) FTy.f32 0x00000000#32)) := by
  have e : (FloatOps.ofBits (F := Ideal) FTy.f32 0x00000000#32 : EReal) = 0 := by
    show Ideal.ofBits FTy.f32 0x00000000#32 = 0
    simp [Ideal.ofBits, Ideal.ieee, -EReal.coe_mul]
  intro p l
  refine ⟨le_of_eq e.symm, fun d h => absurd h (by omega), fun b hb _ => le_of_eq_of_le e hb⟩

theorem absf_at (r : Vec Ideal S512x7168 .bf16) (q : Vec Ideal S512x128 .f32) (w : Vec Ideal S1x7168 .f32) (o : ℕ)
    (h : ∀ a, (![0, o] : Fin 2 → ℕ) a + (![512, 128] : Fin 2 → ℕ) a ≤ S512x7168.size a) (h' : ∀ a, (![0, o] : Fin 2 → ℕ) a + (![1, 128] : Fin 2 → ℕ) a ≤ S1x7168.size a)
    (p : Fin 512) (l : Fin 128) (hl : o + l.val < 7168) :
    absf (F := Ideal)
      (mulf
        (mulf
          (extf FTy.f32 (shapeCast S512x128 (View.ld r (Rect.unit ![0, o] ![512, 128] h)) shapeCasts_S512x128_S512x128) bitsLt_bf16_f32)
          (broadcastTo S512x128 (k1_pay5 q) broadcasts_S512x1_S512x128))
        (broadcastTo S512x128 (shapeCast S1x128 (View.ld w (Rect.unit ![0, o] ![1, 128] h')) shapeCasts_S1x128_S1x128) broadcasts_S1x128_S512x128)) (ix2 p l)
      = xabs r q w p ⟨o + l.val, hl⟩ := by
  unfold xabs xval
  pointwise
  try blk_point []

theorem chain_step (r : Vec Ideal S512x7168 .bf16) (q : Vec Ideal S512x128 .f32) (w : Vec Ideal S1x7168 .f32) (n o : ℕ) (hn : n < 56) (ho : o = 128 * n)
    (h : ∀ a, (![0, o] : Fin 2 → ℕ) a + (![512, 128] : Fin 2 → ℕ) a ≤ S512x7168.size a) (h' : ∀ a, (![0, o] : Fin 2 → ℕ) a + (![1, 128] : Fin 2 → ℕ) a ≤ S1x7168.size a)
    (A : FVec Ideal S512x128 .f32) (hA : Chain (xabs r q w) n A) :
    Chain (xabs r q w) (n + 1) (maximumf (F := Ideal) A (absf
      (mulf
        (mulf
          (extf FTy.f32 (shapeCast S512x128 (View.ld r (Rect.unit ![0, o] ![512, 128] h)) shapeCasts_S512x128_S512x128) bitsLt_bf16_f32)
          (broadcastTo S512x128 (k1_pay5 q) broadcasts_S512x1_S512x128))
        (broadcastTo S512x128 (shapeCast S1x128 (View.ld w (Rect.unit ![0, o] ![1, 128] h')) shapeCasts_S1x128_S1x128) broadcasts_S1x128_S512x128)))) := by
  intro p l
  have hl : o + l.val < 7168 := by omega
  have e := absf_at r q w o h h' p l hl
  obtain ⟨h0, h1, h2⟩ := hA p l
  have em : ∀ B : FVec Ideal S512x128 .f32, maximumf (F := Ideal) A B (ix2 p l) = max (A (ix2 p l) : EReal) (B (ix2 p l)) := fun B => rfl
  rw [em, e]
  refine ⟨le_max_of_le_left h0, fun d hd hm => ?_, fun b hb hall => max_le (h2 b hb hall) (hall _)⟩
  by_cases hlt : d.val < 128 * n
  · exact le_max_of_le_left (h1 d hlt hm)
  · have : d = ⟨o + l.val, hl⟩ := Fin.ext (by simp only; omega)
    rw [this]
    exact le_max_right _ _

theorem xabs_nonneg (r : Vec Ideal S512x7168 .bf16) (q : Vec Ideal S512x128 .f32) (w : Vec Ideal S1x7168 .f32) (p : Fin 512) (d : Fin 7168) : 0 ≤ xabs r q w p d := by
  show (0 : EReal) ≤ max (xval r q w p d) (-(xval r q w p d))
  rcases le_total 0 (xval r q w p d) with h | h
  · exact le_max_of_le_left h
  · exact le_max_of_le_right (EReal.neg_nonneg.mpr h)

/-- The maximum over the lanes of the running maximum after all 56 chunks is the maximum over the row. -/
theorem fold_chain (r : Vec Ideal S512x7168 .bf16) (q : Vec Ideal S512x128 .f32) (w : Vec Ideal S1x7168 .f32) (A : S512x128.Idx → EReal) (hA : Chain (xabs r q w) 56 A) (p : Fin 512) :
    Finset.univ.fold max (Ideal.ofBits .f32 0xFF800000#32) (fun l : Fin 128 => A (ix2 p l)) = amaxOf r q w p := by
  unfold amaxOf
  refine le_antisymm ?_ ?_
  · refine (Finset.fold_max_le _).2 ⟨(Finset.le_fold_max _).2 (Or.inl le_rfl), fun l _ => ?_⟩
    refine (hA p l).2.2 _ ?_ fun d => (Finset.le_fold_max _).2 (Or.inr ⟨d, Finset.mem_univ _, le_rfl⟩)
    exact le_trans (xabs_nonneg r q w p 0) ((Finset.le_fold_max _).2 (Or.inr ⟨0, Finset.mem_univ _, le_rfl⟩))
  · refine (Finset.fold_max_le _).2 ⟨(Finset.le_fold_max _).2 (Or.inl le_rfl), fun d _ => ?_⟩
    have h := (hA p ⟨d.val % 128, Nat.mod_lt _ (by decide)⟩).2.1 d (by omega) rfl
    exact (Finset.le_fold_max _).2 (Or.inr ⟨_, Finset.mem_univ _, h⟩)

/-- The row of the block that an element of the maxima stands for. -/
def laneRow (y : S1x4x128.Idx) : Fin 512 :=
  ⟨128 * (y 1).val + (y 2).val, by have h1 : (y 1).val < 4 := (y 1).isLt; have h2 : (y 2).val < 128 := (y 2).isLt; omega⟩

/-- One of the four blocks of row maxima. -/
theorem block (r : Vec Ideal S512x7168 .bf16) (q : Vec Ideal S512x128 .f32) (w : Vec Ideal S1x7168 .f32) (A : FVec Ideal S512x128 .f32) (hA : Chain (xabs r q w) 56 A)
    (i : Fin 4) (o : ℕ) (ho : o = 128 * i.val) (hs) (h : ∀ a, (![0, i.val, 0] : Fin 3 → ℕ) a + (![1, 1, 128] : Fin 3 → ℕ) a ≤ S1x4x128.size a) (x : S1x1x128.Idx) :
    shapeCast S1x1x128 (shapeCast S1x128
        (multiReduction (F := Ideal) FKind.maximumf [0] S128 (transpose S128x128 [1, 0] (extractStridedSlice S128x128 ![o, 0] A hs) transposes_S128x128_p1_0_S128x128)
          0xFF800000#32 reduces_S128x128_S128 (.inl rfl) rfl) shapeCasts_S128_S1x128) shapeCasts_S1x128_S1x1x128 x
      = (fun y : S1x4x128.Idx => amaxOf r q w (laneRow y))
          ((Rect.unit (s := S1x4x128) ![0, i.val, 0] ![1, 1, 128] h).emb x) := by
  have hx : (x 2).val < 128 := (x 2).isLt
  have hlt : o + (x 2).val < 512 := by omega
  refine Eq.trans ?_ ((fold_chain r q w A hA ⟨o + (x 2).val, hlt⟩).trans (congrArg (amaxOf r q w) (Fin.ext ?_)))
  · pointwise
  · simp [laneRow]; omega

theorem amaxA_eq (c : Dev nD) (t : Fin cfg1.N) (h0 : t.val % 18 = 0) (y : S1x4x128.Idx) :
    amaxA m c t h0 y = amaxOf (iblk m c 1 t) (iblk m c 2 t) (iblk m c 3 t)
      (laneRow y) := by
  unfold amaxA
  rw [View.read_writes_junk_eq_canon]
  refine View.canon_apply_of_pieces (Val := Elt Ideal) (S := S1x4x128) (e := .f32)
    (fun y : S1x4x128.Idx => amaxOf (iblk m c 1 t) (iblk m c 2 t) (iblk m c 3 t)
      (laneRow y)) _ ?_ y (cover_amaxA m c t h0 y)
  unfold runA
  frame_out
  simp only [List.forall_mem_cons]
  refine ⟨fun x => block _ _ _ _ ?_ 3 384 rfl _ _ x, fun x => block _ _ _ _ ?_ 2 256 rfl _ _ x, fun x => block _ _ _ _ ?_ 1 128 rfl _ _ x,
    fun x => block _ _ _ _ ?_ 0 0 rfl _ _ x, fun _ h => absurd h List.not_mem_nil⟩
  all_goals
    iterate 56 refine chain_step _ _ _ _ _ (by decide) rfl _ _ _ ?_
    exact chain_zero _

end Cert.KernelIdeal.Qkv

end
-- ==== Proof.Value.QkvBlocks.lean ====
/-
  The tiles of the second pallas_call in terms of the whole operand arrays, over the extended reals and any contents at its entry.
-/
module

public import proofs.«01_k».proof.Proof.Value.QkvCodes
public import proofs.«01_k».proof.Proof.Value.QkvTrig
public import proofs.«01_k».proof.Proof.Value.QkvTiles
public import proofs.«01_k».proof.Proof.Value.QkvAmax

@[expose] public section

set_option maxRecDepth 16384
set_option maxHeartbeats 400000

noncomputable section

namespace Cert.KernelIdeal.Qkv

open Cert.KernelIdeal Cert.KernelIdeal.Gen
open Idealize.ShloMosaic Idealize.ShloMosaic.TcCoe Idealize.SL.Sem
open Idealize.ShloMosaic.Pipeline (Dat)

variable (m : Dev nD → Valuation τ sig (Elt Ideal))

theorem idx : ∀ t : Fin cfg1.N, win1_0.index t = ![0] ∧ win1_1.index t = ![t.val / 18, 0] ∧ win1_2.index t = ![t.val / 18, 0] ∧ win1_3.index t = ![0, 0]
    ∧ win1_4.index t = ![t.val / 18, 0, 0] ∧ win1_5.index t = ![0, 0] ∧ win1_6.index t = ![0, 0] ∧ win1_7.index t = ![0, t.val % 18]
    ∧ win1_8.index t = ![t.val / 18, min (t.val % 18) 13] ∧ win1_9.index t = ![t.val / 18, min (t.val % 18 - 14) 1]
    ∧ win1_10.index t = ![t.val / 18, t.val % 18 - 16] ∧ win1_11.index t = ![t.val / 18, 0] ∧ win1_12.index t = ![t.val / 18, 0, 0] :=
  (by decide +kernel : ∀ t : Fin grid1.N, _)

/-- One over the root of the mean square of a row, from the row's sums of squares by lane. -/
def rstdOf (f : Fin 128 → EReal) : EReal :=
  Ideal.rsqrt ((∑ l, f l) * Named.named (F := Ideal) (φ := .f32) κ "inv_d_model" 0x39124925#32 + Ideal.ofBits FTy.f32 0x358637BD#32)

/-- An element of the normalised rows. -/
def X (r : FVec Ideal S16384x7168 .bf16) (q : FVec Ideal S16384x128 .f32) (w : FVec Ideal S1x7168 .f32) (P : Fin 16384) (d : Fin 7168) : EReal :=
  r (ix2 P d) * rstdOf (fun l => q (ix2 P l)) * w (ix2 0 d)

/-- The scaled product of the codes and the weights. -/
def accG (s : EReal) (C : Fin 16384 → Fin 7168 → EReal) (W : FVec Ideal S7168x9216 .fp8e4m3) (P : Fin 16384) (N : Fin 9216) : EReal :=
  (∑ k : Fin 7168, C P k * W (ix2 k N)) * s

/-- The rotation angle of a row at a lane. -/
def angleG (pos : Vec Ideal S32x4x128 .i32) (freq : FVec Ideal S1x128 .f32) (P : Fin 16384) (l : Fin 128) : EReal :=
  (((pos (ix3 ⟨P.val / 512, by omega⟩ ⟨P.val % 512 / 128, by omega⟩ ⟨P.val % 512 % 128, by omega⟩) : BitVec 32).toInt : ℝ) : EReal) * freq (ix2 0 l)

/-- The lane of a column within its head. -/
def lane (N : Fin 9216) : Fin 128 := ⟨N.val % 128, by omega⟩

/-- The column that the rotation pairs with a column. -/
def swapG (N : Fin 9216) : Fin 9216 := ⟨N.val / 128 * 128 + (N.val % 128 + 64) % 128, by omega⟩

/-- A rotated element of the queries or keys. -/
def ropeG (s : EReal) (C : Fin 16384 → Fin 7168 → EReal) (W : FVec Ideal S7168x9216 .fp8e4m3) (pos : Vec Ideal S32x4x128 .i32) (freq sign : FVec Ideal S1x128 .f32)
    (P : Fin 16384) (N : Fin 9216) : EReal :=
  accG s C W P N * Ideal.cos (angleG pos freq P (lane N)) + accG s C W P (swapG N) * (Ideal.sin (angleG pos freq P (lane N)) * sign (ix2 0 (lane N)))

theorem x_blk (c : Dev nD) (t : Fin cfg1.N) (p : Fin 512) (d : Fin 7168) (P : Fin 16384) (hP : P.val = t.val / 18 * 512 + p.val) :
    xval (iblk m c 1 t) (iblk m c 2 t) (iblk m c 3 t) p d = X (V m c main_v3_0) (V m c main_v3_1) (V m c main_v24) P d := by
  unfold xval X rstdOf
  pointwise [k1_pay5]
  blk_point [iblk, V, idx t]

theorem scale_blk (c : Dev nD) (t : Fin cfg1.N) (i : Fin 2) : iblk m c 0 t (ix1 i) = (V m c main_v5 : FVec Ideal S2 .f32) (ix1 i) := by
  blk_point [iblk, V, idx t]

theorem weight_blk (c : Dev nD) (t : Fin cfg1.N) (k : Fin 7168) (n : Fin 512) (N : Fin 9216) (hN : N.val = t.val % 18 * 512 + n.val) :
    iblk m c 7 t (ix2 k n) = (V m c main_arg7 : FVec Ideal S7168x9216 .fp8e4m3) (ix2 k N) := by
  blk_point [iblk, V, idx t]

theorem sign_blk (c : Dev nD) (t : Fin cfg1.N) (l : Fin 128) : iblk m c 6 t (ix2 0 l) = (V m c main_v23 : FVec Ideal S1x128 .f32) (ix2 0 l) := by
  blk_point [iblk, V, idx t]

theorem freq_blk (c : Dev nD) (t : Fin cfg1.N) (l : Fin 128) : iblk m c 5 t (ix2 0 l) = (V m c main_v18 : FVec Ideal S1x128 .f32) (ix2 0 l) := by
  blk_point [iblk, V, idx t]

theorem pos_blk (c : Dev nD) (t : Fin cfg1.N) (i : Fin 4) (l : Fin 128) (I : Fin 32) (hI : I.val = t.val / 18) :
    iblk m c 4 t (ix3 0 i l) = (V m c main_v25 : Vec Ideal S32x4x128 .i32) (ix3 I i l) := by
  blk_point [iblk, V, idx t]

end Cert.KernelIdeal.Qkv

end
-- ==== Proof.Value.QkvArrays.lean ====
/-
  What the second pallas_call leaves in its five result arrays, over the extended reals and any contents at its entry.
-/
module

public import proofs.«01_k».proof.Proof.Value.QkvBlocks

@[expose] public section

set_option maxRecDepth 16384
set_option maxHeartbeats 400000

noncomputable section

namespace Cert.KernelIdeal.Qkv

open Cert.KernelIdeal Cert.KernelIdeal.Gen
open Idealize.ShloMosaic Idealize.ShloMosaic.TcCoe Idealize.SL.Sem
open Idealize.ShloMosaic.Pipeline (Dat)

variable (m : Dev nD → Valuation τ sig (Elt Ideal))

/-- The codes, over the operand arrays. -/
def CG (c : Dev nD) (P : Fin 16384) (d : Fin 7168) : EReal :=
  codeOf (X (V m c main_v3_0) (V m c main_v3_1) (V m c main_v24) P d) ((V m c main_v5 : FVec Ideal S2 .f32) (ix1 0))

/-- The scaled product, over the operand arrays. -/
def AG (c : Dev nD) (P : Fin 16384) (N : Fin 9216) : EReal :=
  accG ((V m c main_v5 : FVec Ideal S2 .f32) (ix1 1)) (CG m c) (V m c main_arg7) P N

/-- The rotated product, over the operand arrays. -/
def RG (c : Dev nD) (P : Fin 16384) (N : Fin 9216) : EReal :=
  ropeG ((V m c main_v5 : FVec Ideal S2 .f32) (ix1 1)) (CG m c) (V m c main_arg7) (V m c main_v25) (V m c main_v18) (V m c main_v23) P N

theorem row_div (t : Fin cfg1.N) : (row t).val / 18 = t.val / 18 := by show (t.val - t.val % 18) / 18 = t.val / 18; omega

theorem codesAt_eq (c : Dev nD) (t : Fin cfg1.N) (p : Fin 512) (d : Fin 7168) (P : Fin 16384) (hP : P.val = t.val / 18 * 512 + p.val) :
    codesAt m c t (ix2 p d) = CG m c P d := by
  unfold codesAt
  rw [codesA_eq]
  exact congrArg₂ codeOf (x_blk m c (row t) p d P (by rw [row_div]; exact hP)) (scale_blk m c (row t) 0)

theorem angle_eq (c : Dev nD) (t : Fin cfg1.N) (p : Fin 512) (l : Fin 128) (P : Fin 16384) (hP : P.val = t.val / 18 * 512 + p.val) :
    angle (iblk m c 4 t) (iblk m c 5 t) p l = angleG (V m c main_v25) (V m c main_v18) P l := by
  have hm : P.val % 512 = p.val := by omega
  have hd : P.val / 512 = t.val / 18 := by omega
  unfold angle angleG
  have e : iblk m c 4 t (ix3 0 ⟨p.val / 128, by omega⟩ ⟨p.val % 128, by omega⟩)
      = (V m c main_v25 : Vec Ideal S32x4x128 .i32) (ix3 ⟨P.val / 512, by omega⟩ ⟨P.val % 512 / 128, by omega⟩ ⟨P.val % 512 % 128, by omega⟩) := by
    refine (pos_blk m c t _ _ ⟨P.val / 512, by omega⟩ hd).trans ?_
    exact congrArg₂ (fun a b => (V m c main_v25 : Vec Ideal S32x4x128 .i32) (ix3 ⟨P.val / 512, by omega⟩ a b)) (Fin.ext (by simp only [hm])) (Fin.ext (by simp only [hm]))
  exact congrArg₂ (fun (b : BitVec 32) (f : EReal) => ((b.toInt : ℝ) : EReal) * f) e (freq_blk m c t l)

theorem cosAt_eq (c : Dev nD) (t : Fin cfg1.N) (p : Fin 512) (l : Fin 128) (P : Fin 16384) (hP : P.val = t.val / 18 * 512 + p.val) :
    cosAt m c t (ix2 p l) = Ideal.cos (angleG (V m c main_v25) (V m c main_v18) P l) := by
  unfold cosAt
  rw [cosA_eq]
  exact congrArg Ideal.cos (angle_eq m c (row t) p l P (by rw [row_div]; exact hP))

theorem sinAt_eq (c : Dev nD) (t : Fin cfg1.N) (p : Fin 512) (l : Fin 128) (P : Fin 16384) (hP : P.val = t.val / 18 * 512 + p.val) :
    sinAt m c t (ix2 p l) = Ideal.sin (angleG (V m c main_v25) (V m c main_v18) P l) * (V m c main_v23 : FVec Ideal S1x128 .f32) (ix2 0 l) := by
  unfold sinAt
  rw [sinA_eq]
  exact congrArg₂ (fun a b : EReal => Ideal.sin a * b) (angle_eq m c (row t) p l P (by rw [row_div]; exact hP)) (sign_blk m c (row t) l)

theorem acc_eq (c : Dev nD) (t : Fin cfg1.N) (p n : Fin 512) (P : Fin 16384) (N : Fin 9216) (hP : P.val = t.val / 18 * 512 + p.val) (hN : N.val = t.val % 18 * 512 + n.val) :
    acc (iblk m c 0 t (ix1 1)) (codesAt m c t) (iblk m c 7 t) p n = AG m c P N := by
  unfold acc AG accG
  refine congrArg₂ (fun a b : EReal => a * b) (Finset.sum_congr rfl fun k _ => ?_) (scale_blk m c t 1)
  exact congrArg₂ (fun a b : EReal => a * b) (codesAt_eq m c t p k P hP) (weight_blk m c t k n N hN)

theorem rope_eq (c : Dev nD) (t : Fin cfg1.N) (p n : Fin 512) (P : Fin 16384) (N : Fin 9216) (hP : P.val = t.val / 18 * 512 + p.val) (hN : N.val = t.val % 18 * 512 + n.val) :
    rope (iblk m c 0 t (ix1 1)) (codesAt m c t) (iblk m c 7 t) (cosAt m c t) (sinAt m c t) p n = RG m c P N := by
  have hl : (⟨n.val % 128, Nat.mod_lt _ (by decide)⟩ : Fin 128) = lane N := Fin.ext (by simp only [lane]; omega)
  unfold rope RG ropeG
  rw [hl]
  refine congrArg₂ (fun a b : EReal => a + b) (congrArg₂ (fun a b : EReal => a * b) ?_ ?_) (congrArg₂ (fun a b : EReal => a * b) ?_ ?_)
  · exact acc_eq m c t p n P N hP hN
  · exact cosAt_eq m c t p (lane N) P hP
  · exact acc_eq m c t p (swap n) P (swapG N) hP (by simp only [swap, swapG]; omega)
  · exact sinAt_eq m c t p (lane N) P hP

theorem qAt_eq (c : Dev nD) (t : Fin cfg1.N) (h : t.val % 18 ≤ 13) (y : S512x512.Idx) (P : Fin 16384) (N : Fin 9216)
    (hP : P.val = t.val / 18 * 512 + (y 0).val) (hN : N.val = t.val % 18 * 512 + (y 1).val) : qAt m c t y = RG m c P N := by
  refine Eq.trans ?_ (rope_eq m c t (y 0) (y 1) P N hP hN)
  unfold qAt
  by_cases h0 : t.val % 18 = 0
  · rw [dif_pos h0, qAtA_eq]
    have e : codesA m c t h0 = codesAt m c t ∧ cosA m c t h0 = cosAt m c t ∧ sinA m c t h0 = sinAt m c t := by
      have : ∀ (u : Fin cfg1.N) (hu : u.val % 18 = 0), u = t → codesA m c t h0 = codesA m c u hu ∧ cosA m c t h0 = cosA m c u hu ∧ sinA m c t h0 = sinA m c u hu :=
        fun u hu e => by subst e; exact ⟨rfl, rfl, rfl⟩
      exact this (row t) (row_mod t) (row_self h0)
    rw [e.1, e.2.1, e.2.2]
  · rw [dif_neg h0, dif_pos h, qAtB_eq]

theorem kAt_eq (c : Dev nD) (t : Fin cfg1.N) (h0 : 14 ≤ t.val % 18) (h1 : t.val % 18 ≤ 15) (y : S512x512.Idx) (P : Fin 16384) (N : Fin 9216)
    (hP : P.val = t.val / 18 * 512 + (y 0).val) (hN : N.val = t.val % 18 * 512 + (y 1).val) : kAt m c t y = RG m c P N := by
  refine Eq.trans ?_ (rope_eq m c t (y 0) (y 1) P N hP hN)
  unfold kAt
  rw [dif_pos ⟨h0, h1⟩, kAtC_eq]

theorem vAt_eq (c : Dev nD) (t : Fin cfg1.N) (h0 : 16 ≤ t.val % 18) (y : S512x512.Idx) (P : Fin 16384) (N : Fin 9216)
    (hP : P.val = t.val / 18 * 512 + (y 0).val) (hN : N.val = t.val % 18 * 512 + (y 1).val) : vAt m c t y = AG m c P N := by
  refine Eq.trans ?_ (acc_eq m c t (y 0) (y 1) P N hP hN)
  unfold vAt
  rw [dif_pos h0, vAtD_eq]

/-- The column of the fused projection that a column of the queries, keys or values is. -/
def colQ (n : Fin 7168) : Fin 9216 := ⟨n.val, by omega⟩
def colK (n : Fin 1024) : Fin 9216 := ⟨7168 + n.val, by omega⟩
def colV (n : Fin 1024) : Fin 9216 := ⟨8192 + n.val, by omega⟩

theorem final8 (c : Dev nD) : (dat m c).arrAt 8 cfg1.N = fun y => RG m c (y 0) (colQ (y 1)) := by
  refine (dat m c).arrAt_eq_of_covers 8 _ (by decide +kernel) fun t hf y => ?_
  blk_simp
  rw [after1_8]
  refine qAt_eq m c (qpt t) ?_ y _ _ ?_ ?_
  · show (t.val - t.val % 18 + min (t.val % 18) 13) % 18 ≤ 13
    omega
  · have e : (qpt t).val / 18 = t.val / 18 := by show (t.val - t.val % 18 + min (t.val % 18) 13) / 18 = _; omega
    blk_simp [idx t]
    rw [e]
  · have e : (qpt t).val % 18 = min (t.val % 18) 13 := by show (t.val - t.val % 18 + min (t.val % 18) 13) % 18 = _; omega
    rw [e]
    unfold colQ
    blk_simp [idx t]

theorem final9 (c : Dev nD) : (dat m c).arrAt 9 cfg1.N = fun y => RG m c (y 0) (colK (y 1)) := by
  refine (dat m c).arrAt_eq_of_covers 9 _ (by decide +kernel) fun t hf y => ?_
  have ht : t.val % 18 = 14 ∨ t.val % 18 = 17 := of_decide_eq_true ((flushes1_9 t).symm.trans hf)
  blk_simp
  rw [after1_9]
  refine kAt_eq m c (kpt t) ?_ ?_ y _ _ ?_ ?_
  · show 14 ≤ (t.val - t.val % 18 + max 14 (min (t.val % 18) 15)) % 18
    omega
  · show (t.val - t.val % 18 + max 14 (min (t.val % 18) 15)) % 18 ≤ 15
    omega
  · have e : (kpt t).val / 18 = t.val / 18 := by show (t.val - t.val % 18 + max 14 (min (t.val % 18) 15)) / 18 = _; omega
    blk_simp [idx t]
    rw [e]
  · have e : (kpt t).val % 18 = 14 + min (t.val % 18 - 14) 1 := by show (t.val - t.val % 18 + max 14 (min (t.val % 18) 15)) % 18 = _; omega
    rw [e]
    unfold colK
    blk_simp [idx t]
    dsimp only
    omega

theorem final10 (c : Dev nD) : (dat m c).arrAt 10 cfg1.N = fun y => AG m c (y 0) (colV (y 1)) := by
  refine (dat m c).arrAt_eq_of_covers 10 _ (by decide +kernel) fun t hf y => ?_
  have ht : 16 ≤ t.val % 18 := of_decide_eq_true ((flushes1_10 t).symm.trans hf)
  blk_simp
  rw [after1_10, vpt_self ht]
  refine vAt_eq m c t ht y _ _ ?_ ?_
  · blk_simp [idx t]
  · unfold colV
    blk_simp [idx t]
    dsimp only
    omega

theorem final11 (c : Dev nD) : (dat m c).arrAt 11 cfg1.N = fun y => CG m c (y 0) (y 1) := by
  refine (dat m c).arrAt_eq_of_covers 11 _ (by decide +kernel) fun t hf y => ?_
  blk_simp
  rw [after1_11, eq_ix2 y]
  refine (codesAt_eq m c t (y 0) (y 1) _ ?_).trans (congrArg (CG m c _) (Fin.ext ?_))
  · blk_simp [idx t]
  · blk_simp [idx t]

/-- The largest absolute value of a row, over the operand arrays. -/
def MG (c : Dev nD) (P : Fin 16384) : EReal :=
  Finset.univ.fold max (Ideal.ofBits .f32 0xFF800000#32)
    (fun d : Fin 7168 => FloatOps.absf (F := Ideal) (φ := .f32) (X (V m c main_v3_0) (V m c main_v3_1) (V m c main_v24) P d))

theorem amaxAt_eq (c : Dev nD) (t : Fin cfg1.N) (y : S1x4x128.Idx) (P : Fin 16384) (hP : P.val = t.val / 18 * 512 + (128 * (y 1).val + (y 2).val)) :
    amaxAt m c t y = MG m c P := by
  unfold amaxAt
  rw [amaxA_eq]
  unfold amaxOf MG
  refine congrArg (fun f => Finset.univ.fold max (Ideal.ofBits .f32 0xFF800000#32) f) (funext fun d => ?_)
  exact congrArg (fun z : EReal => FloatOps.absf (F := Ideal) (φ := .f32) z) (x_blk m c (row t) (laneRow y) d P (by rw [row_div]; exact hP))

theorem final12 (c : Dev nD) : (dat m c).arrAt 12 cfg1.N
    = fun y : S32x4x128.Idx => MG m c ⟨(y 0).val * 512 + (128 * (y 1).val + (y 2).val), by
        have h0 : (y 0).val < 32 := (y 0).isLt; have h1 : (y 1).val < 4 := (y 1).isLt; have h2 : (y 2).val < 128 := (y 2).isLt; omega⟩ := by
  refine (dat m c).arrAt_eq_of_covers 12 _ (by decide +kernel) fun t hf y => ?_
  blk_simp
  rw [after1_12]
  refine amaxAt_eq m c t y _ ?_
  blk_simp [idx t]

end Cert.KernelIdeal.Qkv

end
-- ==== Proof.Value.Host.lean ====
/-
  The host operations around the two pallas_calls: what each call's operands hold at its entry, and what the six results hold at the end,
  over the extended reals.
-/
module

public import proofs.«01_k».proof.Proof.Ideal.Frame
public import proofs.«01_k».proof.Proof.Value.Down
public import proofs.«01_k».proof.Proof.Value.QkvArrays

@[expose] public section

set_option maxRecDepth 16384
set_option maxHeartbeats 800000

noncomputable section

namespace Cert.KernelIdeal.Run

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- An argument at the launch. -/
abbrev A (b : Ref sig .tc) : Buf (Elt Ideal) ((c.tc : Thread nD τ).loc b) := m ((c.tc : Thread nD τ).loc b)

/-! ## The first call's operands -/

theorem w1_v0 : W1 m c (Proc.devRef .tc main_v0) = mulf (F := Ideal) (s := S1) (φ := .f32) (A m c main_arg1) (A m c main_arg3) := by
  after_results
theorem w1_v1 : W1 m c (Proc.devRef .tc main_v1) = shapeCast S16384x18432 (A m c main_arg0 : Vec Ideal S2x8192x18432 .fp8e4m3) shapeCasts_S2x8192x18432_S16384x18432 := by
  after_results; rfl
theorem w1_v2 : W1 m c (Proc.devRef .tc main_v2) = shapeCast S16384x7168 (A m c main_arg4 : Vec Ideal S2x8192x7168 .bf16) shapeCasts_S2x8192x7168_S16384x7168 := by
  after_results; rfl
theorem w1_arg2 : W1 m c (Proc.devRef .tc main_arg2) = A m c main_arg2 := by after_results

/-! ## After the first call -/

theorem w2_v3_0 : W2 m c (Proc.devRef .tc main_v3_0) = (Down.dat (W1 m) c).arrAt 4 cfg0.N :=
  Pipeline.afterRegion_arr (Down.dat (W1 m) c) (W1 m c) launch0.win.arr_inj 4
theorem w2_v3_1 : W2 m c (Proc.devRef .tc main_v3_1) = (Down.dat (W1 m) c).arrAt 5 cfg0.N :=
  Pipeline.afterRegion_arr (Down.dat (W1 m) c) (W1 m c) launch0.win.arr_inj 5
theorem w2_arg5 : W2 m c (Proc.devRef .tc main_arg5) = A m c main_arg5 :=
  (Pipeline.afterRegion_of_not_arr _ _ (by decide)).trans (by after_results)
theorem w2_arg6 : W2 m c (Proc.devRef .tc main_arg6) = A m c main_arg6 :=
  (Pipeline.afterRegion_of_not_arr _ _ (by decide)).trans (by after_results)
theorem w2_arg7 : W2 m c (Proc.devRef .tc main_arg7) = A m c main_arg7 :=
  (Pipeline.afterRegion_of_not_arr _ _ (by decide)).trans (by after_results)
theorem w2_arg8 : W2 m c (Proc.devRef .tc main_arg8) = A m c main_arg8 :=
  (Pipeline.afterRegion_of_not_arr _ _ (by decide)).trans (by after_results)
theorem w2_arg9 : W2 m c (Proc.devRef .tc main_arg9) = A m c main_arg9 :=
  (Pipeline.afterRegion_of_not_arr _ _ (by decide)).trans (by after_results)

/-! ## The second call's operands -/

/-- The rotation's 64 frequencies, as the host computes them. -/
def freq64 : FVec Ideal S64 .f32 :=
  Host.divf (broadcastInDim S64 ![] bcast_S_S64 (constant (F := Ideal) S_ .f32 0x3F800000#32))
    (Host.powf (broadcastInDim S64 ![] bcast_S_S64 (constant (F := Ideal) S_ .f32 0x49742400#32))
      (Host.divf (addf (broadcastInDim S64 ![] bcast_S_S64 (constant (F := Ideal) S_ .f32 0x00000000#32))
        (mulf (broadcastInDim S64 ![] bcast_S_S64 (constant (F := Ideal) S_ .f32 0x40000000#32)) (sitofp .f32 (iotaInDim S64 32 0))))
        (broadcastInDim S64 ![] bcast_S_S64 (constant (F := Ideal) S_ .f32 0x43000000#32))))

/-- The signs: minus one on the first 64 lanes, one on the others. -/
def sign128 : FVec Ideal S128 .f32 :=
  concatenate S128 0 [⟨S64, Host.negf (broadcastInDim S64 ![] bcast_S_S64 (constant (F := Ideal) S_ .f32 0x3F800000#32))⟩,
    ⟨S64, broadcastInDim S64 ![] bcast_S_S64 (constant (F := Ideal) S_ .f32 0x3F800000#32)⟩] concatenates_S64_S64_S128_d0

theorem w3_v3_0 : W3 m c (Proc.devRef .tc main_v3_0) = W2 m c (Proc.devRef .tc main_v3_0) := by after_results
theorem w3_v3_1 : W3 m c (Proc.devRef .tc main_v3_1) = W2 m c (Proc.devRef .tc main_v3_1) := by after_results
theorem w3_arg7 : W3 m c (Proc.devRef .tc main_arg7) = A m c main_arg7 :=
  Eq.trans (by after_results) (w2_arg7 m c)
theorem w3_v5 : W3 m c (Proc.devRef .tc main_v5) = concatenate S2 0 [⟨S1, (A m c main_arg6 : FVec Ideal S1 .f32)⟩,
    ⟨S1, mulf (F := Ideal) (s := S1) (φ := .f32) (A m c main_arg6) (A m c main_arg8)⟩] concatenates_S1_S1_S2_d0 := by
  rw [← w2_arg6, ← w2_arg8]; after_results
theorem w3_v18 : W3 m c (Proc.devRef .tc main_v18) = shapeCast S1x128 (concatenate S128 0 [⟨S64, freq64⟩, ⟨S64, freq64⟩] concatenates_S64_S64_S128_d0) shapeCasts_S128_S1x128 := by
  unfold freq64; after_results; rfl
theorem w3_v23 : W3 m c (Proc.devRef .tc main_v23) = shapeCast S1x128 sign128 shapeCasts_S128_S1x128 := by
  unfold sign128; after_results; rfl
theorem w3_v24 : W3 m c (Proc.devRef .tc main_v24) = shapeCast S1x7168 (A m c main_arg5 : FVec Ideal S7168 .f32) shapeCasts_S7168_S1x7168 := by
  rw [← w2_arg5]; after_results; rfl
theorem w3_v25 : W3 m c (Proc.devRef .tc main_v25) = shapeCast S32x4x128 (A m c main_arg9 : Vec Ideal S2x8192 .i32) shapeCasts_S2x8192_S32x4x128 := by
  rw [← w2_arg9]; after_results; rfl

/-! ## The results -/

theorem w4_v3_0 : W4 qkv m c (Proc.devRef .tc main_v3_0) = (Down.dat (W1 m) c).arrAt 4 cfg0.N :=
  ((Pipeline.afterRegion_arr (Qkv.dat (W3 m) c) (W3 m c) launch1.win.arr_inj 1).trans
    (((Qkv.dat (W3 m) c).arrAt_in 1 rfl _).trans (Qkv.A_eq (W3 m) c 1))).trans ((w3_v3_0 m c).trans (w2_v3_0 m c))

theorem end_v27 : Wend m c (Proc.devRef .tc main_v27)
    = shapeCast S2x8192x7168 ((Down.dat (W1 m) c).arrAt 4 cfg0.N : Vec Ideal S16384x7168 .bf16) shapeCasts_S16384x7168_S2x8192x7168 := by
  rw [← w4_v3_0]; after_results; rfl

theorem w4_v26_0 : W4 qkv m c (Proc.devRef .tc main_v26_0) = (Qkv.dat (W3 m) c).arrAt 8 cfg1.N :=
  Pipeline.afterRegion_arr (Qkv.dat (W3 m) c) (W3 m c) launch1.win.arr_inj 8
theorem w4_v26_1 : W4 qkv m c (Proc.devRef .tc main_v26_1) = (Qkv.dat (W3 m) c).arrAt 9 cfg1.N :=
  Pipeline.afterRegion_arr (Qkv.dat (W3 m) c) (W3 m c) launch1.win.arr_inj 9
theorem w4_v26_2 : W4 qkv m c (Proc.devRef .tc main_v26_2) = (Qkv.dat (W3 m) c).arrAt 10 cfg1.N :=
  Pipeline.afterRegion_arr (Qkv.dat (W3 m) c) (W3 m c) launch1.win.arr_inj 10
theorem w4_v26_3 : W4 qkv m c (Proc.devRef .tc main_v26_3) = (Qkv.dat (W3 m) c).arrAt 11 cfg1.N :=
  Pipeline.afterRegion_arr (Qkv.dat (W3 m) c) (W3 m c) launch1.win.arr_inj 11
theorem w4_v26_4 : W4 qkv m c (Proc.devRef .tc main_v26_4) = (Qkv.dat (W3 m) c).arrAt 12 cfg1.N :=
  Pipeline.afterRegion_arr (Qkv.dat (W3 m) c) (W3 m c) launch1.win.arr_inj 12

theorem end_v28 : Wend m c (Proc.devRef .tc main_v28)
    = shapeCast S2x8192x56x128 ((Qkv.dat (W3 m) c).arrAt 8 cfg1.N : Vec Ideal S16384x7168 .bf16) shapeCasts_S16384x7168_S2x8192x56x128 := by
  rw [← w4_v26_0]; after_results; rfl
theorem end_v29 : Wend m c (Proc.devRef .tc main_v29)
    = shapeCast S2x8192x8x128 ((Qkv.dat (W3 m) c).arrAt 9 cfg1.N : Vec Ideal S16384x1024 .bf16) shapeCasts_S16384x1024_S2x8192x8x128 := by
  rw [← w4_v26_1]; after_results; rfl
theorem end_v30 : Wend m c (Proc.devRef .tc main_v30)
    = shapeCast S2x8192x8x128 ((Qkv.dat (W3 m) c).arrAt 10 cfg1.N : Vec Ideal S16384x1024 .bf16) shapeCasts_S16384x1024_S2x8192x8x128 := by
  rw [← w4_v26_2]; after_results; rfl
theorem end_v31 : Wend m c (Proc.devRef .tc main_v31)
    = shapeCast S2x8192x7168 ((Qkv.dat (W3 m) c).arrAt 11 cfg1.N : Vec Ideal S16384x7168 .fp8e4m3) shapeCasts_S16384x7168_S2x8192x7168 := by
  rw [← w4_v26_3]; after_results; rfl
theorem end_v32 : Wend m c (Proc.devRef .tc main_v32)
    = shapeCast S2x8192 ((Qkv.dat (W3 m) c).arrAt 12 cfg1.N : Vec Ideal S32x4x128 .f32) shapeCasts_S32x4x128_S2x8192 := by
  rw [← w4_v26_4]; after_results; rfl

end Cert.KernelIdeal.Run

end
-- ==== Proof.Value.RefPoints.lean ====
/-
  What the reference's body stores, index by index, over the extended reals and over any operands.
-/
module

public import proofs.«01_k».proof.Proof.Gen.ReferenceIdeal.Frame
public import Idealize.ShloMosaic.Lib.Pipeline.ValueKit

@[expose] public section

set_option maxRecDepth 16384
set_option maxHeartbeats 800000

noncomputable section

namespace Cert.ReferenceIdeal.Ref

open Cert.ReferenceIdeal Cert.ReferenceIdeal.Gen
open Idealize.ShloMosaic Idealize.ShloMosaic.TcCoe Idealize.SL.Sem
open Idealize.ShloMosaic.Pipeline (Dat)

/-- The residual sum. -/
def resid (h : Vec Ideal S16384x18432 .fp8e4m3) (w : Vec Ideal S18432x7168 .fp8e4m3) (a b : EReal) (res : Vec Ideal S16384x7168 .bf16)
    (P : Fin 16384) (d : Fin 7168) : EReal :=
  res (ix2 P d) + (∑ k : Fin 18432, h (ix2 P k) * w (ix2 k d)) * (a * b)

theorem pay3_eq (h : Vec Ideal S16384x18432 .fp8e4m3) (w : Vec Ideal S18432x7168 .fp8e4m3) (a b : EReal) (res : Vec Ideal S16384x7168 .bf16)
    (P : Fin 16384) (d : Fin 7168) : k0_pay3 (F := Ideal) h w a b res (ix2 P d) = resid h w a b res P d := by
  pointwise [k0_pay3, resid]

/-- The normalized row, from the residual sum. -/
def normed (r : Fin 16384 → Fin 7168 → EReal) (g : Vec Ideal S1x7168 .f32) (P : Fin 16384) (d : Fin 7168) : EReal :=
  r P d * Ideal.rsqrt (Ideal.div (∑ e : Fin 7168, r P e * r P e) (Ideal.ofBits .f32 0x45E00000#32) + Ideal.ofBits .f32 0x358637BD#32) * g (ix2 0 d)

theorem pay4_eq (h : Vec Ideal S16384x18432 .fp8e4m3) (w : Vec Ideal S18432x7168 .fp8e4m3) (a b : EReal) (res : Vec Ideal S16384x7168 .bf16)
    (g : Vec Ideal S1x7168 .f32) (P : Fin 16384) (d : Fin 7168) :
    k0_pay4 (F := Ideal) h w a b res g (ix2 P d) = normed (resid h w a b res) g P d := by
  unfold normed
  simp only [← pay3_eq]
  pointwise [k0_pay4]

/-- The quantized entry. -/
def code (x s : EReal) : EReal := min (Ideal.ofBits .f32 0x43E00000#32) (max (Ideal.ofBits .f32 0xC3E00000#32) (Ideal.div x s))

theorem pay5_eq (h : Vec Ideal S16384x18432 .fp8e4m3) (w : Vec Ideal S18432x7168 .fp8e4m3) (a b : EReal) (res : Vec Ideal S16384x7168 .bf16)
    (g : Vec Ideal S1x7168 .f32) (s : EReal) (P : Fin 16384) (d : Fin 7168) :
    k0_pay5 (F := Ideal) h w a b res g s (ix2 P d) = code (normed (resid h w a b res) g P d) s := by
  unfold code
  rw [← pay4_eq]
  pointwise [k0_pay5]

/-- The largest absolute value of a row. -/
def rowMax (x : Fin 7168 → EReal) : EReal :=
  Finset.univ.fold max (Ideal.ofBits .f32 0xFF800000#32) (fun d : Fin 7168 => FloatOps.absf (F := Ideal) (φ := .f32) (x d))

theorem pay6_eq (x : FVec Ideal S16384x7168 .f32) (P : Fin 16384) :
    k0_pay6 (F := Ideal) x (ix1 P) = rowMax (fun d => x (ix2 P d)) := by
  unfold rowMax
  pointwise [k0_pay6]

/-- The projection of the quantized rows. -/
def proj (x : Vec Ideal S16384x7168 .fp8e4m3) (w : Vec Ideal S7168x9216 .fp8e4m3) (a b : EReal) (P : Fin 16384) (N : Fin 9216) : EReal :=
  (∑ k : Fin 7168, x (ix2 P k) * w (ix2 k N)) * (a * b)

theorem pay7_eq (x : Vec Ideal S16384x7168 .fp8e4m3) (w : Vec Ideal S7168x9216 .fp8e4m3) (a b : EReal) (P : Fin 16384) (N : Fin 9216) :
    k0_pay7 (F := Ideal) x w a b (ix2 P N) = proj x w a b P N := by
  pointwise [k0_pay7, proj]

/-- The values' head `h`, lane `l`. -/
theorem pay2_eq (x : Vec Ideal S16384x7168 .fp8e4m3) (w : Vec Ideal S7168x9216 .fp8e4m3) (a b : EReal) (P : Fin 16384) (h : Fin 8) (l : Fin 128) :
    k0_pay2 (F := Ideal) (k0_pay9 x w a b) (ix3 P h l) = proj x w a b P ⟨8192 + (h.val * 128 + l.val), by omega⟩ := by
  rw [← pay7_eq]
  pointwise [k0_pay2, k0_pay9]

/-- The keys' head `h`, lane `l`, before rotation. -/
theorem pay8_eq (x : Vec Ideal S16384x7168 .fp8e4m3) (w : Vec Ideal S7168x9216 .fp8e4m3) (a b : EReal) (P : Fin 16384) (h : Fin 8) (l : Fin 128) :
    k0_pay8 (F := Ideal) x w a b (ix3 P h l) = proj x w a b P ⟨7168 + (h.val * 128 + l.val), by omega⟩ := by
  rw [← pay7_eq]
  pointwise [k0_pay8]

/-- The keys rotated: the left half. -/
theorem payK_left (x : Vec Ideal S16384x7168 .fp8e4m3) (w : Vec Ideal S7168x9216 .fp8e4m3) (a b : EReal) (co si : Vec Ideal S16384x64 .f32)
    (P : Fin 16384) (h : Fin 8) (l : Fin 64) :
    k0_pay1 (F := Ideal) (k0_pay10 co) (k0_pay11 si) (k0_pay13 x w a b) (k0_pay14 x w a b) (k0_pay15 x w a b co) (k0_pay16 si) (ix3 P h ⟨l.val, by omega⟩)
      = proj x w a b P ⟨7168 + (h.val * 128 + l.val), by omega⟩ * co (ix2 P l) - proj x w a b P ⟨7168 + (h.val * 128 + (64 + l.val)), by omega⟩ * si (ix2 P l) := by
  have e1 := pay8_eq x w a b P h ⟨l.val, by omega⟩
  have e2 := pay8_eq x w a b P h ⟨64 + l.val, by omega⟩
  rw [← e1, ← e2]
  pointwise [k0_pay1, k0_pay10, k0_pay11, k0_pay13, k0_pay14, k0_pay15, k0_pay16]

/-- The keys rotated: the right half. -/
theorem payK_right (x : Vec Ideal S16384x7168 .fp8e4m3) (w : Vec Ideal S7168x9216 .fp8e4m3) (a b : EReal) (co si : Vec Ideal S16384x64 .f32)
    (P : Fin 16384) (h : Fin 8) (l : Fin 64) :
    k0_pay1 (F := Ideal) (k0_pay10 co) (k0_pay11 si) (k0_pay13 x w a b) (k0_pay14 x w a b) (k0_pay15 x w a b co) (k0_pay16 si) (ix3 P h ⟨64 + l.val, by omega⟩)
      = proj x w a b P ⟨7168 + (h.val * 128 + (64 + l.val)), by omega⟩ * co (ix2 P l) + proj x w a b P ⟨7168 + (h.val * 128 + l.val), by omega⟩ * si (ix2 P l) := by
  have e1 := pay8_eq x w a b P h ⟨l.val, by omega⟩
  have e2 := pay8_eq x w a b P h ⟨64 + l.val, by omega⟩
  rw [← e1, ← e2]
  pointwise [k0_pay1, k0_pay10, k0_pay11, k0_pay13, k0_pay14, k0_pay15, k0_pay16]

/-- The queries rotated: the left half. -/
theorem payQ_left (x : Vec Ideal S16384x7168 .fp8e4m3) (w : Vec Ideal S7168x9216 .fp8e4m3) (a b : EReal) (co si : Vec Ideal S16384x64 .f32)
    (P : Fin 16384) (h : Fin 56) (l : Fin 64) :
    k0_pay12 (F := Ideal) x w a b co si (ix3 P h ⟨l.val, by omega⟩)
      = proj x w a b P ⟨h.val * 128 + l.val, by omega⟩ * co (ix2 P l) - proj x w a b P ⟨h.val * 128 + (64 + l.val), by omega⟩ * si (ix2 P l) := by
  rw [← pay7_eq, ← pay7_eq]
  pointwise [k0_pay12, k0_pay10, k0_pay11]

/-- The queries rotated: the right half. -/
theorem payQ_right (x : Vec Ideal S16384x7168 .fp8e4m3) (w : Vec Ideal S7168x9216 .fp8e4m3) (a b : EReal) (co si : Vec Ideal S16384x64 .f32)
    (P : Fin 16384) (h : Fin 56) (l : Fin 64) :
    k0_pay12 (F := Ideal) x w a b co si (ix3 P h ⟨64 + l.val, by omega⟩)
      = proj x w a b P ⟨h.val * 128 + (64 + l.val), by omega⟩ * co (ix2 P l) + proj x w a b P ⟨h.val * 128 + l.val, by omega⟩ * si (ix2 P l) := by
  rw [← pay7_eq, ← pay7_eq]
  pointwise [k0_pay12, k0_pay10, k0_pay11]

end Cert.ReferenceIdeal.Ref

end
-- ==== Proof.Value.RefArrays.lean ====
/-
  What the reference's call leaves in its six result arrays, over the extended reals and over the contents at its entry.
-/
module

public import proofs.«01_k».proof.Proof.Value.RefPoints

@[expose] public section

set_option maxRecDepth 16384
set_option maxHeartbeats 800000

noncomputable section

namespace Cert.ReferenceIdeal.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0] ∧ win0_2.index t = ![0, 0] ∧ win0_3.index t = ![0] ∧ win0_4.index t = ![0, 0] ∧ win0_5.index t = ![0, 0] ∧ win0_6.index t = ![0] ∧ win0_7.index t = ![0, 0] ∧ win0_8.index t = ![0] ∧ win0_9.index t = ![0, 0] ∧ win0_10.index t = ![0, 0] ∧ win0_11.index t = ![0, 0] ∧ win0_12.index t = ![0, 0, 0] ∧ win0_13.index t = ![0, 0, 0] ∧ win0_14.index t = ![0, 0, 0] ∧ win0_15.index t = ![0, 0] ∧ win0_16.index t = ![0] :=
  (by decide +kernel : ∀ t : Fin grid0.N, _)

/-- Every operand's block is its whole array. -/
theorem blk0 (c : Dev nD) : (iblk m c 0 t0_0 : Vec Ideal S16384x18432 .fp8e4m3) = V m c main_v17 := by
  funext y; blk_point [iblk, idx t0_0]
theorem blk1 (c : Dev nD) : (iblk m c 1 t0_0 : Vec Ideal S1 .f32) = V m c main_arg1 := by
  funext y; blk_point [iblk, idx t0_0]
theorem blk2 (c : Dev nD) : (iblk m c 2 t0_0 : Vec Ideal S18432x7168 .fp8e4m3) = V m c main_arg2 := by
  funext y; blk_point [iblk, idx t0_0]
theorem blk3 (c : Dev nD) : (iblk m c 3 t0_0 : Vec Ideal S1 .f32) = V m c main_arg3 := by
  funext y; blk_point [iblk, idx t0_0]
theorem blk4 (c : Dev nD) : (iblk m c 4 t0_0 : Vec Ideal S16384x7168 .bf16) = V m c main_v18 := by
  funext y; blk_point [iblk, idx t0_0]
theorem blk5 (c : Dev nD) : (iblk m c 5 t0_0 : Vec Ideal S1x7168 .f32) = V m c main_v19 := by
  funext y; blk_point [iblk, idx t0_0]
theorem blk6 (c : Dev nD) : (iblk m c 6 t0_0 : Vec Ideal S1 .f32) = V m c main_arg6 := by
  funext y; blk_point [iblk, idx t0_0]
theorem blk7 (c : Dev nD) : (iblk m c 7 t0_0 : Vec Ideal S7168x9216 .fp8e4m3) = V m c main_arg7 := by
  funext y; blk_point [iblk, idx t0_0]
theorem blk8 (c : Dev nD) : (iblk m c 8 t0_0 : Vec Ideal S1 .f32) = V m c main_arg8 := by
  funext y; blk_point [iblk, idx t0_0]
theorem blk9 (c : Dev nD) : (iblk m c 9 t0_0 : Vec Ideal S16384x64 .f32) = V m c main_v21 := by
  funext y; blk_point [iblk, idx t0_0]
theorem blk10 (c : Dev nD) : (iblk m c 10 t0_0 : Vec Ideal S16384x64 .f32) = V m c main_v23 := by
  funext y; blk_point [iblk, idx t0_0]

/-- A scale as the body loads it. -/
theorem scale_load (f g : Vec Ideal S1 .f32) (e : f = g) (i : S1.Idx) : f i = g (ix1 0) := by
  rw [e]; exact congrArg g (by rw [eq_ix1 i]; exact congrArg ix1 (Subsingleton.elim (α := Fin 1) _ _))

/-- The residual sum. -/
def outResid (x0 : Vec Ideal S16384x18432 .fp8e4m3) (x1 : EReal) (x2 : Vec Ideal S18432x7168 .fp8e4m3) (x3 : EReal) (x4 : Vec Ideal S16384x7168 .bf16) : FVec Ideal S16384x7168 .bf16 :=
  k0_pay3 (F := Ideal) x0 x2 x1 x3 x4

/-- The quantized rows. -/
def outCodes (x0 : Vec Ideal S16384x18432 .fp8e4m3) (x1 : EReal) (x2 : Vec Ideal S18432x7168 .fp8e4m3) (x3 : EReal) (x4 : Vec Ideal S16384x7168 .bf16) (x5 : Vec Ideal S1x7168 .f32) (x6 : EReal) : FVec Ideal S16384x7168 .fp8e4m3 :=
  k0_pay5 (F := Ideal) x0 x2 x1 x3 x4 x5 x6

/-- The largest absolute values. -/
def outMax (x0 : Vec Ideal S16384x18432 .fp8e4m3) (x1 : EReal) (x2 : Vec Ideal S18432x7168 .fp8e4m3) (x3 : EReal) (x4 : Vec Ideal S16384x7168 .bf16) (x5 : Vec Ideal S1x7168 .f32) : FVec Ideal S16384 .f32 :=
  k0_pay6 (F := Ideal) (k0_pay4 x0 x2 x1 x3 x4 x5)

/-- The queries. -/
def outQ (x0 : Vec Ideal S16384x18432 .fp8e4m3) (x1 : EReal) (x2 : Vec Ideal S18432x7168 .fp8e4m3) (x3 : EReal) (x4 : Vec Ideal S16384x7168 .bf16) (x5 : Vec Ideal S1x7168 .f32) (x6 : EReal) (x7 : Vec Ideal S7168x9216 .fp8e4m3) (x8 : EReal) (x9 : Vec Ideal S16384x64 .f32) (x10 : Vec Ideal S16384x64 .f32) : FVec Ideal S16384x56x128 .bf16 :=
  k0_pay12 (F := Ideal) (outCodes x0 x1 x2 x3 x4 x5 x6) x7 x6 x8 x9 x10

/-- The keys. -/
def outK (x0 : Vec Ideal S16384x18432 .fp8e4m3) (x1 : EReal) (x2 : Vec Ideal S18432x7168 .fp8e4m3) (x3 : EReal) (x4 : Vec Ideal S16384x7168 .bf16) (x5 : Vec Ideal S1x7168 .f32) (x6 : EReal) (x7 : Vec Ideal S7168x9216 .fp8e4m3) (x8 : EReal) (x9 : Vec Ideal S16384x64 .f32) (x10 : Vec Ideal S16384x64 .f32) : FVec Ideal S16384x8x128 .bf16 :=
  k0_pay1 (F := Ideal) (k0_pay10 x9) (k0_pay11 x10) (k0_pay13 (outCodes x0 x1 x2 x3 x4 x5 x6) x7 x6 x8) (k0_pay14 (outCodes x0 x1 x2 x3 x4 x5 x6) x7 x6 x8) (k0_pay15 (outCodes x0 x1 x2 x3 x4 x5 x6) x7 x6 x8 x9) (k0_pay16 x10)

/-- The values. -/
def outV (x0 : Vec Ideal S16384x18432 .fp8e4m3) (x1 : EReal) (x2 : Vec Ideal S18432x7168 .fp8e4m3) (x3 : EReal) (x4 : Vec Ideal S16384x7168 .bf16) (x5 : Vec Ideal S1x7168 .f32) (x6 : EReal) (x7 : Vec Ideal S7168x9216 .fp8e4m3) (x8 : EReal) : FVec Ideal S16384x8x128 .bf16 :=
  k0_pay2 (F := Ideal) (k0_pay9 (outCodes x0 x1 x2 x3 x4 x5 x6) x7 x6 x8)

theorem final11 (c : Dev nD) : (dats m 0 c).arrAt 11 cfg0.N
    = outResid (V m c main_v17) ((V m c main_arg1 : Vec Ideal S1 .f32) (ix1 0)) (V m c main_arg2) ((V m c main_arg3 : Vec Ideal S1 .f32) (ix1 0)) (V m c main_v18) := by
  refine (dats m 0 c).arrAt_eq_of_after_last 11 t0_0 (by decide +kernel) _ fun j => ?_
  blk_simp
  rw [after0_11]
  unfold outsAt0
  frame_out
  have key : ∀ a0 a1 a2 a3 a4 b0 b1 b2 b3 b4, a0 = b0 → a1 = b1 → a2 = b2 → a3 = b3 → a4 = b4 →
      outResid a0 a1 a2 a3 a4 j = outResid b0 b1 b2 b3 b4 j := by
    rintro _ _ _ _ _ _ _ _ _ _ rfl rfl rfl rfl rfl; rfl
  exact key _ _ _ _ _ _ _ _ _ _ ((Memref.IsWhole.read_unread _ _).trans (blk0 m c)) (scale_load _ _ ((Memref.IsWhole.read_unread _ _).trans (blk1 m c)) _) ((Memref.IsWhole.read_unread _ _).trans (blk2 m c)) (scale_load _ _ ((Memref.IsWhole.read_unread _ _).trans (blk3 m c)) _) ((Memref.IsWhole.read_unread _ _).trans (blk4 m c))

theorem final15 (c : Dev nD) : (dats m 0 c).arrAt 15 cfg0.N
    = outCodes (V m c main_v17) ((V m c main_arg1 : Vec Ideal S1 .f32) (ix1 0)) (V m c main_arg2) ((V m c main_arg3 : Vec Ideal S1 .f32) (ix1 0)) (V m c main_v18) (V m c main_v19) ((V m c main_arg6 : Vec Ideal S1 .f32) (ix1 0)) := by
  refine (dats m 0 c).arrAt_eq_of_after_last 15 t0_0 (by decide +kernel) _ fun j => ?_
  blk_simp
  rw [after0_15]
  unfold outsAt0
  frame_out
  have key : ∀ a0 a1 a2 a3 a4 a5 a6 b0 b1 b2 b3 b4 b5 b6, a0 = b0 → a1 = b1 → a2 = b2 → a3 = b3 → a4 = b4 → a5 = b5 → a6 = b6 →
      outCodes a0 a1 a2 a3 a4 a5 a6 j = outCodes b0 b1 b2 b3 b4 b5 b6 j := by
    rintro _ _ _ _ _ _ _ _ _ _ _ _ _ _ rfl rfl rfl rfl rfl rfl rfl; rfl
  exact key _ _ _ _ _ _ _ _ _ _ _ _ _ _ ((Memref.IsWhole.read_unread _ _).trans (blk0 m c)) (scale_load _ _ ((Memref.IsWhole.read_unread _ _).trans (blk1 m c)) _) ((Memref.IsWhole.read_unread _ _).trans (blk2 m c)) (scale_load _ _ ((Memref.IsWhole.read_unread _ _).trans (blk3 m c)) _) ((Memref.IsWhole.read_unread _ _).trans (blk4 m c)) ((Memref.IsWhole.read_unread _ _).trans (blk5 m c)) (scale_load _ _ ((Memref.IsWhole.read_unread _ _).trans (blk6 m c)) _)

theorem final16 (c : Dev nD) : (dats m 0 c).arrAt 16 cfg0.N
    = outMax (V m c main_v17) ((V m c main_arg1 : Vec Ideal S1 .f32) (ix1 0)) (V m c main_arg2) ((V m c main_arg3 : Vec Ideal S1 .f32) (ix1 0)) (V m c main_v18) (V m c main_v19) := by
  refine (dats m 0 c).arrAt_eq_of_after_last 16 t0_0 (by decide +kernel) _ fun j => ?_
  blk_simp
  rw [after0_16]
  unfold outsAt0
  frame_out
  have key : ∀ a0 a1 a2 a3 a4 a5 b0 b1 b2 b3 b4 b5, a0 = b0 → a1 = b1 → a2 = b2 → a3 = b3 → a4 = b4 → a5 = b5 →
      outMax a0 a1 a2 a3 a4 a5 j = outMax b0 b1 b2 b3 b4 b5 j := by
    rintro _ _ _ _ _ _ _ _ _ _ _ _ rfl rfl rfl rfl rfl rfl; rfl
  exact key _ _ _ _ _ _ _ _ _ _ _ _ ((Memref.IsWhole.read_unread _ _).trans (blk0 m c)) (scale_load _ _ ((Memref.IsWhole.read_unread _ _).trans (blk1 m c)) _) ((Memref.IsWhole.read_unread _ _).trans (blk2 m c)) (scale_load _ _ ((Memref.IsWhole.read_unread _ _).trans (blk3 m c)) _) ((Memref.IsWhole.read_unread _ _).trans (blk4 m c)) ((Memref.IsWhole.read_unread _ _).trans (blk5 m c))

theorem final12 (c : Dev nD) : (dats m 0 c).arrAt 12 cfg0.N
    = outQ (V m c main_v17) ((V m c main_arg1 : Vec Ideal S1 .f32) (ix1 0)) (V m c main_arg2) ((V m c main_arg3 : Vec Ideal S1 .f32) (ix1 0)) (V m c main_v18) (V m c main_v19) ((V m c main_arg6 : Vec Ideal S1 .f32) (ix1 0)) (V m c main_arg7) ((V m c main_arg8 : Vec Ideal S1 .f32) (ix1 0)) (V m c main_v21) (V m c main_v23) := by
  refine (dats m 0 c).arrAt_eq_of_after_last 12 t0_0 (by decide +kernel) _ fun j => ?_
  blk_simp
  rw [after0_12]
  unfold outsAt0
  frame_out
  have key : ∀ a0 a1 a2 a3 a4 a5 a6 a7 a8 a9 a10 b0 b1 b2 b3 b4 b5 b6 b7 b8 b9 b10, a0 = b0 → a1 = b1 → a2 = b2 → a3 = b3 → a4 = b4 → a5 = b5 → a6 = b6 → a7 = b7 → a8 = b8 → a9 = b9 → a10 = b10 →
      outQ a0 a1 a2 a3 a4 a5 a6 a7 a8 a9 a10 j = outQ b0 b1 b2 b3 b4 b5 b6 b7 b8 b9 b10 j := by
    rintro _ _ _ _ _ _ _ _ _ _ _ _ _ _ _ _ _ _ _ _ _ _ rfl rfl rfl rfl rfl rfl rfl rfl rfl rfl rfl; rfl
  exact key _ _ _ _ _ _ _ _ _ _ _ _ _ _ _ _ _ _ _ _ _ _ ((Memref.IsWhole.read_unread _ _).trans (blk0 m c)) (scale_load _ _ ((Memref.IsWhole.read_unread _ _).trans (blk1 m c)) _) ((Memref.IsWhole.read_unread _ _).trans (blk2 m c)) (scale_load _ _ ((Memref.IsWhole.read_unread _ _).trans (blk3 m c)) _) ((Memref.IsWhole.read_unread _ _).trans (blk4 m c)) ((Memref.IsWhole.read_unread _ _).trans (blk5 m c)) (scale_load _ _ ((Memref.IsWhole.read_unread _ _).trans (blk6 m c)) _) ((Memref.IsWhole.read_unread _ _).trans (blk7 m c)) (scale_load _ _ ((Memref.IsWhole.read_unread _ _).trans (blk8 m c)) _) ((Memref.IsWhole.read_unread _ _).trans (blk9 m c)) ((Memref.IsWhole.read_unread _ _).trans (blk10 m c))

theorem final13 (c : Dev nD) : (dats m 0 c).arrAt 13 cfg0.N
    = outK (V m c main_v17) ((V m c main_arg1 : Vec Ideal S1 .f32) (ix1 0)) (V m c main_arg2) ((V m c main_arg3 : Vec Ideal S1 .f32) (ix1 0)) (V m c main_v18) (V m c main_v19) ((V m c main_arg6 : Vec Ideal S1 .f32) (ix1 0)) (V m c main_arg7) ((V m c main_arg8 : Vec Ideal S1 .f32) (ix1 0)) (V m c main_v21) (V m c main_v23) := by
  refine (dats m 0 c).arrAt_eq_of_after_last 13 t0_0 (by decide +kernel) _ fun j => ?_
  blk_simp
  rw [after0_13]
  unfold outsAt0
  frame_out
  have key : ∀ a0 a1 a2 a3 a4 a5 a6 a7 a8 a9 a10 b0 b1 b2 b3 b4 b5 b6 b7 b8 b9 b10, a0 = b0 → a1 = b1 → a2 = b2 → a3 = b3 → a4 = b4 → a5 = b5 → a6 = b6 → a7 = b7 → a8 = b8 → a9 = b9 → a10 = b10 →
      outK a0 a1 a2 a3 a4 a5 a6 a7 a8 a9 a10 j = outK b0 b1 b2 b3 b4 b5 b6 b7 b8 b9 b10 j := by
    rintro _ _ _ _ _ _ _ _ _ _ _ _ _ _ _ _ _ _ _ _ _ _ rfl rfl rfl rfl rfl rfl rfl rfl rfl rfl rfl; rfl
  exact key _ _ _ _ _ _ _ _ _ _ _ _ _ _ _ _ _ _ _ _ _ _ ((Memref.IsWhole.read_unread _ _).trans (blk0 m c)) (scale_load _ _ ((Memref.IsWhole.read_unread _ _).trans (blk1 m c)) _) ((Memref.IsWhole.read_unread _ _).trans (blk2 m c)) (scale_load _ _ ((Memref.IsWhole.read_unread _ _).trans (blk3 m c)) _) ((Memref.IsWhole.read_unread _ _).trans (blk4 m c)) ((Memref.IsWhole.read_unread _ _).trans (blk5 m c)) (scale_load _ _ ((Memref.IsWhole.read_unread _ _).trans (blk6 m c)) _) ((Memref.IsWhole.read_unread _ _).trans (blk7 m c)) (scale_load _ _ ((Memref.IsWhole.read_unread _ _).trans (blk8 m c)) _) ((Memref.IsWhole.read_unread _ _).trans (blk9 m c)) ((Memref.IsWhole.read_unread _ _).trans (blk10 m c))

theorem final14 (c : Dev nD) : (dats m 0 c).arrAt 14 cfg0.N
    = outV (V m c main_v17) ((V m c main_arg1 : Vec Ideal S1 .f32) (ix1 0)) (V m c main_arg2) ((V m c main_arg3 : Vec Ideal S1 .f32) (ix1 0)) (V m c main_v18) (V m c main_v19) ((V m c main_arg6 : Vec Ideal S1 .f32) (ix1 0)) (V m c main_arg7) ((V m c main_arg8 : Vec Ideal S1 .f32) (ix1 0)) := by
  refine (dats m 0 c).arrAt_eq_of_after_last 14 t0_0 (by decide +kernel) _ fun j => ?_
  blk_simp
  rw [after0_14]
  unfold outsAt0
  frame_out
  have key : ∀ a0 a1 a2 a3 a4 a5 a6 a7 a8 b0 b1 b2 b3 b4 b5 b6 b7 b8, a0 = b0 → a1 = b1 → a2 = b2 → a3 = b3 → a4 = b4 → a5 = b5 → a6 = b6 → a7 = b7 → a8 = b8 →
      outV a0 a1 a2 a3 a4 a5 a6 a7 a8 j = outV b0 b1 b2 b3 b4 b5 b6 b7 b8 j := by
    rintro _ _ _ _ _ _ _ _ _ _ _ _ _ _ _ _ _ _ rfl rfl rfl rfl rfl rfl rfl rfl rfl; rfl
  exact key _ _ _ _ _ _ _ _ _ _ _ _ _ _ _ _ _ _ ((Memref.IsWhole.read_unread _ _).trans (blk0 m c)) (scale_load _ _ ((Memref.IsWhole.read_unread _ _).trans (blk1 m c)) _) ((Memref.IsWhole.read_unread _ _).trans (blk2 m c)) (scale_load _ _ ((Memref.IsWhole.read_unread _ _).trans (blk3 m c)) _) ((Memref.IsWhole.read_unread _ _).trans (blk4 m c)) ((Memref.IsWhole.read_unread _ _).trans (blk5 m c)) (scale_load _ _ ((Memref.IsWhole.read_unread _ _).trans (blk6 m c)) _) ((Memref.IsWhole.read_unread _ _).trans (blk7 m c)) (scale_load _ _ ((Memref.IsWhole.read_unread _ _).trans (blk8 m c)) _)

end Cert.ReferenceIdeal.Ref

end
-- ==== Proof.Value.RefHost.lean ====
/-
  The host operations around the reference's call: what its operands hold at its entry, and what the six results hold at the end, over the
  extended reals.
-/
module

public import proofs.«01_k».proof.Proof.Value.RefArrays
public import Idealize.ShloMosaic.Lib.Claim

@[expose] public section

set_option maxRecDepth 16384
set_option maxHeartbeats 800000

noncomputable section

namespace Cert.ReferenceIdeal.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- An argument at the launch. -/
abbrev A (b : Ref sig .tc) : Buf (Elt Ideal) ((c.tc : Thread nD τ).loc b) := m ((c.tc : Thread nD τ).loc b)

/-- The rotation's 64 frequencies, as the host computes them. -/
def freq64 : FVec Ideal S64 .f32 :=
  Host.divf (broadcastInDim S64 ![] bcast_S_S64 (constant (F := Ideal) S_ .f32 0x3F800000#32))
    (Host.powf (broadcastInDim S64 ![] bcast_S_S64 (constant (F := Ideal) S_ .f32 0x49742400#32))
      (Host.divf (addf (broadcastInDim S64 ![] bcast_S_S64 (constant (F := Ideal) S_ .f32 0x00000000#32))
        (mulf (broadcastInDim S64 ![] bcast_S_S64 (constant (F := Ideal) S_ .f32 0x40000000#32)) (sitofp .f32 (iotaInDim S64 32 0))))
        (broadcastInDim S64 ![] bcast_S_S64 (constant (F := Ideal) S_ .f32 0x43000000#32))))

/-- The angles. -/
def theta (pos : Vec Ideal S2x8192 .i32) : FVec Ideal S2x8192x64 .f32 :=
  mulf (F := Ideal) (broadcastInDim S2x8192x64 ![0, 1, 2] bcast_S2x8192x1_S2x8192x64_0_1_2 (broadcastInDim S2x8192x1 ![0, 1] bcast_S2x8192_S2x8192x1_0_1 (sitofp (F := Ideal) .f32 pos)))
    (broadcastInDim S2x8192x64 ![0, 1, 2] bcast_S1x1x64_S2x8192x64_0_1_2 (broadcastInDim S1x1x64 ![2] bcast_S64_S1x1x64_2 freq64))

theorem v_v17 : V m c main_v17 = shapeCast S16384x18432 (A m c main_arg0 : Vec Ideal S2x8192x18432 .fp8e4m3) shapeCasts_S2x8192x18432_S16384x18432 := by
  show StableHlo.after hostOps0 _ _ = _
  after_results; rfl
theorem v_v18 : V m c main_v18 = shapeCast S16384x7168 (A m c main_arg4 : Vec Ideal S2x8192x7168 .bf16) shapeCasts_S2x8192x7168_S16384x7168 := by
  show StableHlo.after hostOps0 _ _ = _
  after_results; rfl
theorem v_v19 : V m c main_v19 = shapeCast S1x7168 (A m c main_arg5 : FVec Ideal S7168 .f32) shapeCasts_S7168_S1x7168 := by
  show StableHlo.after hostOps0 _ _ = _
  after_results; rfl
theorem v_v21 : V m c main_v21 = shapeCast S16384x64 (Host.cos (theta (A m c main_arg9))) shapeCasts_S2x8192x64_S16384x64 := by
  show StableHlo.after hostOps0 _ _ = _
  unfold theta freq64
  after_results; rfl
theorem v_v23 : V m c main_v23 = shapeCast S16384x64 (Host.sin (theta (A m c main_arg9))) shapeCasts_S2x8192x64_S16384x64 := by
  show StableHlo.after hostOps0 _ _ = _
  unfold theta freq64
  after_results; rfl

/-- The contents at the end. -/
abbrev Wend (b : Ref sig .tc) : Buf (Elt Ideal) ((c.tc : Thread nD τ).loc b) := Pipeline.afterTail₀ cfgs (dats m) 0 (V0 m) [hostOps1] c b

abbrev Wexit : Valuation τ sig (Elt Ideal) := Pipeline.withArrays (cfgs 0).spec c (V0 m c) fun w => (dats m 0 c).arrAt w (cfgs 0).N

theorem x_v24_0 : Wexit m c (Proc.devRef .tc main_v24_0) = (dats m 0 c).arrAt 11 cfg0.N := Pipeline.withArrays_arr _ launch0.win.arr_inj c _ _ 11
theorem x_v24_1 : Wexit m c (Proc.devRef .tc main_v24_1) = (dats m 0 c).arrAt 12 cfg0.N := Pipeline.withArrays_arr _ launch0.win.arr_inj c _ _ 12
theorem x_v24_2 : Wexit m c (Proc.devRef .tc main_v24_2) = (dats m 0 c).arrAt 13 cfg0.N := Pipeline.withArrays_arr _ launch0.win.arr_inj c _ _ 13
theorem x_v24_3 : Wexit m c (Proc.devRef .tc main_v24_3) = (dats m 0 c).arrAt 14 cfg0.N := Pipeline.withArrays_arr _ launch0.win.arr_inj c _ _ 14
theorem x_v24_4 : Wexit m c (Proc.devRef .tc main_v24_4) = (dats m 0 c).arrAt 15 cfg0.N := Pipeline.withArrays_arr _ launch0.win.arr_inj c _ _ 15
theorem x_v24_5 : Wexit m c (Proc.devRef .tc main_v24_5) = (dats m 0 c).arrAt 16 cfg0.N := Pipeline.withArrays_arr _ launch0.win.arr_inj c _ _ 16

theorem end_v25 : Wend m c main_v25 = shapeCast S2x8192x7168 ((dats m 0 c).arrAt 11 cfg0.N : Vec Ideal S16384x7168 .bf16) shapeCasts_S16384x7168_S2x8192x7168 := by
  rw [← x_v24_0]; show StableHlo.after hostOps1 (Wexit m c) _ = _; after_results; rfl
theorem end_v26 : Wend m c main_v26 = shapeCast S2x8192x56x128 ((dats m 0 c).arrAt 12 cfg0.N : Vec Ideal S16384x56x128 .bf16) shapeCasts_S16384x56x128_S2x8192x56x128 := by
  rw [← x_v24_1]; show StableHlo.after hostOps1 (Wexit m c) _ = _; after_results; rfl
theorem end_v27 : Wend m c main_v27 = shapeCast S2x8192x8x128 ((dats m 0 c).arrAt 13 cfg0.N : Vec Ideal S16384x8x128 .bf16) shapeCasts_S16384x8x128_S2x8192x8x128 := by
  rw [← x_v24_2]; show StableHlo.after hostOps1 (Wexit m c) _ = _; after_results; rfl
theorem end_v28 : Wend m c main_v28 = shapeCast S2x8192x8x128 ((dats m 0 c).arrAt 14 cfg0.N : Vec Ideal S16384x8x128 .bf16) shapeCasts_S16384x8x128_S2x8192x8x128 := by
  rw [← x_v24_3]; show StableHlo.after hostOps1 (Wexit m c) _ = _; after_results; rfl
theorem end_v29 : Wend m c main_v29 = shapeCast S2x8192x7168 ((dats m 0 c).arrAt 15 cfg0.N : Vec Ideal S16384x7168 .fp8e4m3) shapeCasts_S16384x7168_S2x8192x7168 := by
  rw [← x_v24_4]; show StableHlo.after hostOps1 (Wexit m c) _ = _; after_results; rfl
theorem end_v30 : Wend m c main_v30 = shapeCast S2x8192 ((dats m 0 c).arrAt 16 cfg0.N : Vec Ideal S16384 .f32) shapeCasts_S16384_S2x8192 := by
  rw [← x_v24_5]; show StableHlo.after hostOps1 (Wexit m c) _ = _; after_results; rfl

end Cert.ReferenceIdeal.Ref

end
-- ==== Proof.Value.Agree.lean ====
/-
  The kernel's arrays and the reference's, as functions of the same operands over the extended reals: where one is written in the kernel's
  order and the other in the reference's, they agree.
-/
module

public import proofs.«01_k».proof.Proof.Value.Host
public import proofs.«01_k».proof.Proof.Value.RefHost

@[expose] public section

set_option maxRecDepth 16384
set_option maxHeartbeats 800000

noncomputable section

namespace Cert.Agree

open Cert.KernelIdeal
open Idealize.ShloMosaic Idealize.ShloMosaic.TcCoe Idealize.SL.Sem

/-! ## The residual sum and the normalized row -/

theorem resid_eq (a b : FVec Ideal S1 .f32) (h : FVec Ideal S16384x18432 .fp8e4m3) (w : FVec Ideal S18432x7168 .fp8e4m3) (res : FVec Ideal S16384x7168 .bf16)
    (P : Fin 16384) (d : Fin 7168) :
    Down.resid (mulf (F := Ideal) (s := S1) (φ := .f32) a b) h w res P d = Cert.ReferenceIdeal.Ref.resid h w (a (ix1 0)) (b (ix1 0)) res P d := rfl

/-- A sum over the columns, taken lane by lane. -/
theorem sum_lanes (f : Fin 7168 → EReal) :
    ∑ l : Fin 128, ∑ s : Fin 14, ∑ g : Fin 4, f ⟨s.val * 512 + 128 * g.val + l.val, by omega⟩ = ∑ e : Fin 7168, f e := by
  have e1 : ∑ e : Fin 7168, f e = ∑ s : Fin 14, ∑ u : Fin 512, f ⟨s.val * 512 + u.val, by omega⟩ :=
    Fin.sum_divmod_congr (N := 7168) (A := 14) (S := 512) (f := fun s u => f ⟨s.val * 512 + u.val, by omega⟩)
      fun t ha hs => congrArg f (Fin.ext (by dsimp only; omega))
  have e2 : ∀ s : Fin 14, ∑ u : Fin 512, f ⟨s.val * 512 + u.val, by omega⟩ = ∑ g : Fin 4, ∑ l : Fin 128, f ⟨s.val * 512 + 128 * g.val + l.val, by omega⟩ := fun s =>
    Fin.sum_divmod_congr (N := 512) (A := 4) (S := 128) (f := fun g l => f ⟨s.val * 512 + 128 * g.val + l.val, by omega⟩)
      fun t ha hs => congrArg f (Fin.ext (by dsimp only; omega))
  rw [e1, Finset.sum_comm]
  refine Finset.sum_congr rfl fun s _ => ?_
  rw [e2, Finset.sum_comm]

/-- The mean over 7168 columns: multiplying by the named reciprocal is dividing. -/
theorem mean_eq (x : EReal) :
    x * Named.named (F := Ideal) (φ := .f32) κ "inv_d_model" 0x39124925#32 = Ideal.div x (Ideal.ofBits .f32 0x45E00000#32) := by
  have e : Ideal.ofBits .f32 0x45E00000#32 = ((7168 : ℝ) : EReal) := by
    simp [Ideal.ofBits, Ideal.ieee, -EReal.coe_mul]; norm_num
  rw [e, Ideal.div_coe (by norm_num)]
  exact congrArg (x * ·) (IdealRules.named_const.ideal_named_scalar κ "inv_d_model" (φ := .f32) 0x39124925#32 ((1 / 7168 : ℝ) : EReal) rfl)

theorem X_eq (r : FVec Ideal S16384x7168 .bf16) (q : FVec Ideal S16384x128 .f32) (g : FVec Ideal S1x7168 .f32) (f : Fin 16384 → Fin 7168 → EReal)
    (hr : ∀ P d, r (ix2 P d) = f P d)
    (hq : ∀ P l, q (ix2 P l) = ∑ s : Fin 14, ∑ t : Fin 4, f P ⟨s.val * 512 + 128 * t.val + l.val, by omega⟩ * f P ⟨s.val * 512 + 128 * t.val + l.val, by omega⟩)
    (P : Fin 16384) (d : Fin 7168) : Qkv.X r q g P d = Cert.ReferenceIdeal.Ref.normed f g P d := by
  unfold Qkv.X Cert.ReferenceIdeal.Ref.normed Qkv.rstdOf
  rw [← mean_eq, ← sum_lanes (fun e => f P e * f P e), hr]
  simp only [hq]

/-! ## The projection -/

theorem acc_eq (s a b : EReal) (hs : s = a * b) (C : Fin 16384 → Fin 7168 → EReal) (x : FVec Ideal S16384x7168 .fp8e4m3) (hx : ∀ P d, x (ix2 P d) = C P d)
    (w : FVec Ideal S7168x9216 .fp8e4m3) (P : Fin 16384) (N : Fin 9216) :
    Qkv.accG s C w P N = Cert.ReferenceIdeal.Ref.proj x w a b P N := by
  unfold Qkv.accG Cert.ReferenceIdeal.Ref.proj
  rw [hs]; simp only [hx]

/-! ## The rotation -/

theorem freq_eq : Cert.ReferenceIdeal.Ref.freq64 = Run.freq64 := rfl

/-- The angle of a row at one of the 64 frequencies. -/
def angle (pos : Vec Ideal S2x8192 .i32) (P : Fin 16384) (l : Fin 64) : EReal :=
  (((pos (ix2 ⟨P.val / 8192, by omega⟩ ⟨P.val % 8192, by omega⟩) : BitVec 32).toInt : ℝ) : EReal) * Run.freq64 (ix1 l)

theorem cos_eq (pos : Vec Ideal S2x8192 .i32) (P : Fin 16384) (l : Fin 64) :
    shapeCast (α := Ideal .f32) Cert.ReferenceIdeal.S16384x64 (Host.cos (Cert.ReferenceIdeal.Ref.theta pos)) Cert.ReferenceIdeal.Gen.facts.shapeCasts_S2x8192x64_S16384x64 (ix2 P l)
      = Ideal.cos (angle pos P l) := by
  unfold angle
  rw [← freq_eq]
  pointwise [Cert.ReferenceIdeal.Ref.theta]
  rfl

theorem sin_eq (pos : Vec Ideal S2x8192 .i32) (P : Fin 16384) (l : Fin 64) :
    shapeCast (α := Ideal .f32) Cert.ReferenceIdeal.S16384x64 (Host.sin (Cert.ReferenceIdeal.Ref.theta pos)) Cert.ReferenceIdeal.Gen.facts.shapeCasts_S2x8192x64_S16384x64 (ix2 P l)
      = Ideal.sin (angle pos P l) := by
  unfold angle
  rw [← freq_eq]
  pointwise [Cert.ReferenceIdeal.Ref.theta]
  rfl

/-- The kernel's operands of the rotation. -/
theorem angle_eq (pos : Vec Ideal S2x8192 .i32) (P : Fin 16384) (i : Fin 128) (l : Fin 64) (hi : i.val % 64 = l.val) :
    Qkv.angleG (shapeCast S32x4x128 pos Cert.KernelIdeal.Gen.facts.shapeCasts_S2x8192_S32x4x128)
      (shapeCast S1x128 (concatenate S128 0 [⟨S64, Run.freq64⟩, ⟨S64, Run.freq64⟩] Cert.KernelIdeal.Gen.facts.concatenates_S64_S64_S128_d0) Cert.KernelIdeal.Gen.facts.shapeCasts_S128_S1x128) P i
      = angle pos P l := by
  have e1 : shapeCast S32x4x128 pos Cert.KernelIdeal.Gen.facts.shapeCasts_S2x8192_S32x4x128
      (ix3 ⟨P.val / 512, by omega⟩ ⟨P.val % 512 / 128, by omega⟩ ⟨P.val % 512 % 128, by omega⟩) = pos (ix2 ⟨P.val / 8192, by omega⟩ ⟨P.val % 8192, by omega⟩) := by
    pointwise
    exact congrArg pos (congrArg₂ ix2 (Fin.ext (by dsimp only; omega)) (Fin.ext (by dsimp only; omega)))
  have e2 : shapeCast S1x128 (concatenate S128 0 [⟨S64, Run.freq64⟩, ⟨S64, Run.freq64⟩] Cert.KernelIdeal.Gen.facts.concatenates_S64_S64_S128_d0)
      Cert.KernelIdeal.Gen.facts.shapeCasts_S128_S1x128 (ix2 0 i) = Run.freq64 (ix1 l) := by
    by_cases h : i.val < 64
    · rw [show i = (⟨l.val, by omega⟩ : Fin 128) from Fin.ext (by dsimp only; omega)]
      pointwise
    · rw [show i = (⟨64 + l.val, by omega⟩ : Fin 128) from Fin.ext (by dsimp only; omega)]
      pointwise
  unfold Qkv.angleG angle
  exact congrArg₂ (fun (a : BitVec 32) (b : EReal) => ((a.toInt : ℝ) : EReal) * b) e1 e2

theorem sign_left (l : Fin 64) : shapeCast S1x128 Run.sign128 Cert.KernelIdeal.Gen.facts.shapeCasts_S128_S1x128 (ix2 0 ⟨l.val, by omega⟩) = -1 := by
  unfold Run.sign128
  pointwise

theorem sign_right (l : Fin 64) : shapeCast S1x128 Run.sign128 Cert.KernelIdeal.Gen.facts.shapeCasts_S128_S1x128 (ix2 0 ⟨64 + l.val, by omega⟩) = 1 := by
  unfold Run.sign128
  pointwise

/-- The two scales the second call takes. -/
theorem scale0 (a b : FVec Ideal S1 .f32) : concatenate S2 0 [⟨S1, a⟩, ⟨S1, b⟩] Cert.KernelIdeal.Gen.facts.concatenates_S1_S1_S2_d0 (ix1 0) = a (ix1 0) := by
  pointwise
theorem scale1 (a b : FVec Ideal S1 .f32) : concatenate S2 0 [⟨S1, a⟩, ⟨S1, b⟩] Cert.KernelIdeal.Gen.facts.concatenates_S1_S1_S2_d0 (ix1 1) = b (ix1 0) := by
  pointwise

theorem rope_left (s : EReal) (C : Fin 16384 → Fin 7168 → EReal) (w : FVec Ideal S7168x9216 .fp8e4m3) (p : Vec Ideal S32x4x128 .i32) (f g : FVec Ideal S1x128 .f32)
    (P : Fin 16384) (N M : Fin 9216) (l : Fin 64) (θ : EReal) (hl : N.val % 128 = l.val) (hM : M.val = N.val + 64)
    (hθ : Qkv.angleG p f P ⟨l.val, by omega⟩ = θ) (hg : g (ix2 0 ⟨l.val, by omega⟩) = -1) :
    Qkv.ropeG s C w p f g P N = Qkv.accG s C w P N * Ideal.cos θ - Qkv.accG s C w P M * Ideal.sin θ := by
  have e1 : Qkv.lane N = ⟨l.val, by omega⟩ := Fin.ext hl
  have e2 : Qkv.swapG N = M := Fin.ext (by show N.val / 128 * 128 + (N.val % 128 + 64) % 128 = M.val; omega)
  unfold Qkv.ropeG
  rw [e1, e2, hθ, hg, mul_neg, mul_one, mul_neg, sub_eq_add_neg]

theorem rope_right (s : EReal) (C : Fin 16384 → Fin 7168 → EReal) (w : FVec Ideal S7168x9216 .fp8e4m3) (p : Vec Ideal S32x4x128 .i32) (f g : FVec Ideal S1x128 .f32)
    (P : Fin 16384) (N M : Fin 9216) (l : Fin 64) (θ : EReal) (hl : N.val % 128 = 64 + l.val) (hM : N.val = M.val + 64)
    (hθ : Qkv.angleG p f P ⟨64 + l.val, by omega⟩ = θ) (hg : g (ix2 0 ⟨64 + l.val, by omega⟩) = 1) :
    Qkv.ropeG s C w p f g P N = Qkv.accG s C w P N * Ideal.cos θ + Qkv.accG s C w P M * Ideal.sin θ := by
  have e1 : Qkv.lane N = ⟨64 + l.val, by omega⟩ := Fin.ext hl
  have e2 : Qkv.swapG N = M := Fin.ext (by show N.val / 128 * 128 + (N.val % 128 + 64) % 128 = M.val; omega)
  unfold Qkv.ropeG
  rw [e1, e2, hθ, hg, mul_one]

end Cert.Agree

end
-- ==== Proof.Value.Equal.lean ====
/-
  The six results: from memories that agree on the arguments, the kernel's and the reference's are equal over the extended reals.
-/
module

public import proofs.«01_k».proof.Proof.Value.Agree

@[expose] public section

set_option maxRecDepth 16384
set_option maxHeartbeats 800000

noncomputable section

namespace Cert.Agree

open Cert.KernelIdeal
open Idealize.ShloMosaic Idealize.ShloMosaic.TcCoe Idealize.SL.Sem

variable (m : (ℓ : Loc nD τ sig) → Buf (Elt Ideal) ℓ) (m' : (ℓ : Loc Cert.ReferenceIdeal.nD Cert.ReferenceIdeal.τ Cert.ReferenceIdeal.sig) → Buf (Elt Ideal) ℓ)
  (c : Dev nD)

/-- The two memories hold the same arguments. -/
structure SameArgs : Prop where
  a0 : Cert.ReferenceIdeal.Ref.A m' c Cert.ReferenceIdeal.main_arg0 = Run.A m c main_arg0
  a1 : Cert.ReferenceIdeal.Ref.A m' c Cert.ReferenceIdeal.main_arg1 = Run.A m c main_arg1
  a2 : Cert.ReferenceIdeal.Ref.A m' c Cert.ReferenceIdeal.main_arg2 = Run.A m c main_arg2
  a3 : Cert.ReferenceIdeal.Ref.A m' c Cert.ReferenceIdeal.main_arg3 = Run.A m c main_arg3
  a4 : Cert.ReferenceIdeal.Ref.A m' c Cert.ReferenceIdeal.main_arg4 = Run.A m c main_arg4
  a5 : Cert.ReferenceIdeal.Ref.A m' c Cert.ReferenceIdeal.main_arg5 = Run.A m c main_arg5
  a6 : Cert.ReferenceIdeal.Ref.A m' c Cert.ReferenceIdeal.main_arg6 = Run.A m c main_arg6
  a7 : Cert.ReferenceIdeal.Ref.A m' c Cert.ReferenceIdeal.main_arg7 = Run.A m c main_arg7
  a8 : Cert.ReferenceIdeal.Ref.A m' c Cert.ReferenceIdeal.main_arg8 = Run.A m c main_arg8
  a9 : Cert.ReferenceIdeal.Ref.A m' c Cert.ReferenceIdeal.main_arg9 = Run.A m c main_arg9

/-! ## The operands, from the kernel's arguments -/

/-- The hidden rows. -/
abbrev H : Vec Ideal S16384x18432 .fp8e4m3 := shapeCast S16384x18432 (Run.A m c main_arg0 : Vec Ideal S2x8192x18432 .fp8e4m3) Cert.KernelIdeal.Gen.facts.shapeCasts_S2x8192x18432_S16384x18432
/-- The incoming residual rows. -/
abbrev Res : Vec Ideal S16384x7168 .bf16 := shapeCast S16384x7168 (Run.A m c main_arg4 : Vec Ideal S2x8192x7168 .bf16) Cert.KernelIdeal.Gen.facts.shapeCasts_S2x8192x7168_S16384x7168
/-- The norm's weights. -/
abbrev G : Vec Ideal S1x7168 .f32 := shapeCast S1x7168 (Run.A m c main_arg5 : FVec Ideal S7168 .f32) Cert.KernelIdeal.Gen.facts.shapeCasts_S7168_S1x7168
/-- The projection down. -/
abbrev WD : Vec Ideal S18432x7168 .fp8e4m3 := Run.A m c main_arg2
/-- The projection to queries, keys and values. -/
abbrev WQ : Vec Ideal S7168x9216 .fp8e4m3 := Run.A m c main_arg7
/-- The positions. -/
abbrev Pos : Vec Ideal S2x8192 .i32 := Run.A m c main_arg9
/-- The scales. -/
abbrev s1 : EReal := (Run.A m c main_arg1 : FVec Ideal S1 .f32) (ix1 0)
abbrev s3 : EReal := (Run.A m c main_arg3 : FVec Ideal S1 .f32) (ix1 0)
abbrev s6 : EReal := (Run.A m c main_arg6 : FVec Ideal S1 .f32) (ix1 0)
abbrev s8 : EReal := (Run.A m c main_arg8 : FVec Ideal S1 .f32) (ix1 0)
/-- The cosines and sines of the rows' angles. -/
abbrev Co : Vec Ideal Cert.ReferenceIdeal.S16384x64 .f32 :=
  shapeCast (α := Ideal .f32) Cert.ReferenceIdeal.S16384x64 (Host.cos (Cert.ReferenceIdeal.Ref.theta (Pos m c))) Cert.ReferenceIdeal.Gen.facts.shapeCasts_S2x8192x64_S16384x64
abbrev Si : Vec Ideal Cert.ReferenceIdeal.S16384x64 .f32 :=
  shapeCast (α := Ideal .f32) Cert.ReferenceIdeal.S16384x64 (Host.sin (Cert.ReferenceIdeal.Ref.theta (Pos m c))) Cert.ReferenceIdeal.Gen.facts.shapeCasts_S2x8192x64_S16384x64

/-! ## The reference's operands -/

variable {m m' c}

theorem ref_v17 (e : SameArgs m m' c) : (Cert.ReferenceIdeal.Gen.V m' c Cert.ReferenceIdeal.main_v17 : Vec Ideal S16384x18432 .fp8e4m3) = H m c := (Cert.ReferenceIdeal.Ref.v_v17 m' c).trans (congrArg (fun x : Vec Ideal S2x8192x18432 .fp8e4m3 => shapeCast S16384x18432 x Cert.KernelIdeal.Gen.facts.shapeCasts_S2x8192x18432_S16384x18432) e.a0)
theorem ref_v18 (e : SameArgs m m' c) : (Cert.ReferenceIdeal.Gen.V m' c Cert.ReferenceIdeal.main_v18 : Vec Ideal S16384x7168 .bf16) = Res m c := (Cert.ReferenceIdeal.Ref.v_v18 m' c).trans (congrArg (fun x : Vec Ideal S2x8192x7168 .bf16 => shapeCast S16384x7168 x Cert.KernelIdeal.Gen.facts.shapeCasts_S2x8192x7168_S16384x7168) e.a4)
theorem ref_v19 (e : SameArgs m m' c) : (Cert.ReferenceIdeal.Gen.V m' c Cert.ReferenceIdeal.main_v19 : Vec Ideal S1x7168 .f32) = G m c := (Cert.ReferenceIdeal.Ref.v_v19 m' c).trans (congrArg (fun x : FVec Ideal S7168 .f32 => shapeCast S1x7168 x Cert.KernelIdeal.Gen.facts.shapeCasts_S7168_S1x7168) e.a5)
theorem ref_v21 (e : SameArgs m m' c) : (Cert.ReferenceIdeal.Gen.V m' c Cert.ReferenceIdeal.main_v21 : Vec Ideal Cert.ReferenceIdeal.S16384x64 .f32) = Co m c := (Cert.ReferenceIdeal.Ref.v_v21 m' c).trans (congrArg (fun x : Vec Ideal S2x8192 .i32 => shapeCast (α := Ideal .f32) Cert.ReferenceIdeal.S16384x64 (Host.cos (Cert.ReferenceIdeal.Ref.theta x)) Cert.ReferenceIdeal.Gen.facts.shapeCasts_S2x8192x64_S16384x64) e.a9)
theorem ref_v23 (e : SameArgs m m' c) : (Cert.ReferenceIdeal.Gen.V m' c Cert.ReferenceIdeal.main_v23 : Vec Ideal Cert.ReferenceIdeal.S16384x64 .f32) = Si m c := (Cert.ReferenceIdeal.Ref.v_v23 m' c).trans (congrArg (fun x : Vec Ideal S2x8192 .i32 => shapeCast (α := Ideal .f32) Cert.ReferenceIdeal.S16384x64 (Host.sin (Cert.ReferenceIdeal.Ref.theta x)) Cert.ReferenceIdeal.Gen.facts.shapeCasts_S2x8192x64_S16384x64) e.a9)
theorem ref_arg2 (e : SameArgs m m' c) : (Cert.ReferenceIdeal.Gen.V m' c Cert.ReferenceIdeal.main_arg2 : Vec Ideal S18432x7168 .fp8e4m3) = WD m c := (Cert.ReferenceIdeal.Gen.V_main_arg2 m' c).trans e.a2
theorem ref_arg7 (e : SameArgs m m' c) : (Cert.ReferenceIdeal.Gen.V m' c Cert.ReferenceIdeal.main_arg7 : Vec Ideal S7168x9216 .fp8e4m3) = WQ m c := (Cert.ReferenceIdeal.Gen.V_main_arg7 m' c).trans e.a7
theorem ref_s1 (e : SameArgs m m' c) : (Cert.ReferenceIdeal.Gen.V m' c Cert.ReferenceIdeal.main_arg1 : FVec Ideal S1 .f32) (ix1 0) = s1 m c :=
  congrFun (f := (Cert.ReferenceIdeal.Gen.V m' c Cert.ReferenceIdeal.main_arg1 : FVec Ideal S1 .f32)) (g := (Run.A m c main_arg1 : FVec Ideal S1 .f32)) ((Cert.ReferenceIdeal.Gen.V_main_arg1 m' c).trans e.a1) (ix1 0)
theorem ref_s3 (e : SameArgs m m' c) : (Cert.ReferenceIdeal.Gen.V m' c Cert.ReferenceIdeal.main_arg3 : FVec Ideal S1 .f32) (ix1 0) = s3 m c :=
  congrFun (f := (Cert.ReferenceIdeal.Gen.V m' c Cert.ReferenceIdeal.main_arg3 : FVec Ideal S1 .f32)) (g := (Run.A m c main_arg3 : FVec Ideal S1 .f32)) ((Cert.ReferenceIdeal.Gen.V_main_arg3 m' c).trans e.a3) (ix1 0)
theorem ref_s6 (e : SameArgs m m' c) : (Cert.ReferenceIdeal.Gen.V m' c Cert.ReferenceIdeal.main_arg6 : FVec Ideal S1 .f32) (ix1 0) = s6 m c :=
  congrFun (f := (Cert.ReferenceIdeal.Gen.V m' c Cert.ReferenceIdeal.main_arg6 : FVec Ideal S1 .f32)) (g := (Run.A m c main_arg6 : FVec Ideal S1 .f32)) ((Cert.ReferenceIdeal.Gen.V_main_arg6 m' c).trans e.a6) (ix1 0)
theorem ref_s8 (e : SameArgs m m' c) : (Cert.ReferenceIdeal.Gen.V m' c Cert.ReferenceIdeal.main_arg8 : FVec Ideal S1 .f32) (ix1 0) = s8 m c :=
  congrFun (f := (Cert.ReferenceIdeal.Gen.V m' c Cert.ReferenceIdeal.main_arg8 : FVec Ideal S1 .f32)) (g := (Run.A m c main_arg8 : FVec Ideal S1 .f32)) ((Cert.ReferenceIdeal.Gen.V_main_arg8 m' c).trans e.a8) (ix1 0)

/-! ## The reference's results, before the last reshape -/

theorem ref_arr11 (e : SameArgs m m' c) : (Cert.ReferenceIdeal.Gen.dats m' 0 c).arrAt 11 Cert.ReferenceIdeal.cfg0.N
    = Cert.ReferenceIdeal.Ref.outResid (H m c) (s1 m c) (WD m c) (s3 m c) (Res m c) := by
  rw [Cert.ReferenceIdeal.Ref.final11, ref_v17 e, ref_s1 e, ref_arg2 e, ref_s3 e, ref_v18 e]
theorem ref_arr12 (e : SameArgs m m' c) : (Cert.ReferenceIdeal.Gen.dats m' 0 c).arrAt 12 Cert.ReferenceIdeal.cfg0.N
    = Cert.ReferenceIdeal.Ref.outQ (H m c) (s1 m c) (WD m c) (s3 m c) (Res m c) (G m c) (s6 m c) (WQ m c) (s8 m c) (Co m c) (Si m c) := by
  rw [Cert.ReferenceIdeal.Ref.final12, ref_v17 e, ref_s1 e, ref_arg2 e, ref_s3 e, ref_v18 e, ref_v19 e, ref_s6 e, ref_arg7 e, ref_s8 e, ref_v21 e, ref_v23 e]
theorem ref_arr13 (e : SameArgs m m' c) : (Cert.ReferenceIdeal.Gen.dats m' 0 c).arrAt 13 Cert.ReferenceIdeal.cfg0.N
    = Cert.ReferenceIdeal.Ref.outK (H m c) (s1 m c) (WD m c) (s3 m c) (Res m c) (G m c) (s6 m c) (WQ m c) (s8 m c) (Co m c) (Si m c) := by
  rw [Cert.ReferenceIdeal.Ref.final13, ref_v17 e, ref_s1 e, ref_arg2 e, ref_s3 e, ref_v18 e, ref_v19 e, ref_s6 e, ref_arg7 e, ref_s8 e, ref_v21 e, ref_v23 e]
theorem ref_arr14 (e : SameArgs m m' c) : (Cert.ReferenceIdeal.Gen.dats m' 0 c).arrAt 14 Cert.ReferenceIdeal.cfg0.N
    = Cert.ReferenceIdeal.Ref.outV (H m c) (s1 m c) (WD m c) (s3 m c) (Res m c) (G m c) (s6 m c) (WQ m c) (s8 m c) := by
  rw [Cert.ReferenceIdeal.Ref.final14, ref_v17 e, ref_s1 e, ref_arg2 e, ref_s3 e, ref_v18 e, ref_v19 e, ref_s6 e, ref_arg7 e, ref_s8 e]
theorem ref_arr15 (e : SameArgs m m' c) : (Cert.ReferenceIdeal.Gen.dats m' 0 c).arrAt 15 Cert.ReferenceIdeal.cfg0.N
    = Cert.ReferenceIdeal.Ref.outCodes (H m c) (s1 m c) (WD m c) (s3 m c) (Res m c) (G m c) (s6 m c) := by
  rw [Cert.ReferenceIdeal.Ref.final15, ref_v17 e, ref_s1 e, ref_arg2 e, ref_s3 e, ref_v18 e, ref_v19 e, ref_s6 e]
theorem ref_arr16 (e : SameArgs m m' c) : (Cert.ReferenceIdeal.Gen.dats m' 0 c).arrAt 16 Cert.ReferenceIdeal.cfg0.N
    = Cert.ReferenceIdeal.Ref.outMax (H m c) (s1 m c) (WD m c) (s3 m c) (Res m c) (G m c) := by
  rw [Cert.ReferenceIdeal.Ref.final16, ref_v17 e, ref_s1 e, ref_arg2 e, ref_s3 e, ref_v18 e, ref_v19 e]

/-! ## The kernel's arrays -/

variable (m c)

/-- The residual sum, at a row and a column. -/
abbrev R (P : Fin 16384) (d : Fin 7168) : EReal := Cert.ReferenceIdeal.Ref.resid (H m c) (WD m c) (s1 m c) (s3 m c) (Res m c) P d

theorem ker_resid : (Down.dat (Run.W1 m) c).arrAt 4 cfg0.N = fun y : S16384x7168.Idx => R m c (y 0) (y 1) := by
  rw [Down.final4]
  funext y
  show Down.resid (Run.W1 m c (Proc.devRef .tc main_v0)) (Run.W1 m c (Proc.devRef .tc main_v1)) (Run.W1 m c (Proc.devRef .tc main_arg2)) (Run.W1 m c (Proc.devRef .tc main_v2)) (y 0) (y 1) = _
  rw [Run.w1_v0, Run.w1_v1, Run.w1_v2, Run.w1_arg2]
  exact resid_eq _ _ _ _ _ _ _

/-- The sum of the squares of a row's columns at a lane. -/
abbrev Q (P : Fin 16384) (l : Fin 128) : EReal := ∑ s : Fin 14, ∑ t : Fin 4,
  R m c P ⟨s.val * 512 + 128 * t.val + l.val, by omega⟩ * R m c P ⟨s.val * 512 + 128 * t.val + l.val, by omega⟩

theorem ker_ssq : (Down.dat (Run.W1 m) c).arrAt 5 cfg0.N = fun y : S16384x128.Idx => Q m c (y 0) (y 1) := by
  rw [Down.final5]
  funext y
  show Down.ssq (Run.W1 m c (Proc.devRef .tc main_v0)) (Run.W1 m c (Proc.devRef .tc main_v1)) (Run.W1 m c (Proc.devRef .tc main_arg2)) (Run.W1 m c (Proc.devRef .tc main_v2)) (y 0) (y 1) = _
  rw [Run.w1_v0, Run.w1_v1, Run.w1_v2, Run.w1_arg2]
  rfl

theorem ker_X (P : Fin 16384) (d : Fin 7168) :
    Qkv.X (Qkv.V (Run.W3 m) c main_v3_0) (Qkv.V (Run.W3 m) c main_v3_1) (Qkv.V (Run.W3 m) c main_v24) P d = Cert.ReferenceIdeal.Ref.normed (R m c) (G m c) P d := by
  have e0 : (Qkv.V (Run.W3 m) c main_v3_0 : FVec Ideal S16384x7168 .bf16) = fun y : S16384x7168.Idx => R m c (y 0) (y 1) :=
    (Run.w3_v3_0 m c).trans ((Run.w2_v3_0 m c).trans (ker_resid m c))
  have e1 : (Qkv.V (Run.W3 m) c main_v3_1 : FVec Ideal S16384x128 .f32) = fun y : S16384x128.Idx => Q m c (y 0) (y 1) :=
    (Run.w3_v3_1 m c).trans ((Run.w2_v3_1 m c).trans (ker_ssq m c))
  have e2 : (Qkv.V (Run.W3 m) c main_v24 : FVec Ideal S1x7168 .f32) = G m c := Run.w3_v24 m c
  rw [e2]
  exact X_eq _ _ _ (R m c) (fun P d => congrFun e0 (ix2 P d)) (fun P l => congrFun e1 (ix2 P l)) P d

theorem ker_s0 : (Qkv.V (Run.W3 m) c main_v5 : FVec Ideal S2 .f32) (ix1 0) = s6 m c :=
  (congrFun (Run.w3_v5 m c) (ix1 0)).trans (scale0 _ _)
theorem ker_s1 : (Qkv.V (Run.W3 m) c main_v5 : FVec Ideal S2 .f32) (ix1 1) = s6 m c * s8 m c :=
  (congrFun (Run.w3_v5 m c) (ix1 1)).trans (scale1 _ _)

/-- The codes. -/
abbrev Codes : FVec Ideal S16384x7168 .fp8e4m3 := Cert.ReferenceIdeal.Ref.outCodes (H m c) (s1 m c) (WD m c) (s3 m c) (Res m c) (G m c) (s6 m c)

theorem ker_codes (P : Fin 16384) (d : Fin 7168) : Qkv.CG (Run.W3 m) c P d = Codes m c (ix2 P d) := by
  refine Eq.trans ?_ (Cert.ReferenceIdeal.Ref.pay5_eq _ _ _ _ _ _ _ P d).symm
  unfold Qkv.CG
  rw [ker_X, ker_s0]
  rfl

theorem ker_max (P : Fin 16384) : Qkv.MG (Run.W3 m) c P
    = Cert.ReferenceIdeal.Ref.outMax (H m c) (s1 m c) (WD m c) (s3 m c) (Res m c) (G m c) (ix1 P) := by
  refine Eq.trans ?_ (Cert.ReferenceIdeal.Ref.pay6_eq _ P).symm
  exact congrArg (fun x : Fin 7168 → EReal => Finset.univ.fold max (Ideal.ofBits .f32 0xFF800000#32) (fun d => FloatOps.absf (F := Ideal) (φ := .f32) (x d)))
    (funext fun d => (ker_X m c P d).trans (Cert.ReferenceIdeal.Ref.pay4_eq _ _ _ _ _ _ P d).symm)

/-- The projection, at a row and a column. -/
abbrev Prj (P : Fin 16384) (N : Fin 9216) : EReal := Cert.ReferenceIdeal.Ref.proj (Codes m c) (WQ m c) (s6 m c) (s8 m c) P N

theorem ker_acc (P : Fin 16384) (N : Fin 9216) :
    Qkv.accG ((Qkv.V (Run.W3 m) c main_v5 : FVec Ideal S2 .f32) (ix1 1)) (Qkv.CG (Run.W3 m) c) (Qkv.V (Run.W3 m) c main_arg7) P N = Prj m c P N := by
  have e : (Qkv.V (Run.W3 m) c main_arg7 : FVec Ideal S7168x9216 .fp8e4m3) = WQ m c := Run.w3_arg7 m c
  rw [e]
  exact acc_eq _ _ _ (ker_s1 m c) _ _ (fun P d => (ker_codes m c P d).symm) _ P N

theorem ker_angle (P : Fin 16384) (i : Fin 128) (l : Fin 64) (hi : i.val % 64 = l.val) :
    Qkv.angleG (Qkv.V (Run.W3 m) c main_v25) (Qkv.V (Run.W3 m) c main_v18) P i = angle (Pos m c) P l := by
  have e1 : (Qkv.V (Run.W3 m) c main_v25 : Vec Ideal S32x4x128 .i32) = _ := Run.w3_v25 m c
  have e2 : (Qkv.V (Run.W3 m) c main_v18 : FVec Ideal S1x128 .f32) = _ := Run.w3_v18 m c
  rw [e1, e2]
  exact angle_eq _ P i l hi

theorem co_at (P : Fin 16384) (l : Fin 64) : Co m c (ix2 P l) = Ideal.cos (angle (Pos m c) P l) := cos_eq _ P l
theorem si_at (P : Fin 16384) (l : Fin 64) : Si m c (ix2 P l) = Ideal.sin (angle (Pos m c) P l) := sin_eq _ P l

theorem ker_rope_left (P : Fin 16384) (N M : Fin 9216) (l : Fin 64) (hl : N.val % 128 = l.val) (hM : M.val = N.val + 64) :
    Qkv.RG (Run.W3 m) c P N = Prj m c P N * Co m c (ix2 P l) - Prj m c P M * Si m c (ix2 P l) := by
  unfold Qkv.RG
  rw [rope_left _ _ _ _ _ _ P N M l (angle (Pos m c) P l) hl hM (ker_angle m c P _ l (by dsimp only; omega)) ((congrFun (Run.w3_v23 m c) _).trans (sign_left l)),
    ker_acc, ker_acc, co_at, si_at]

theorem ker_rope_right (P : Fin 16384) (N M : Fin 9216) (l : Fin 64) (hl : N.val % 128 = 64 + l.val) (hM : N.val = M.val + 64) :
    Qkv.RG (Run.W3 m) c P N = Prj m c P N * Co m c (ix2 P l) + Prj m c P M * Si m c (ix2 P l) := by
  unfold Qkv.RG
  rw [rope_right _ _ _ _ _ _ P N M l (angle (Pos m c) P l) hl hM (ker_angle m c P _ l (by dsimp only; omega)) ((congrFun (Run.w3_v23 m c) _).trans (sign_right l)),
    ker_acc, ker_acc, co_at, si_at]

/-- The queries: head `h`, lane `l` of a row. -/
theorem ker_q (P : Fin 16384) (h : Fin 56) (l : Fin 128) : Qkv.RG (Run.W3 m) c P (Qkv.colQ ⟨h.val * 128 + l.val, by omega⟩)
    = (Cert.ReferenceIdeal.Ref.outQ (H m c) (s1 m c) (WD m c) (s3 m c) (Res m c) (G m c) (s6 m c) (WQ m c) (s8 m c) (Co m c) (Si m c) : FVec Ideal Cert.ReferenceIdeal.S16384x56x128 .bf16) (ix3 P h l) := by
  by_cases hl : l.val < 64
  · obtain ⟨k, rfl⟩ : ∃ k : Fin 64, l = ⟨k.val, Nat.lt_of_lt_of_le k.isLt (by decide)⟩ := ⟨⟨l.val, hl⟩, rfl⟩
    exact (ker_rope_left m c P _ ⟨h.val * 128 + (64 + k.val), by omega⟩ k (by show (h.val * 128 + k.val) % 128 = k.val; omega) (by show h.val * 128 + (64 + k.val) = h.val * 128 + k.val + 64; omega)).trans
      (Cert.ReferenceIdeal.Ref.payQ_left _ _ _ _ _ _ P h k).symm
  · obtain ⟨k, rfl⟩ : ∃ k : Fin 64, l = ⟨64 + k.val, Nat.add_lt_add_left k.isLt 64⟩ := ⟨⟨l.val - 64, by omega⟩, Fin.ext (by dsimp only; omega)⟩
    exact (ker_rope_right m c P _ ⟨h.val * 128 + k.val, by omega⟩ k (by show (h.val * 128 + (64 + k.val)) % 128 = 64 + k.val; omega) (by show h.val * 128 + (64 + k.val) = h.val * 128 + k.val + 64; omega)).trans
      (Cert.ReferenceIdeal.Ref.payQ_right _ _ _ _ _ _ P h k).symm

/-- The keys: head `h`, lane `l` of a row. -/
theorem ker_k (P : Fin 16384) (h : Fin 8) (l : Fin 128) : Qkv.RG (Run.W3 m) c P (Qkv.colK ⟨h.val * 128 + l.val, by omega⟩)
    = (Cert.ReferenceIdeal.Ref.outK (H m c) (s1 m c) (WD m c) (s3 m c) (Res m c) (G m c) (s6 m c) (WQ m c) (s8 m c) (Co m c) (Si m c) : FVec Ideal Cert.ReferenceIdeal.S16384x8x128 .bf16) (ix3 P h l) := by
  by_cases hl : l.val < 64
  · obtain ⟨k, rfl⟩ : ∃ k : Fin 64, l = ⟨k.val, Nat.lt_of_lt_of_le k.isLt (by decide)⟩ := ⟨⟨l.val, hl⟩, rfl⟩
    exact (ker_rope_left m c P _ ⟨7168 + (h.val * 128 + (64 + k.val)), by omega⟩ k (by show (7168 + (h.val * 128 + k.val)) % 128 = k.val; omega) (by show 7168 + (h.val * 128 + (64 + k.val)) = 7168 + (h.val * 128 + k.val) + 64; omega)).trans
      (Cert.ReferenceIdeal.Ref.payK_left _ _ _ _ _ _ P h k).symm
  · obtain ⟨k, rfl⟩ : ∃ k : Fin 64, l = ⟨64 + k.val, Nat.add_lt_add_left k.isLt 64⟩ := ⟨⟨l.val - 64, by omega⟩, Fin.ext (by dsimp only; omega)⟩
    exact (ker_rope_right m c P _ ⟨7168 + (h.val * 128 + k.val), by omega⟩ k (by show (7168 + (h.val * 128 + (64 + k.val))) % 128 = 64 + k.val; omega) (by show 7168 + (h.val * 128 + (64 + k.val)) = 7168 + (h.val * 128 + k.val) + 64; omega)).trans
      (Cert.ReferenceIdeal.Ref.payK_right _ _ _ _ _ _ P h k).symm

/-- The values: head `h`, lane `l` of a row. -/
theorem ker_v (P : Fin 16384) (h : Fin 8) (l : Fin 128) : Qkv.AG (Run.W3 m) c P (Qkv.colV ⟨h.val * 128 + l.val, by omega⟩)
    = (Cert.ReferenceIdeal.Ref.outV (H m c) (s1 m c) (WD m c) (s3 m c) (Res m c) (G m c) (s6 m c) (WQ m c) (s8 m c) : FVec Ideal Cert.ReferenceIdeal.S16384x8x128 .bf16) (ix3 P h l) :=
  (ker_acc m c P _).trans (Cert.ReferenceIdeal.Ref.pay2_eq _ _ _ _ P h l).symm

/-! ## The last reshapes -/

theorem heads56 (f : Vec Ideal S16384x7168 .bf16) (g : Vec Ideal Cert.ReferenceIdeal.S16384x56x128 .bf16)
    (hfg : ∀ (P : Fin 16384) (h : Fin 56) (l : Fin 128), f (ix2 P ⟨h.val * 128 + l.val, by omega⟩) = g (ix3 P h l)) :
    shapeCast Cert.ReferenceIdeal.S2x8192x56x128 g Cert.ReferenceIdeal.Gen.facts.shapeCasts_S16384x56x128_S2x8192x56x128
      = shapeCast S2x8192x56x128 f Cert.KernelIdeal.Gen.facts.shapeCasts_S16384x7168_S2x8192x56x128 := by
  have key : ∀ (b : Fin 2) (s : Fin 8192) (h : Fin 56) (l : Fin 128),
      shapeCast Cert.ReferenceIdeal.S2x8192x56x128 g Cert.ReferenceIdeal.Gen.facts.shapeCasts_S16384x56x128_S2x8192x56x128 (ix4 b s h l)
        = shapeCast S2x8192x56x128 f Cert.KernelIdeal.Gen.facts.shapeCasts_S16384x7168_S2x8192x56x128 (ix4 b s h l) := by
    intro b s h l
    have e1 : shapeCast Cert.ReferenceIdeal.S2x8192x56x128 g Cert.ReferenceIdeal.Gen.facts.shapeCasts_S16384x56x128_S2x8192x56x128 (ix4 b s h l)
        = g (ix3 ⟨b.val * 8192 + s.val, by omega⟩ h l) := by
      pointwise
    have e2 : shapeCast S2x8192x56x128 f Cert.KernelIdeal.Gen.facts.shapeCasts_S16384x7168_S2x8192x56x128 (ix4 b s h l)
        = f (ix2 ⟨b.val * 8192 + s.val, by omega⟩ ⟨h.val * 128 + l.val, by omega⟩) := by
      pointwise
    rw [e1, e2]
    exact (hfg _ h l).symm
  funext y
  rw [eq_ix4 y]
  exact key (y 0) (y 1) (y 2) (y 3)

theorem heads8 (f : Vec Ideal S16384x1024 .bf16) (g : Vec Ideal Cert.ReferenceIdeal.S16384x8x128 .bf16)
    (hfg : ∀ (P : Fin 16384) (h : Fin 8) (l : Fin 128), f (ix2 P ⟨h.val * 128 + l.val, by omega⟩) = g (ix3 P h l)) :
    shapeCast Cert.ReferenceIdeal.S2x8192x8x128 g Cert.ReferenceIdeal.Gen.facts.shapeCasts_S16384x8x128_S2x8192x8x128
      = shapeCast S2x8192x8x128 f Cert.KernelIdeal.Gen.facts.shapeCasts_S16384x1024_S2x8192x8x128 := by
  have key : ∀ (b : Fin 2) (s : Fin 8192) (h : Fin 8) (l : Fin 128),
      shapeCast Cert.ReferenceIdeal.S2x8192x8x128 g Cert.ReferenceIdeal.Gen.facts.shapeCasts_S16384x8x128_S2x8192x8x128 (ix4 b s h l)
        = shapeCast S2x8192x8x128 f Cert.KernelIdeal.Gen.facts.shapeCasts_S16384x1024_S2x8192x8x128 (ix4 b s h l) := by
    intro b s h l
    have e1 : shapeCast Cert.ReferenceIdeal.S2x8192x8x128 g Cert.ReferenceIdeal.Gen.facts.shapeCasts_S16384x8x128_S2x8192x8x128 (ix4 b s h l)
        = g (ix3 ⟨b.val * 8192 + s.val, by omega⟩ h l) := by
      pointwise
    have e2 : shapeCast S2x8192x8x128 f Cert.KernelIdeal.Gen.facts.shapeCasts_S16384x1024_S2x8192x8x128 (ix4 b s h l)
        = f (ix2 ⟨b.val * 8192 + s.val, by omega⟩ ⟨h.val * 128 + l.val, by omega⟩) := by
      pointwise
    rw [e1, e2]
    exact (hfg _ h l).symm
  funext y
  rw [eq_ix4 y]
  exact key (y 0) (y 1) (y 2) (y 3)

theorem rows (f : Vec Ideal S32x4x128 .f32) (g : Vec Ideal Cert.ReferenceIdeal.S16384 .f32)
    (hfg : ∀ (a : Fin 32) (b : Fin 4) (l : Fin 128), f (ix3 a b l) = g (ix1 ⟨a.val * 512 + (128 * b.val + l.val), by omega⟩)) :
    shapeCast Cert.ReferenceIdeal.S2x8192 g Cert.ReferenceIdeal.Gen.facts.shapeCasts_S16384_S2x8192
      = shapeCast S2x8192 f Cert.KernelIdeal.Gen.facts.shapeCasts_S32x4x128_S2x8192 := by
  have key : ∀ (b : Fin 2) (s : Fin 8192),
      shapeCast Cert.ReferenceIdeal.S2x8192 g Cert.ReferenceIdeal.Gen.facts.shapeCasts_S16384_S2x8192 (ix2 b s)
        = shapeCast S2x8192 f Cert.KernelIdeal.Gen.facts.shapeCasts_S32x4x128_S2x8192 (ix2 b s) := by
    intro b s
    have e1 : shapeCast Cert.ReferenceIdeal.S2x8192 g Cert.ReferenceIdeal.Gen.facts.shapeCasts_S16384_S2x8192 (ix2 b s) = g (ix1 ⟨b.val * 8192 + s.val, by omega⟩) := by
      pointwise
    have e2 : shapeCast S2x8192 f Cert.KernelIdeal.Gen.facts.shapeCasts_S32x4x128_S2x8192 (ix2 b s)
        = f (ix3 ⟨b.val * 16 + s.val / 512, by omega⟩ ⟨s.val / 128 % 4, by omega⟩ ⟨s.val % 128, by omega⟩) := by
      pointwise
    rw [e1, e2, hfg]
    exact congrArg g (congrArg ix1 (Fin.ext (by dsimp only; omega)))
  funext y
  rw [eq_ix2 y]
  exact key (y 0) (y 1)

/-! ## The six results -/

variable {m c}

theorem end0 (e : SameArgs m m' c) : Cert.ReferenceIdeal.Ref.Wend m' c Cert.ReferenceIdeal.main_v25 = Run.Wend m c (Proc.devRef .tc main_v27) := by
  refine (Cert.ReferenceIdeal.Ref.end_v25 m' c).trans (Eq.trans ?_ (Run.end_v27 m c).symm)
  refine congrArg (fun x : Vec Ideal S16384x7168 .bf16 => shapeCast S2x8192x7168 x Cert.KernelIdeal.Gen.facts.shapeCasts_S16384x7168_S2x8192x7168) ?_
  rw [ref_arr11 e, ker_resid]
  funext y
  rw [eq_ix2 y]
  exact Cert.ReferenceIdeal.Ref.pay3_eq _ _ _ _ _ _ _

theorem end1 (e : SameArgs m m' c) : Cert.ReferenceIdeal.Ref.Wend m' c Cert.ReferenceIdeal.main_v26 = Run.Wend m c (Proc.devRef .tc main_v28) := by
  refine (Cert.ReferenceIdeal.Ref.end_v26 m' c).trans (Eq.trans ?_ (Run.end_v28 m c).symm)
  rw [ref_arr12 e, Qkv.final8]
  exact heads56 _ _ fun P h l => ker_q m c P h l

theorem end2 (e : SameArgs m m' c) : Cert.ReferenceIdeal.Ref.Wend m' c Cert.ReferenceIdeal.main_v27 = Run.Wend m c (Proc.devRef .tc main_v29) := by
  refine (Cert.ReferenceIdeal.Ref.end_v27 m' c).trans (Eq.trans ?_ (Run.end_v29 m c).symm)
  rw [ref_arr13 e, Qkv.final9]
  exact heads8 _ _ fun P h l => ker_k m c P h l

theorem end3 (e : SameArgs m m' c) : Cert.ReferenceIdeal.Ref.Wend m' c Cert.ReferenceIdeal.main_v28 = Run.Wend m c (Proc.devRef .tc main_v30) := by
  refine (Cert.ReferenceIdeal.Ref.end_v28 m' c).trans (Eq.trans ?_ (Run.end_v30 m c).symm)
  rw [ref_arr14 e, Qkv.final10]
  exact heads8 _ _ fun P h l => ker_v m c P h l

theorem end4 (e : SameArgs m m' c) : Cert.ReferenceIdeal.Ref.Wend m' c Cert.ReferenceIdeal.main_v29 = Run.Wend m c (Proc.devRef .tc main_v31) := by
  refine (Cert.ReferenceIdeal.Ref.end_v29 m' c).trans (Eq.trans ?_ (Run.end_v31 m c).symm)
  refine congrArg (fun x : Vec Ideal S16384x7168 .fp8e4m3 => shapeCast S2x8192x7168 x Cert.KernelIdeal.Gen.facts.shapeCasts_S16384x7168_S2x8192x7168) ?_
  rw [ref_arr15 e, Qkv.final11]
  funext y
  rw [eq_ix2 y]
  exact (ker_codes m c (y 0) (y 1)).symm

theorem end5 (e : SameArgs m m' c) : Cert.ReferenceIdeal.Ref.Wend m' c Cert.ReferenceIdeal.main_v30 = Run.Wend m c (Proc.devRef .tc main_v32) := by
  refine (Cert.ReferenceIdeal.Ref.end_v30 m' c).trans (Eq.trans ?_ (Run.end_v32 m c).symm)
  rw [ref_arr16 e, Qkv.final12]
  exact rows _ _ fun a b l => ker_max m c _

end Cert.Agree

end
-- ==== Proof.Value.Runs.lean ====
/-
  The two runs, with their six results, over the extended reals; and the algebraic claim from them.
-/
module

public import proofs.«01_k».proof.Defs
public import proofs.«01_k».proof.Proof.Gen.ReferenceIdeal.Frame
public import proofs.«01_k».proof.Proof.Value.Equal

@[expose] public section

set_option maxRecDepth 16384
set_option maxHeartbeats 800000

noncomputable section

namespace Cert.KernelIdeal.Run

open Cert.KernelIdeal Cert.KernelIdeal.Gen
open Idealize.ShloMosaic Idealize.ShloMosaic.TcCoe Idealize.SL.Sem

/-- The run: what the six results end holding, the arguments unchanged. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27) = Wend m c (Proc.devRef .tc main_v27)
      ∧ r.2.mem ((c.tc : Thread nD τ).loc main_v28) = Wend m c (Proc.devRef .tc main_v28)
      ∧ r.2.mem ((c.tc : Thread nD τ).loc main_v29) = Wend m c (Proc.devRef .tc main_v29)
      ∧ r.2.mem ((c.tc : Thread nD τ).loc main_v30) = Wend m c (Proc.devRef .tc main_v30)
      ∧ r.2.mem ((c.tc : Thread nD τ).loc main_v31) = Wend m c (Proc.devRef .tc main_v31)
      ∧ r.2.mem ((c.tc : Thread nD τ).loc main_v32) = Wend m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    h.1 c _ (mem_ucRefs main_v27 rfl),
    h.1 c _ (mem_ucRefs main_v28 rfl),
    h.1 c _ (mem_ucRefs main_v29 rfl),
    h.1 c _ (mem_ucRefs main_v30 rfl),
    h.1 c _ (mem_ucRefs main_v31 rfl),
    h.1 c _ (mem_ucRefs main_v32 rfl),
    (h.1 c _ (mem_ucRefs main_arg0 rfl)).trans (end_arg0 m c),
    (h.1 c _ (mem_ucRefs main_arg1 rfl)).trans (end_arg1 m c),
    (h.1 c _ (mem_ucRefs main_arg2 rfl)).trans (end_arg2 m c),
    (h.1 c _ (mem_ucRefs main_arg3 rfl)).trans (end_arg3 m c),
    (h.1 c _ (mem_ucRefs main_arg4 rfl)).trans (end_arg4 m c),
    (h.1 c _ (mem_ucRefs main_arg5 rfl)).trans (end_arg5 m c),
    (h.1 c _ (mem_ucRefs main_arg6 rfl)).trans (end_arg6 m c),
    (h.1 c _ (mem_ucRefs main_arg7 rfl)).trans (end_arg7 m c),
    (h.1 c _ (mem_ucRefs main_arg8 rfl)).trans (end_arg8 m c),
    (h.1 c _ (mem_ucRefs main_arg9 rfl)).trans (end_arg9 m c)⟩) (run_main qkv m ρ)

end Cert.KernelIdeal.Run

namespace Cert.ReferenceIdeal.Ref

open Cert.ReferenceIdeal Cert.ReferenceIdeal.Gen
open Idealize.ShloMosaic Idealize.ShloMosaic.TcCoe Idealize.SL.Sem

/-- The run: what the six results end holding, the arguments unchanged. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = Wend m c main_v25
      ∧ r.2.mem ((c.tc : Thread nD τ).loc main_v26) = Wend m c main_v26
      ∧ r.2.mem ((c.tc : Thread nD τ).loc main_v27) = Wend m c main_v27
      ∧ r.2.mem ((c.tc : Thread nD τ).loc main_v28) = Wend m c main_v28
      ∧ r.2.mem ((c.tc : Thread nD τ).loc main_v29) = Wend m c main_v29
      ∧ r.2.mem ((c.tc : Thread nD τ).loc main_v30) = Wend m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
    (h.1 c).2 main_v25 (by decide),
    (h.1 c).2 main_v26 (by decide),
    (h.1 c).2 main_v27 (by decide),
    (h.1 c).2 main_v28 (by decide),
    (h.1 c).2 main_v29 (by decide),
    (h.1 c).2 main_v30 (by decide),
    h.2.1 c⟩) (θ_run_and (run_main m ρ) (frame m ρ))

end Cert.ReferenceIdeal.Ref

namespace Cert.Agree

open Idealize.ShloMosaic Idealize.ShloMosaic.TcCoe Idealize.SL.Sem

/-- The kernel and the reference end with the same six results. -/
theorem algebraic : Cert.algebraic_KernelIdeal_ReferenceIdeal (hKernelIdeal := Cert.KernelIdeal.Gen.facts) (hReferenceIdeal := Cert.ReferenceIdeal.Gen.facts) := by
  intro m g m' g' _ hagree
  have e : ∀ c, SameArgs m m' c := fun c => by
    obtain ⟨h0, h1, h2, h3, h4, h5, h6, h7, h8, h9⟩ := hagree c
    exact ⟨h0, h1, h2, h3, h4, h5, h6, h7, h8, h9⟩
  refine ⟨fun c => Cert.KernelIdeal.Run.Wend m c (Proc.devRef .tc Cert.KernelIdeal.main_v27), fun c => Cert.KernelIdeal.Run.Wend m c (Proc.devRef .tc Cert.KernelIdeal.main_v28), fun c => Cert.KernelIdeal.Run.Wend m c (Proc.devRef .tc Cert.KernelIdeal.main_v29), fun c => Cert.KernelIdeal.Run.Wend m c (Proc.devRef .tc Cert.KernelIdeal.main_v30), fun c => Cert.KernelIdeal.Run.Wend m c (Proc.devRef .tc Cert.KernelIdeal.main_v31), fun c => Cert.KernelIdeal.Run.Wend m c (Proc.devRef .tc Cert.KernelIdeal.main_v32),
    Cert.KernelIdeal.Run.ends m g, θ_run_mono (Cert.ReferenceIdeal.Ref.ends m' g') fun r h c => ?_⟩
  obtain ⟨r0, r1, r2, r3, r4, r5, ra⟩ := h c
  exact ⟨r0.trans (end0 (e c)), r1.trans (end1 (e c)), r2.trans (end2 (e c)), r3.trans (end3 (e c)), r4.trans (end4 (e c)), r5.trans (end5 (e c)), ra⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Bits.Frame
public import proofs.«01_k».proof.Proof.Ideal.Frame
public import proofs.«01_k».proof.Proof.Value.Runs
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, fun m ρ _ => Cert.ReferenceIdeal.Gen.frame m ρ,
  IdealRules.named_const.statement Cert.KernelIdeal.κ "inv_d_model" .f32 0x39124925#32 ((1 / 7168 : ℝ) : EReal) rfl,
  Cert.Agree.algebraic⟩

end Cert.Proof

end
